-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModReferenceIdeal (m : (ℓ : Loc Cert.NormModReferenceIdeal.nD Cert.NormModReferenceIdeal.τ Cert.NormModReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_open_gates [hPre_open_gates : Cert.Pre_open_gates.Facts] (m : (ℓ : Loc Cert.GateIdeal.nD Cert.GateIdeal.τ Cert.GateIdeal.sig) → Buf (Elt Ideal) ℓ) : Prop :=
  ∀ c : Dev Cert.GateIdeal.nD,
    (Cert.Pre_open_gates.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).1 = (fun _ => 1#1)
    ∧ (Cert.Pre_open_gates.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_open_gates [hPre_open_gates : Cert.Pre_open_gates.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_open_gates.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5))).1 = (fun _ => 1#1)
    ∧ (Cert.Pre_open_gates.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5))).2 = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ r.2.sem = fun _ => 0)

def quiescent_NormModReferenceIdeal [hNormModReferenceIdeal : Cert.NormModReferenceIdeal.Facts] : Prop :=
  ∀ (m : (ℓ : Loc Cert.NormModReferenceIdeal.nD Cert.NormModReferenceIdeal.τ Cert.NormModReferenceIdeal.sig) → Buf (Elt Ideal) ℓ) (g : Dev Cert.NormModReferenceIdeal.nD → PrngReg), Pre_NormModReferenceIdeal m →
    θ_run (Cert.NormModReferenceIdeal.defs (F := Ideal)) (onTc (τ := Cert.NormModReferenceIdeal.τ) (Cert.NormModReferenceIdeal.main (F := Ideal))) ⟨m, fun _ => 0, g⟩ (fun r => (∀ c : Dev Cert.NormModReferenceIdeal.nD,
      r.2.mem ((c.tc : Thread Cert.NormModReferenceIdeal.nD Cert.NormModReferenceIdeal.τ).loc Cert.NormModReferenceIdeal.main_arg0) = m ((c.tc : Thread Cert.NormModReferenceIdeal.nD Cert.NormModReferenceIdeal.τ).loc Cert.NormModReferenceIdeal.main_arg0)
      ∧ r.2.mem ((c.tc : Thread Cert.NormModReferenceIdeal.nD Cert.NormModReferenceIdeal.τ).loc Cert.NormModReferenceIdeal.main_arg1) = m ((c.tc : Thread Cert.NormModReferenceIdeal.nD Cert.NormModReferenceIdeal.τ).loc Cert.NormModReferenceIdeal.main_arg1)
      ∧ r.2.mem ((c.tc : Thread Cert.NormModReferenceIdeal.nD Cert.NormModReferenceIdeal.τ).loc Cert.NormModReferenceIdeal.main_arg2) = m ((c.tc : Thread Cert.NormModReferenceIdeal.nD Cert.NormModReferenceIdeal.τ).loc Cert.NormModReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_open_gates [hGateIdeal : Cert.GateIdeal.Facts] [hPre_open_gates : Cert.Pre_open_gates.Facts] : Prop :=
  ∀ (m : (ℓ : Loc Cert.GateIdeal.nD Cert.GateIdeal.τ Cert.GateIdeal.sig) → Buf (Elt Ideal) ℓ) (g : Dev Cert.GateIdeal.nD → PrngReg), Pre_GateIdeal_open_gates m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_GateReferenceIdeal_pre_open_gates [hGateReferenceIdeal : Cert.GateReferenceIdeal.Facts] [hPre_open_gates : Cert.Pre_open_gates.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_open_gates m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v10) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_NormMod_NormModIdeal : Prop :=
  True

def algebraic_NormModIdeal_NormModReferenceIdeal [hNormModIdeal : Cert.NormModIdeal.Facts] [hNormModReferenceIdeal : Cert.NormModReferenceIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModReferenceIdeal.nD Cert.NormModReferenceIdeal.τ Cert.NormModReferenceIdeal.sig) → Buf (Elt Ideal) ℓ) (g' : Dev Cert.NormModReferenceIdeal.nD → PrngReg), Pre_NormModIdeal m →
    (∀ c : Dev Cert.NormModIdeal.nD,
      m' ((c.tc : Thread Cert.NormModReferenceIdeal.nD Cert.NormModReferenceIdeal.τ).loc Cert.NormModReferenceIdeal.main_arg0) = m ((c.tc : Thread Cert.NormModIdeal.nD Cert.NormModIdeal.τ).loc Cert.NormModIdeal.main_arg0)
      ∧ m' ((c.tc : Thread Cert.NormModReferenceIdeal.nD Cert.NormModReferenceIdeal.τ).loc Cert.NormModReferenceIdeal.main_arg1) = m ((c.tc : Thread Cert.NormModIdeal.nD Cert.NormModIdeal.τ).loc Cert.NormModIdeal.main_arg1)
      ∧ m' ((c.tc : Thread Cert.NormModReferenceIdeal.nD Cert.NormModReferenceIdeal.τ).loc Cert.NormModReferenceIdeal.main_arg2) = m ((c.tc : Thread Cert.NormModIdeal.nD Cert.NormModIdeal.τ).loc Cert.NormModIdeal.main_arg2)) →
    ∃ (v0 : (c : Dev Cert.NormModIdeal.nD) → Buf (Elt Ideal) ((c.tc : Thread Cert.NormModIdeal.nD Cert.NormModIdeal.τ).loc Cert.NormModIdeal.main_v6)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v6) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ θ_run (Cert.NormModReferenceIdeal.defs (F := Ideal)) (onTc (τ := Cert.NormModReferenceIdeal.τ) (Cert.NormModReferenceIdeal.main (F := Ideal))) ⟨m', fun _ => 0, g'⟩ (fun r => ∀ c : Dev Cert.NormModReferenceIdeal.nD,
          r.2.mem ((c.tc : Thread Cert.NormModReferenceIdeal.nD Cert.NormModReferenceIdeal.τ).loc Cert.NormModReferenceIdeal.main_v26) = v0 c
          ∧ r.2.mem ((c.tc : Thread Cert.NormModReferenceIdeal.nD Cert.NormModReferenceIdeal.τ).loc Cert.NormModReferenceIdeal.main_arg0) = m' ((c.tc : Thread Cert.NormModReferenceIdeal.nD Cert.NormModReferenceIdeal.τ).loc Cert.NormModReferenceIdeal.main_arg0)
          ∧ r.2.mem ((c.tc : Thread Cert.NormModReferenceIdeal.nD Cert.NormModReferenceIdeal.τ).loc Cert.NormModReferenceIdeal.main_arg1) = m' ((c.tc : Thread Cert.NormModReferenceIdeal.nD Cert.NormModReferenceIdeal.τ).loc Cert.NormModReferenceIdeal.main_arg1)
          ∧ r.2.mem ((c.tc : Thread Cert.NormModReferenceIdeal.nD Cert.NormModReferenceIdeal.τ).loc Cert.NormModReferenceIdeal.main_arg2) = m' ((c.tc : Thread Cert.NormModReferenceIdeal.nD Cert.NormModReferenceIdeal.τ).loc Cert.NormModReferenceIdeal.main_arg2))

def preserves_Gate_GateIdeal : Prop :=
  True

def algebraic_GateIdeal_GateReferenceIdeal_pre_open_gates [hGateIdeal : Cert.GateIdeal.Facts] [hGateReferenceIdeal : Cert.GateReferenceIdeal.Facts] [hPre_open_gates : Cert.Pre_open_gates.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_open_gates m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v11)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v46) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v6)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v6) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hNormMod : Cert.NormMod.Facts) (hNormModIdeal : Cert.NormModIdeal.Facts) (hNormModReferenceIdeal : Cert.NormModReferenceIdeal.Facts) (hGate : Cert.Gate.Facts) (hGateIdeal : Cert.GateIdeal.Facts) (hGateReferenceIdeal : Cert.GateReferenceIdeal.Facts) (hFinalNorm : Cert.FinalNorm.Facts) (hFinalNormIdeal : Cert.FinalNormIdeal.Facts) (hFinalNormReferenceIdeal : Cert.FinalNormReferenceIdeal.Facts) (hPre_finite : Cert.Pre_finite.Facts) (hPre_open_gates : Cert.Pre_open_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_NormMod (hNormMod := hNormMod)
    ∧ quiescent_NormModIdeal (hNormModIdeal := hNormModIdeal)
    ∧ quiescent_NormModReferenceIdeal (hNormModReferenceIdeal := hNormModReferenceIdeal)
    ∧ quiescent_Gate (hGate := hGate)
    ∧ quiescent_GateIdeal (hGateIdeal := hGateIdeal)
    ∧ quiescent_GateIdeal_pre_open_gates (hGateIdeal := hGateIdeal) (hPre_open_gates := hPre_open_gates)
    ∧ quiescent_GateReferenceIdeal (hGateReferenceIdeal := hGateReferenceIdeal)
    ∧ quiescent_GateReferenceIdeal_pre_open_gates (hGateReferenceIdeal := hGateReferenceIdeal) (hPre_open_gates := hPre_open_gates)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_NormMod_NormModIdeal
    ∧ algebraic_NormModIdeal_NormModReferenceIdeal (hNormModIdeal := hNormModIdeal) (hNormModReferenceIdeal := hNormModReferenceIdeal)
    ∧ preserves_Gate_GateIdeal
    ∧ algebraic_GateIdeal_GateReferenceIdeal_pre_open_gates (hGateIdeal := hGateIdeal) (hGateReferenceIdeal := hGateReferenceIdeal) (hPre_open_gates := hPre_open_gates)
    ∧ preserves_FinalNorm_FinalNormIdeal
    ∧ algebraic_FinalNormIdeal_FinalNormReferenceIdeal (hFinalNormIdeal := hFinalNormIdeal) (hFinalNormReferenceIdeal := hFinalNormReferenceIdeal)
-- ==== Pre_finite.lean ====
abbrev S2x4096x12288 : Shape := ⟨3, ![2, 4096, 12288]⟩
abbrev S4x16x15x31 : Shape := ⟨4, ![4, 16, 15, 31]⟩
abbrev S2x4096x4096 : Shape := ⟨3, ![2, 4096, 4096]⟩
abbrev S_ : Shape := ⟨0, ![]⟩
abbrev S1x16x15x31 : Shape := ⟨4, ![1, 16, 15, 31]⟩

class Facts : Prop where
  slices_S2x4096x12288_S2x4096x4096_0_0_4096 : S2x4096x12288.Slices ![0, 0, 4096] S2x4096x4096
  bitsLt_bf16_f32 : FTy.bits .bf16 < FTy.bits .f32
  bcast_S_S2x4096x4096 : S_.BroadcastsInDim S2x4096x4096 (![] : Fin 0 → Fin S2x4096x4096.rank)
  slices_S4x16x15x31_S1x16x15x31_0_0_0_0 : S4x16x15x31.Slices ![0, 0, 0, 0] S1x16x15x31
  bcast_S_S1x16x15x31 : S_.BroadcastsInDim S1x16x15x31 (![] : Fin 0 → Fin S1x16x15x31.rank)

variable [Facts]

def fn {F : FTy → Type} [FloatOps F] (main_arg0 : FVec F S2x4096x12288 .bf16) (main_arg1 : FVec F S4x16x15x31 .f32) : IVec S2x4096x4096 1 × IVec S1x16x15x31 1 :=
  let main_v0 : FVec F S2x4096x4096 .bf16 := (extractStridedSlice S2x4096x4096 ![0, 0, 4096] · slices_S2x4096x12288_S2x4096x4096_0_0_4096) main_arg0
  let main_v1 : FVec F S2x4096x4096 .f32 := (extf .f32 · bitsLt_bf16_f32) main_v0
  let main_v2 : FVec F S2x4096x4096 .f32 := Host.absf main_v1
  let main_cst : FVec F S_ .f32 := constant S_ .f32 0x7F800000#32
  let main_v3 : FVec F S2x4096x4096 .f32 := broadcastInDim S2x4096x4096 ![] bcast_S_S2x4096x4096 main_cst
  let main_v4 : IVec S2x4096x4096 1 := cmpf .olt main_v2 main_v3
  let main_v5 : FVec F S1x16x15x31 .f32 := (extractStridedSlice S1x16x15x31 ![0, 0, 0, 0] · slices_S4x16x15x31_S1x16x15x31_0_0_0_0) main_arg1
  let main_v6 : FVec F S1x16x15x31 .f32 := Host.absf main_v5
  let main_cst_0 : FVec F S_ .f32 := constant S_ .f32 0x7F800000#32
  let main_v7 : FVec F S1x16x15x31 .f32 := broadcastInDim S1x16x15x31 ![] bcast_S_S1x16x15x31 main_cst_0
  let main_v8 : IVec S1x16x15x31 1 := cmpf .olt main_v6 main_v7
  (main_v4, main_v8)
-- ==== Pre_open_gates.lean ====
abbrev S2x4096x2048 : Shape := ⟨3, ![2, 4096, 2048]⟩
abbrev S2x4096x12288 : Shape := ⟨3, ![2, 4096, 12288]⟩
abbrev S4x2048 : Shape := ⟨2, ![4, 2048]⟩
abbrev S_ : Shape := ⟨0, ![]⟩

class Facts : Prop where
  slices_S2x4096x12288_S2x4096x2048_0_0_2048 : S2x4096x12288.Slices ![0, 0, 2048] S2x4096x2048
  bitsLt_bf16_f32 : FTy.bits .bf16 < FTy.bits .f32
  bcast_S_S2x4096x2048 : S_.BroadcastsInDim S2x4096x2048 (![] : Fin 0 → Fin S2x4096x2048.rank)
  slices_S2x4096x12288_S2x4096x2048_0_0_10240 : S2x4096x12288.Slices ![0, 0, 10240] S2x4096x2048

variable [Facts]

def fn {F : FTy → Type} [FloatOps F] (main_arg0 : FVec F S2x4096x2048 .bf16) (main_arg1 : FVec F S2x4096x2048 .bf16) (main_arg2 : FVec F S2x4096x12288 .bf16) (main_arg3 : FVec F S2x4096x2048 .bf16) (main_arg4 : FVec F S4x2048 .f32) (main_arg5 : FVec F S4x2048 .f32) : IVec S2x4096x2048 1 × IVec S2x4096x2048 1 :=
  let main_v0 : FVec F S2x4096x2048 .bf16 := (extractStridedSlice S2x4096x2048 ![0, 0, 2048] · slices_S2x4096x12288_S2x4096x2048_0_0_2048) main_arg2
  let main_v1 : FVec F S2x4096x2048 .f32 := (extf .f32 · bitsLt_bf16_f32) main_v0
  let main_cst : FVec F S_ .f32 := constant S_ .f32 0xFF800000#32
  let main_v2 : FVec F S2x4096x2048 .f32 := broadcastInDim S2x4096x2048 ![] bcast_S_S2x4096x2048 main_cst
  let main_v3 : IVec S2x4096x2048 1 := cmpf .ogt main_v1 main_v2
  let main_v4 : FVec F S2x4096x2048 .bf16 := (extractStridedSlice S2x4096x2048 ![0, 0, 10240] · slices_S2x4096x12288_S2x4096x2048_0_0_10240) main_arg2
  let main_v5 : FVec F S2x4096x2048 .f32 := (extf .f32 · bitsLt_bf16_f32) main_v4
  let main_cst_0 : FVec F S_ .f32 := constant S_ .f32 0xFF800000#32
  let main_v6 : FVec F S2x4096x2048 .f32 := broadcastInDim S2x4096x2048 ![] bcast_S_S2x4096x2048 main_cst_0
  let main_v7 : IVec S2x4096x2048 1 := cmpf .ogt main_v5 main_v6
  (main_v3, main_v7)
-- ==== Kernel.lean ====
abbrev S2x4096x12288 : Shape := ⟨3, ![2, 4096, 12288]⟩
abbrev S4x16x15x31 : Shape := ⟨4, ![4, 16, 15, 31]⟩
abbrev S8192x12288 : Shape := ⟨2, ![8192, 12288]⟩
abbrev S2x16x8x32x12288 : Shape := ⟨5, ![2, 16, 8, 32, 12288]⟩
abbrev S2x16x32x8x12288 : Shape := ⟨5, ![2, 16, 32, 8, 12288]⟩
abbrev S3x32x4x2x3x32x4x2 : Shape := ⟨8, ![3, 32, 4, 2, 3, 32, 4, 2]⟩
abbrev S_ : Shape := ⟨0, ![]⟩
abbrev S3x32x4x2x3x32x4x2x1 : Shape := ⟨9, ![3, 32, 4, 2, 3, 32, 4, 2, 1]⟩
abbrev S3x32x4x2x3x32x4x2x2 : Shape := ⟨9, ![3, 32, 4, 2, 3, 32, 4, 2, 2]⟩
abbrev S4x16x3x32x4x2x3x32x4x2 : Shape := ⟨10, ![4, 16, 3, 32, 4, 2, 3, 32, 4, 2]⟩
abbrev S4x16x3x256x768 : Shape := ⟨5, ![4, 16, 3, 256, 768]⟩
abbrev S8192x2048 : Shape := ⟨2, ![8192, 2048]⟩
abbrev S4096x128 : Shape := ⟨2, ![4096, 128]⟩
abbrev S1x1x3x256x768 : Shape := ⟨5, ![1, 1, 3, 256, 768]⟩
abbrev S256x768 : Shape := ⟨2, ![256, 768]⟩
abbrev S256x128 : Shape := ⟨2, ![256, 128]⟩
abbrev S768x128 : Shape := ⟨2, ![768, 128]⟩
abbrev S1x1x1x256x768 : Shape := ⟨5, ![1, 1, 1, 256, 768]⟩
abbrev S256 : Shape := ⟨1, ![256]⟩
abbrev S256x1 : Shape := ⟨2, ![256, 1]⟩
abbrev S2x16x32x8x2048 : Shape := ⟨5, ![2, 16, 32, 8, 2048]⟩
abbrev S2x16x8x32x2048 : Shape := ⟨5, ![2, 16, 8, 32, 2048]⟩
abbrev S2x4096x2048 : Shape := ⟨3, ![2, 4096, 2048]⟩

abbrev nBuf : Space → Nat
  | .hbm => 121
  | .vmem => 12
  | .smem => 0
  | _ => 0

abbrev bufTy : (tb : Table) → Fin (tcTables nBuf tb) → BufTy
  | .hbm, ⟨0, _⟩ => ⟨S2x4096x12288, .bf16⟩
  | .hbm, ⟨1, _⟩ => ⟨S4x16x15x31, .f32⟩
  | .hbm, ⟨2, _⟩ => ⟨S8192x12288, .bf16⟩
  | .hbm, ⟨3, _⟩ => ⟨S2x16x8x32x12288, .bf16⟩
  | .hbm, ⟨4, _⟩ => ⟨S2x16x32x8x12288, .bf16⟩
  | .hbm, ⟨5, _⟩ => ⟨S8192x12288, .bf16⟩
  | .hbm, ⟨6, _⟩ => ⟨S3x32x4x2x3x32x4x2, .i32⟩
  | .hbm, ⟨7, _⟩ => ⟨S3x32x4x2x3x32x4x2, .i32⟩
  | .hbm, ⟨8, _⟩ => ⟨S3x32x4x2x3x32x4x2, .i32⟩
  | .hbm, ⟨9, _⟩ => ⟨S3x32x4x2x3x32x4x2, .i32⟩
  | .hbm, ⟨10, _⟩ => ⟨S3x32x4x2x3x32x4x2, .i32⟩
  | .hbm, ⟨11, _⟩ => ⟨S3x32x4x2x3x32x4x2, .i32⟩
  | .hbm, ⟨12, _⟩ => ⟨S3x32x4x2x3x32x4x2, .i32⟩
  | .hbm, ⟨13, _⟩ => ⟨S3x32x4x2x3x32x4x2, .i32⟩
  | .hbm, ⟨14, _⟩ => ⟨S_, .i32⟩
  | .hbm, ⟨15, _⟩ => ⟨S3x32x4x2x3x32x4x2, .i32⟩
  | .hbm, ⟨16, _⟩ => ⟨S3x32x4x2x3x32x4x2, .i32⟩
  | .hbm, ⟨17, _⟩ => ⟨S3x32x4x2x3x32x4x2, .i32⟩
  | .hbm, ⟨18, _⟩ => ⟨S_, .i32⟩
  | .hbm, ⟨19, _⟩ => ⟨S3x32x4x2x3x32x4x2, .i32⟩
  | .hbm, ⟨20, _⟩ => ⟨S3x32x4x2x3x32x4x2, .i32⟩
  | .hbm, ⟨21, _⟩ => ⟨S3x32x4x2x3x32x4x2, .i32⟩
  | .hbm, ⟨22, _⟩ => ⟨S_, .i32⟩
  | .hbm, ⟨23, _⟩ => ⟨S3x32x4x2x3x32x4x2, .i32⟩
  | .hbm, ⟨24, _⟩ => ⟨S3x32x4x2x3x32x4x2, .i32⟩
  | .hbm, ⟨25, _⟩ => ⟨S3x32x4x2x3x32x4x2, .i32⟩
  | .hbm, ⟨26, _⟩ => ⟨S_, .i32⟩
  | .hbm, ⟨27, _⟩ => ⟨S3x32x4x2x3x32x4x2, .i32⟩
  | .hbm, ⟨28, _⟩ => ⟨S3x32x4x2x3x32x4x2, .i1⟩
  | .hbm, ⟨29, _⟩ => ⟨S_, .i32⟩
  | .hbm, ⟨30, _⟩ => ⟨S3x32x4x2x3x32x4x2, .i32⟩
  | .hbm, ⟨31, _⟩ => ⟨S3x32x4x2x3x32x4x2, .i1⟩
  | .hbm, ⟨32, _⟩ => ⟨S_, .i32⟩
  | .hbm, ⟨33, _⟩ => ⟨S_, .i32⟩
  | .hbm, ⟨34, _⟩ => ⟨S3x32x4x2x3x32x4x2, .i32⟩
  | .hbm, ⟨35, _⟩ => ⟨S3x32x4x2x3x32x4x2, .i32⟩
  | .hbm, ⟨36, _⟩ => ⟨S_, .i32⟩
  | .hbm, ⟨37, _⟩ => ⟨S_, .i32⟩
  | .hbm, ⟨38, _⟩ => ⟨S3x32x4x2x3x32x4x2, .i32⟩
  | .hbm, ⟨39, _⟩ => ⟨S3x32x4x2x3x32x4x2, .i32⟩
  | .hbm, ⟨40, _⟩ => ⟨S3x32x4x2x3x32x4x2, .i1⟩
  | .hbm, ⟨41, _⟩ => ⟨S_, .i32⟩
  | .hbm, ⟨42, _⟩ => ⟨S3x32x4x2x3x32x4x2, .i32⟩
  | .hbm, ⟨43, _⟩ => ⟨S3x32x4x2x3x32x4x2, .i32⟩
  | .hbm, ⟨44, _⟩ => ⟨S3x32x4x2x3x32x4x2, .i1⟩
  | .hbm, ⟨45, _⟩ => ⟨S3x32x4x2x3x32x4x2, .i1⟩
  | .hbm, ⟨46, _⟩ => ⟨S_, .i32⟩
  | .hbm, ⟨47, _⟩ => ⟨S3x32x4x2x3x32x4x2, .i32⟩
  | .hbm, ⟨48, _⟩ => ⟨S3x32x4x2x3x32x4x2, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S3x32x4x2x3x32x4x2, .i32⟩
  | .hbm, ⟨53, _⟩ => ⟨S3x32x4x2x3x32x4x2, .i32⟩
  | .hbm, ⟨54, _⟩ => ⟨S_, .i32⟩
  | .hbm, ⟨55, _⟩ => ⟨S3x32x4x2x3x32x4x2, .i32⟩
  | .hbm, ⟨56, _⟩ => ⟨S3x32x4x2x3x32x4x2, .i32⟩
  | .hbm, ⟨57, _⟩ => ⟨S3x32x4x2x3x32x4x2, .i1⟩
  | .hbm, ⟨58, _⟩ => ⟨S_, .i32⟩
  | .hbm, ⟨59, _⟩ => ⟨S3x32x4x2x3x32x4x2, .i32⟩
  | .hbm, ⟨60, _⟩ => ⟨S3x32x4x2x3x32x4x2, .i32⟩
  | .hbm, ⟨61, _⟩ => ⟨S3x32x4x2x3x32x4x2, .i1⟩
  | .hbm, ⟨62, _⟩ => ⟨S3x32x4x2x3x32x4x2, .i1⟩
  | .hbm, ⟨63, _⟩ => ⟨S3x32x4x2x3x32x4x2, .i32⟩
  | .hbm, ⟨64, _⟩ => ⟨S_, .i32⟩
  | .hbm, ⟨65, _⟩ => ⟨S3x32x4x2x3x32x4x2, .i32⟩
  | .hbm, ⟨66, _⟩ => ⟨S3x32x4x2x3x32x4x2, .i32⟩
  | .hbm, ⟨67, _⟩ => ⟨S3x32x4x2x3x32x4x2, .i32⟩
  | .hbm, ⟨68, _⟩ => ⟨S_, .i32⟩
  | .hbm, ⟨69, _⟩ => ⟨S3x32x4x2x3x32x4x2, .i32⟩
  | .hbm, ⟨70, _⟩ => ⟨S3x32x4x2x3x32x4x2, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S3x32x4x2x3x32x4x2, .i32⟩
  | .hbm, ⟨75, _⟩ => ⟨S3x32x4x2x3x32x4x2, .i32⟩
  | .hbm, ⟨76, _⟩ => ⟨S_, .i32⟩
  | .hbm, ⟨77, _⟩ => ⟨S3x32x4x2x3x32x4x2, .i32⟩
  | .hbm, ⟨78, _⟩ => ⟨S3x32x4x2x3x32x4x2, .i32⟩
  | .hbm, ⟨79, _⟩ => ⟨S3x32x4x2x3x32x4x2, .i32⟩
  | .hbm, ⟨80, _⟩ => ⟨S_, .i32⟩
  | .hbm, ⟨81, _⟩ => ⟨S3x32x4x2x3x32x4x2, .i32⟩
  | .hbm, ⟨82, _⟩ => ⟨S3x32x4x2x3x32x4x2, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S3x32x4x2x3x32x4x2, .i32⟩
  | .hbm, ⟨87, _⟩ => ⟨S3x32x4x2x3x32x4x2, .i32⟩
  | .hbm, ⟨88, _⟩ => ⟨S_, .i32⟩
  | .hbm, ⟨89, _⟩ => ⟨S3x32x4x2x3x32x4x2, .i32⟩
  | .hbm, ⟨90, _⟩ => ⟨S3x32x4x2x3x32x4x2, .i32⟩
  | .hbm, ⟨91, _⟩ => ⟨S3x32x4x2x3x32x4x2, .i1⟩
  | .hbm, ⟨92, _⟩ => ⟨S_, .i32⟩
  | .hbm, ⟨93, _⟩ => ⟨S3x32x4x2x3x32x4x2, .i32⟩
  | .hbm, ⟨94, _⟩ => ⟨S3x32x4x2x3x32x4x2, .i1⟩
  | .hbm, ⟨95, _⟩ => ⟨S_, .i32⟩
  | .hbm, ⟨96, _⟩ => ⟨S3x32x4x2x3x32x4x2, .i32⟩
  | .hbm, ⟨97, _⟩ => ⟨S3x32x4x2x3x32x4x2, .i32⟩
  | .hbm, ⟨98, _⟩ => ⟨S3x32x4x2x3x32x4x2, .i32⟩
  | .hbm, ⟨99, _⟩ => ⟨S_, .i32⟩
  | .hbm, ⟨100, _⟩ => ⟨S3x32x4x2x3x32x4x2, .i32⟩
  | .hbm, ⟨101, _⟩ => ⟨S3x32x4x2x3x32x4x2, .i1⟩
  | .hbm, ⟨102, _⟩ => ⟨S_, .i32⟩
  | .hbm, ⟨103, _⟩ => ⟨S3x32x4x2x3x32x4x2, .i32⟩
  | .hbm, ⟨104, _⟩ => ⟨S3x32x4x2x3x32x4x2, .i32⟩
  | .hbm, ⟨105, _⟩ => ⟨S3x32x4x2x3x32x4x2, .i32⟩
  | .hbm, ⟨106, _⟩ => ⟨S3x32x4x2x3x32x4x2x1, .i32⟩
  | .hbm, ⟨107, _⟩ => ⟨S3x32x4x2x3x32x4x2x1, .i32⟩
  | .hbm, ⟨108, _⟩ => ⟨S3x32x4x2x3x32x4x2x2, .i32⟩
  | .hbm, ⟨109, _⟩ => ⟨S4x16x3x32x4x2x3x32x4x2, .f32⟩
  | .hbm, ⟨110, _⟩ => ⟨S_, .f32⟩
  | .hbm, ⟨111, _⟩ => ⟨S_, .f32⟩
  | .hbm, ⟨112, _⟩ => ⟨S4x16x3x32x4x2x3x32x4x2, .i1⟩
  | .hbm, ⟨113, _⟩ => ⟨S4x16x3x32x4x2x3x32x4x2, .f32⟩
  | .hbm, ⟨114, _⟩ => ⟨S4x16x3x32x4x2x3x32x4x2, .f32⟩
  | .hbm, ⟨115, _⟩ => ⟨S4x16x3x256x768, .f32⟩
  | .hbm, ⟨116, _⟩ => ⟨S8192x2048, .bf16⟩
  | .hbm, ⟨117, _⟩ => ⟨S2x16x32x8x2048, .bf16⟩
  | .hbm, ⟨118, _⟩ => ⟨S2x16x8x32x2048, .bf16⟩
  | .hbm, ⟨119, _⟩ => ⟨S8192x2048, .bf16⟩
  | .hbm, ⟨120, _⟩ => ⟨S2x4096x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x3x256x768, .f32⟩
  | .local _ .vmem, ⟨7, _⟩ => ⟨S1x1x3x256x768, .f32⟩
  | .local _ .vmem, ⟨8, _⟩ => ⟨S4096x128, .bf16⟩
  | .local _ .vmem, ⟨9, _⟩ => ⟨S4096x128, .bf16⟩
  | .local _ .vmem, ⟨10, _⟩ => ⟨S256x768, .f32⟩
  | .local _ .vmem, ⟨11, _⟩ => ⟨S256x768, .f32⟩
  | _, _ => ⟨S2x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_c_3 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_c_9 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_c_13 : Ref sig .tc := ⟨.hbm, 71, rfl⟩
abbrev main_c_14 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v46 : Ref sig .tc := ⟨.hbm, 78, rfl⟩
abbrev main_v47 : Ref sig .tc := ⟨.hbm, 79, rfl⟩
abbrev main_c_15 : Ref sig .tc := ⟨.hbm, 80, rfl⟩
abbrev main_v48 : Ref sig .tc := ⟨.hbm, 81, rfl⟩
abbrev main_v49 : Ref sig .tc := ⟨.hbm, 82, rfl⟩
abbrev main_c_16 : Ref sig .tc := ⟨.hbm, 83, rfl⟩
abbrev main_c_17 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v50 : Ref sig .tc := ⟨.hbm, 90, rfl⟩
abbrev main_v51 : Ref sig .tc := ⟨.hbm, 91, rfl⟩
abbrev main_c_18 : Ref sig .tc := ⟨.hbm, 92, rfl⟩
abbrev main_v52 : Ref sig .tc := ⟨.hbm, 93, rfl⟩
abbrev main_v53 : Ref sig .tc := ⟨.hbm, 94, rfl⟩
abbrev main_c_19 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_20 : Ref sig .tc := ⟨.hbm, 99, rfl⟩
abbrev main_v57 : Ref sig .tc := ⟨.hbm, 100, rfl⟩
abbrev main_v58 : Ref sig .tc := ⟨.hbm, 101, rfl⟩
abbrev main_c_21 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_mult1 : BitVec 32 :=
  let c0_i32_6 : BitVec 32 := 0#32
  c0_i32_6
def k0_mult2 : BitVec 32 :=
  let c52_i32 : BitVec 32 := 52#32
  let c0_i32 : BitVec 32 := 0#32
  let c_m4_i32 : BitVec 32 := 4294967292#32
  let v0 : BitVec 32 := Scalar.maxsi c0_i32 c_m4_i32
  let v1 : BitVec 32 := Scalar.minsi c52_i32 v0
  let c64_i32 : BitVec 32 := 64#32
  let v21 : BitVec 32 := Scalar.muli v1 c64_i32
  v21
def k0_off1 (c_m4_i32 : BitVec 32) : Fin 2 → Nat :=
  let c52_i32 : BitVec 32 := 52#32
  let c0_i32 : BitVec 32 := 0#32
  let v0 : BitVec 32 := Scalar.maxsi c0_i32 c_m4_i32
  let v1 : BitVec 32 := Scalar.minsi c52_i32 v0
  let c64_i32 : BitVec 32 := 64#32
  let v21 : BitVec 32 := Scalar.muli v1 c64_i32
  let v22 : BitVec 32 := v21
  let v26 : Index := Scalar.indexCast v22
  let c0_7 : Index := 0#32
  ![v26.toNat, 0]
def k0_off1_at (r : Fin 3) : BitVec 32 :=
  if r.val < 1 then
    4294967292#32
  else
    if r.val < 2 then
      56#32
    else
      52#32
def k0_off2 (c0_i32_0 : BitVec 32) (c_m4_i32 : BitVec 32) : Fin 5 → Nat :=
  let c0_9 : Index := 0#32
  let c0_10 : Index := 0#32
  let c52_i32 : BitVec 32 := 52#32
  let c0_i32 : BitVec 32 := 0#32
  let v0 : BitVec 32 := Scalar.maxsi c0_i32 c_m4_i32
  let v1 : BitVec 32 := Scalar.minsi c52_i32 v0
  let v2 : BitVec 32 := Scalar.subi c0_i32_0 v1
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v32 : Index := Scalar.indexCast v19
  let c0_11 : Index := 0#32
  let c0_12 : Index := 0#32
  ![0, 0, v32.toNat, 0, 0]
def k0_off2_at (r : Fin 2) : BitVec 32 × BitVec 32 :=
  if r.val < 1 then
    (0#32, 4294967292#32)
  else
    (60#32, 56#32)
def k0_mult3 : BitVec 32 :=
  let c2_i32 : BitVec 32 := 2#32
  let c0_i32_16 : BitVec 32 := 0#32
  let v41 : BitVec 32 := Scalar.muli c2_i32 c0_i32_16
  let c1_i32_17 : BitVec 32 := 1#32
  let v42 : BitVec 32 := Scalar.addi v41 c1_i32_17
  let c256_i32 : BitVec 32 := 256#32
  let v66 : BitVec 32 := Scalar.muli v42 c256_i32
  v66
def k0_mult4 : BitVec 32 :=
  let c52_i32_21 : BitVec 32 := 52#32
  let c0_i32_20 : BitVec 32 := 0#32
  let c4_i32_18 : BitVec 32 := 4#32
  let c2_i32 : BitVec 32 := 2#32
  let c0_i32_16 : BitVec 32 := 0#32
  let v41 : BitVec 32 := Scalar.muli c2_i32 c0_i32_16
  let c1_i32_17 : BitVec 32 := 1#32
  let v42 : BitVec 32 := Scalar.addi v41 c1_i32_17
  let v43 : BitVec 32 := Scalar.muli c4_i32_18 v42
  let c4_i32_19 : BitVec 32 := 4#32
  let v44 : BitVec 32 := Scalar.subi v43 c4_i32_19
  let v45 : BitVec 32 := Scalar.maxsi c0_i32_20 v44
  let v46 : BitVec 32 := Scalar.minsi c52_i32_21 v45
  let c64_i32_30 : BitVec 32 := 64#32
  let v68 : BitVec 32 := Scalar.muli v46 c64_i32_30
  v68
def k0_off3 (c0_i32_16 : BitVec 32) (c1_i32_17 : BitVec 32) : Fin 2 → Nat :=
  let c2_i32 : BitVec 32 := 2#32
  let v41 : BitVec 32 := Scalar.muli c2_i32 c0_i32_16
  let v42 : BitVec 32 := Scalar.addi v41 c1_i32_17
  let c256_i32 : BitVec 32 := 256#32
  let v66 : BitVec 32 := Scalar.muli v42 c256_i32
  let v67 : BitVec 32 := v66
  let v70 : Index := Scalar.indexCast v67
  let c0_31 : Index := 0#32
  ![v70.toNat, 0]
def k0_off4 (c0_i32_16 : BitVec 32) (c1_i32_17 : BitVec 32) : Fin 2 → Nat :=
  let c52_i32_21 : BitVec 32 := 52#32
  let c0_i32_20 : BitVec 32 := 0#32
  let c4_i32_18 : BitVec 32 := 4#32
  let c2_i32 : BitVec 32 := 2#32
  let v41 : BitVec 32 := Scalar.muli c2_i32 c0_i32_16
  let v42 : BitVec 32 := Scalar.addi v41 c1_i32_17
  let v43 : BitVec 32 := Scalar.muli c4_i32_18 v42
  let c4_i32_19 : BitVec 32 := 4#32
  let v44 : BitVec 32 := Scalar.subi v43 c4_i32_19
  let v45 : BitVec 32 := Scalar.maxsi c0_i32_20 v44
  let v46 : BitVec 32 := Scalar.minsi c52_i32_21 v45
  let c64_i32_30 : BitVec 32 := 64#32
  let v68 : BitVec 32 := Scalar.muli v46 c64_i32_30
  let v69 : BitVec 32 := v68
  let v73 : Index := Scalar.indexCast v69
  let c0_32 : Index := 0#32
  ![v73.toNat, 0]
def k0_off5 (c0_i32_16 : BitVec 32) (c1_i32_17 : BitVec 32) : Fin 5 → Nat :=
  let c0_35 : Index := 0#32
  let c0_36 : Index := 0#32
  let c4_i32_22 : BitVec 32 := 4#32
  let c2_i32 : BitVec 32 := 2#32
  let v41 : BitVec 32 := Scalar.muli c2_i32 c0_i32_16
  let v42 : BitVec 32 := Scalar.addi v41 c1_i32_17
  let v47 : BitVec 32 := Scalar.muli c4_i32_22 v42
  let c52_i32_21 : BitVec 32 := 52#32
  let c0_i32_20 : BitVec 32 := 0#32
  let c4_i32_18 : BitVec 32 := 4#32
  let v43 : BitVec 32 := Scalar.muli c4_i32_18 v42
  let c4_i32_19 : BitVec 32 := 4#32
  let v44 : BitVec 32 := Scalar.subi v43 c4_i32_19
  let v45 : BitVec 32 := Scalar.maxsi c0_i32_20 v44
  let v46 : BitVec 32 := Scalar.minsi c52_i32_21 v45
  let v48 : BitVec 32 := Scalar.subi v47 v46
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c4_i32_23 : BitVec 32 := 4#32
  let c0_i32_26 : BitVec 32 := 0#32
  let v55 : BitVec 1 := Scalar.cmpi .sgt c4_i32_23 c0_i32_26
  let v56 : BitVec 32 := Scalar.extui v55
  let c0_i32_27 : BitVec 32 := 0#32
  let v57 : BitVec 1 := Scalar.cmpi .slt c4_i32_23 c0_i32_27
  let v58 : BitVec 32 := Scalar.extui v57
  let v59 : BitVec 32 := Scalar.subi v56 v58
  let v60 : BitVec 1 := Scalar.cmpi .ne v54 v59
  let v61 : BitVec 32 := Scalar.remsi v48 c4_i32_23
  let c0_i32_28 : BitVec 32 := 0#32
  let v62 : BitVec 1 := Scalar.cmpi .ne v61 c0_i32_28
  let v63 : BitVec 1 := Scalar.andi v60 v62
  let v49 : BitVec 32 := Scalar.divsi v48 c4_i32_23
  let c1_i32_29 : BitVec 32 := 1#32
  let v64 : BitVec 32 := Scalar.subi v49 c1_i32_29
  let v65 : BitVec 32 := Scalar.select v63 v64 v49
  let v79 : Index := Scalar.indexCast v65
  let c0_37 : Index := 0#32
  let c0_38 : Index := 0#32
  ![0, 0, v79.toNat, 0, 0]
def k0_mult5 : BitVec 32 :=
  let c2_i32 : BitVec 32 := 2#32
  let c0_i32_16 : BitVec 32 := 0#32
  let v41 : BitVec 32 := Scalar.muli c2_i32 c0_i32_16
  let c256_i32_46 : BitVec 32 := 256#32
  let v92 : BitVec 32 := Scalar.muli v41 c256_i32_46
  v92
def k0_mult6 : BitVec 32 :=
  let c52_i32_45 : BitVec 32 := 52#32
  let c0_i32_44 : BitVec 32 := 0#32
  let c4_i32_42 : BitVec 32 := 4#32
  let c2_i32 : BitVec 32 := 2#32
  let c0_i32_16 : BitVec 32 := 0#32
  let v41 : BitVec 32 := Scalar.muli c2_i32 c0_i32_16
  let v88 : BitVec 32 := Scalar.muli c4_i32_42 v41
  let c4_i32_43 : BitVec 32 := 4#32
  let v89 : BitVec 32 := Scalar.subi v88 c4_i32_43
  let v90 : BitVec 32 := Scalar.maxsi c0_i32_44 v89
  let v91 : BitVec 32 := Scalar.minsi c52_i32_45 v90
  let c64_i32_47 : BitVec 32 := 64#32
  let v94 : BitVec 32 := Scalar.muli v91 c64_i32_47
  v94
def k0_off6 (c0_i32_16 : BitVec 32) : Fin 2 → Nat :=
  let c52_i32_45 : BitVec 32 := 52#32
  let c0_i32_44 : BitVec 32 := 0#32
  let c4_i32_42 : BitVec 32 := 4#32
  let c2_i32 : BitVec 32 := 2#32
  let v41 : BitVec 32 := Scalar.muli c2_i32 c0_i32_16
  let v88 : BitVec 32 := Scalar.muli c4_i32_42 v41
  let c4_i32_43 : BitVec 32 := 4#32
  let v89 : BitVec 32 := Scalar.subi v88 c4_i32_43
  let v90 : BitVec 32 := Scalar.maxsi c0_i32_44 v89
  let v91 : BitVec 32 := Scalar.minsi c52_i32_45 v90
  let c64_i32_47 : BitVec 32 := 64#32
  let v94 : BitVec 32 := Scalar.muli v91 c64_i32_47
  let v95 : BitVec 32 := v94
  let v105 : Index := Scalar.indexCast v95
  let c0_52 : Index := 0#32
  ![v105.toNat, 0]
def k0_off7 (c0_i32_16 : BitVec 32) : Fin 2 → Nat :=
  let c2_i32 : BitVec 32 := 2#32
  let v41 : BitVec 32 := Scalar.muli c2_i32 c0_i32_16
  let c256_i32_46 : BitVec 32 := 256#32
  let v92 : BitVec 32 := Scalar.muli v41 c256_i32_46
  let v93 : BitVec 32 := v92
  let v112 : Index := Scalar.indexCast v93
  let c0_54 : Index := 0#32
  ![v112.toNat, 0]
def k0_mult7 : BitVec 32 :=
  let c2_i32 : BitVec 32 := 2#32
  let c0_i32_16 : BitVec 32 := 0#32
  let v41 : BitVec 32 := Scalar.muli c2_i32 c0_i32_16
  let c2_i32_55 : BitVec 32 := 2#32
  let v114 : BitVec 32 := Scalar.addi v41 c2_i32_55
  let c256_i32_68 : BitVec 32 := 256#32
  let v138 : BitVec 32 := Scalar.muli v114 c256_i32_68
  v138
def k0_mult8 : BitVec 32 :=
  let c52_i32_59 : BitVec 32 := 52#32
  let c0_i32_58 : BitVec 32 := 0#32
  let c4_i32_56 : BitVec 32 := 4#32
  let c2_i32 : BitVec 32 := 2#32
  let c0_i32_16 : BitVec 32 := 0#32
  let v41 : BitVec 32 := Scalar.muli c2_i32 c0_i32_16
  let c2_i32_55 : BitVec 32 := 2#32
  let v114 : BitVec 32 := Scalar.addi v41 c2_i32_55
  let v115 : BitVec 32 := Scalar.muli c4_i32_56 v114
  let c4_i32_57 : BitVec 32 := 4#32
  let v116 : BitVec 32 := Scalar.subi v115 c4_i32_57
  let v117 : BitVec 32 := Scalar.maxsi c0_i32_58 v116
  let v118 : BitVec 32 := Scalar.minsi c52_i32_59 v117
  let c64_i32_69 : BitVec 32 := 64#32
  let v140 : BitVec 32 := Scalar.muli v118 c64_i32_69
  v140
def k0_mult9 : BitVec 32 :=
  let c2_i32 : BitVec 32 := 2#32
  let c0_i32_16 : BitVec 32 := 0#32
  let v41 : BitVec 32 := Scalar.muli c2_i32 c0_i32_16
  let c1_i32_81 : BitVec 32 := 1#32
  let v160 : BitVec 32 := Scalar.addi v41 c1_i32_81
  let c256_i32_86 : BitVec 32 := 256#32
  let v165 : BitVec 32 := Scalar.muli v160 c256_i32_86
  v165
def k0_mult10 : BitVec 32 :=
  let c52_i32_85 : BitVec 32 := 52#32
  let c0_i32_84 : BitVec 32 := 0#32
  let c4_i32_82 : BitVec 32 := 4#32
  let c2_i32 : BitVec 32 := 2#32
  let c0_i32_16 : BitVec 32 := 0#32
  let v41 : BitVec 32 := Scalar.muli c2_i32 c0_i32_16
  let c1_i32_81 : BitVec 32 := 1#32
  let v160 : BitVec 32 := Scalar.addi v41 c1_i32_81
  let v161 : BitVec 32 := Scalar.muli c4_i32_82 v160
  let c4_i32_83 : BitVec 32 := 4#32
  let v162 : BitVec 32 := Scalar.subi v161 c4_i32_83
  let v163 : BitVec 32 := Scalar.maxsi c0_i32_84 v162
  let v164 : BitVec 32 := Scalar.minsi c52_i32_85 v163
  let c64_i32_87 : BitVec 32 := 64#32
  let v167 : BitVec 32 := Scalar.muli v164 c64_i32_87
  v167
def k0_mult11 : BitVec 32 :=
  let c2_i32_96 : BitVec 32 := 2#32
  let c1_i32_95 : BitVec 32 := 1#32
  let v187 : BitVec 32 := Scalar.muli c2_i32_96 c1_i32_95
  let c1_i32_97 : BitVec 32 := 1#32
  let v188 : BitVec 32 := Scalar.addi v187 c1_i32_97
  let c256_i32_110 : BitVec 32 := 256#32
  let v212 : BitVec 32 := Scalar.muli v188 c256_i32_110
  v212
def k0_mult12 : BitVec 32 :=
  let c52_i32_101 : BitVec 32 := 52#32
  let c0_i32_100 : BitVec 32 := 0#32
  let c4_i32_98 : BitVec 32 := 4#32
  let c2_i32_96 : BitVec 32 := 2#32
  let c1_i32_95 : BitVec 32 := 1#32
  let v187 : BitVec 32 := Scalar.muli c2_i32_96 c1_i32_95
  let c1_i32_97 : BitVec 32 := 1#32
  let v188 : BitVec 32 := Scalar.addi v187 c1_i32_97
  let v189 : BitVec 32 := Scalar.muli c4_i32_98 v188
  let c4_i32_99 : BitVec 32 := 4#32
  let v190 : BitVec 32 := Scalar.subi v189 c4_i32_99
  let v191 : BitVec 32 := Scalar.maxsi c0_i32_100 v190
  let v192 : BitVec 32 := Scalar.minsi c52_i32_101 v191
  let c64_i32_111 : BitVec 32 := 64#32
  let v214 : BitVec 32 := Scalar.muli v192 c64_i32_111
  v214
def k0_mult13 : BitVec 32 :=
  let c2_i32_96 : BitVec 32 := 2#32
  let c1_i32_95 : BitVec 32 := 1#32
  let v187 : BitVec 32 := Scalar.muli c2_i32_96 c1_i32_95
  let c256_i32_127 : BitVec 32 := 256#32
  let v238 : BitVec 32 := Scalar.muli v187 c256_i32_127
  v238
def k0_mult14 : BitVec 32 :=
  let c52_i32_126 : BitVec 32 := 52#32
  let c0_i32_125 : BitVec 32 := 0#32
  let c4_i32_123 : BitVec 32 := 4#32
  let c2_i32_96 : BitVec 32 := 2#32
  let c1_i32_95 : BitVec 32 := 1#32
  let v187 : BitVec 32 := Scalar.muli c2_i32_96 c1_i32_95
  let v234 : BitVec 32 := Scalar.muli c4_i32_123 v187
  let c4_i32_124 : BitVec 32 := 4#32
  let v235 : BitVec 32 := Scalar.subi v234 c4_i32_124
  let v236 : BitVec 32 := Scalar.maxsi c0_i32_125 v235
  let v237 : BitVec 32 := Scalar.minsi c52_i32_126 v236
  let c64_i32_128 : BitVec 32 := 64#32
  let v240 : BitVec 32 := Scalar.muli v237 c64_i32_128
  v240
def k0_mult15 : BitVec 32 :=
  let c2_i32_96 : BitVec 32 := 2#32
  let c1_i32_95 : BitVec 32 := 1#32
  let v187 : BitVec 32 := Scalar.muli c2_i32_96 c1_i32_95
  let c2_i32_136 : BitVec 32 := 2#32
  let v260 : BitVec 32 := Scalar.addi v187 c2_i32_136
  let c256_i32_149 : BitVec 32 := 256#32
  let v284 : BitVec 32 := Scalar.muli v260 c256_i32_149
  v284
def k0_mult16 : BitVec 32 :=
  let c52_i32_140 : BitVec 32 := 52#32
  let c0_i32_139 : BitVec 32 := 0#32
  let c4_i32_137 : BitVec 32 := 4#32
  let c2_i32_96 : BitVec 32 := 2#32
  let c1_i32_95 : BitVec 32 := 1#32
  let v187 : BitVec 32 := Scalar.muli c2_i32_96 c1_i32_95
  let c2_i32_136 : BitVec 32 := 2#32
  let v260 : BitVec 32 := Scalar.addi v187 c2_i32_136
  let v261 : BitVec 32 := Scalar.muli c4_i32_137 v260
  let c4_i32_138 : BitVec 32 := 4#32
  let v262 : BitVec 32 := Scalar.subi v261 c4_i32_138
  let v263 : BitVec 32 := Scalar.maxsi c0_i32_139 v262
  let v264 : BitVec 32 := Scalar.minsi c52_i32_140 v263
  let c64_i32_150 : BitVec 32 := 64#32
  let v286 : BitVec 32 := Scalar.muli v264 c64_i32_150
  v286
def k0_mult17 : BitVec 32 :=
  let c2_i32_96 : BitVec 32 := 2#32
  let c1_i32_95 : BitVec 32 := 1#32
  let v187 : BitVec 32 := Scalar.muli c2_i32_96 c1_i32_95
  let c1_i32_162 : BitVec 32 := 1#32
  let v306 : BitVec 32 := Scalar.addi v187 c1_i32_162
  let c256_i32_167 : BitVec 32 := 256#32
  let v311 : BitVec 32 := Scalar.muli v306 c256_i32_167
  v311
def k0_mult18 : BitVec 32 :=
  let c52_i32_166 : BitVec 32 := 52#32
  let c0_i32_165 : BitVec 32 := 0#32
  let c4_i32_163 : BitVec 32 := 4#32
  let c2_i32_96 : BitVec 32 := 2#32
  let c1_i32_95 : BitVec 32 := 1#32
  let v187 : BitVec 32 := Scalar.muli c2_i32_96 c1_i32_95
  let c1_i32_162 : BitVec 32 := 1#32
  let v306 : BitVec 32 := Scalar.addi v187 c1_i32_162
  let v307 : BitVec 32 := Scalar.muli c4_i32_163 v306
  let c4_i32_164 : BitVec 32 := 4#32
  let v308 : BitVec 32 := Scalar.subi v307 c4_i32_164
  let v309 : BitVec 32 := Scalar.maxsi c0_i32_165 v308
  let v310 : BitVec 32 := Scalar.minsi c52_i32_166 v309
  let c64_i32_168 : BitVec 32 := 64#32
  let v313 : BitVec 32 := Scalar.muli v310 c64_i32_168
  v313
def k0_mult19 : BitVec 32 :=
  let c2_i32_177 : BitVec 32 := 2#32
  let c2_i32_176 : BitVec 32 := 2#32
  let v333 : BitVec 32 := Scalar.muli c2_i32_177 c2_i32_176
  let c1_i32_178 : BitVec 32 := 1#32
  let v334 : BitVec 32 := Scalar.addi v333 c1_i32_178
  let c256_i32_191 : BitVec 32 := 256#32
  let v358 : BitVec 32 := Scalar.muli v334 c256_i32_191
  v358
def k0_mult20 : BitVec 32 :=
  let c52_i32_182 : BitVec 32 := 52#32
  let c0_i32_181 : BitVec 32 := 0#32
  let c4_i32_179 : BitVec 32 := 4#32
  let c2_i32_177 : BitVec 32 := 2#32
  let c2_i32_176 : BitVec 32 := 2#32
  let v333 : BitVec 32 := Scalar.muli c2_i32_177 c2_i32_176
  let c1_i32_178 : BitVec 32 := 1#32
  let v334 : BitVec 32 := Scalar.addi v333 c1_i32_178
  let v335 : BitVec 32 := Scalar.muli c4_i32_179 v334
  let c4_i32_180 : BitVec 32 := 4#32
  let v336 : BitVec 32 := Scalar.subi v335 c4_i32_180
  let v337 : BitVec 32 := Scalar.maxsi c0_i32_181 v336
  let v338 : BitVec 32 := Scalar.minsi c52_i32_182 v337
  let c64_i32_192 : BitVec 32 := 64#32
  let v360 : BitVec 32 := Scalar.muli v338 c64_i32_192
  v360
def k0_mult21 : BitVec 32 :=
  let c2_i32_177 : BitVec 32 := 2#32
  let c2_i32_176 : BitVec 32 := 2#32
  let v333 : BitVec 32 := Scalar.muli c2_i32_177 c2_i32_176
  let c256_i32_208 : BitVec 32 := 256#32
  let v384 : BitVec 32 := Scalar.muli v333 c256_i32_208
  v384
def k0_mult22 : BitVec 32 :=
  let c52_i32_207 : BitVec 32 := 52#32
  let c0_i32_206 : BitVec 32 := 0#32
  let c4_i32_204 : BitVec 32 := 4#32
  let c2_i32_177 : BitVec 32 := 2#32
  let c2_i32_176 : BitVec 32 := 2#32
  let v333 : BitVec 32 := Scalar.muli c2_i32_177 c2_i32_176
  let v380 : BitVec 32 := Scalar.muli c4_i32_204 v333
  let c4_i32_205 : BitVec 32 := 4#32
  let v381 : BitVec 32 := Scalar.subi v380 c4_i32_205
  let v382 : BitVec 32 := Scalar.maxsi c0_i32_206 v381
  let v383 : BitVec 32 := Scalar.minsi c52_i32_207 v382
  let c64_i32_209 : BitVec 32 := 64#32
  let v386 : BitVec 32 := Scalar.muli v383 c64_i32_209
  v386
def k0_mult23 : BitVec 32 :=
  let c2_i32_177 : BitVec 32 := 2#32
  let c2_i32_176 : BitVec 32 := 2#32
  let v333 : BitVec 32 := Scalar.muli c2_i32_177 c2_i32_176
  let c2_i32_217 : BitVec 32 := 2#32
  let v406 : BitVec 32 := Scalar.addi v333 c2_i32_217
  let c256_i32_230 : BitVec 32 := 256#32
  let v430 : BitVec 32 := Scalar.muli v406 c256_i32_230
  v430
def k0_mult24 : BitVec 32 :=
  let c52_i32_221 : BitVec 32 := 52#32
  let c0_i32_220 : BitVec 32 := 0#32
  let c4_i32_218 : BitVec 32 := 4#32
  let c2_i32_177 : BitVec 32 := 2#32
  let c2_i32_176 : BitVec 32 := 2#32
  let v333 : BitVec 32 := Scalar.muli c2_i32_177 c2_i32_176
  let c2_i32_217 : BitVec 32 := 2#32
  let v406 : BitVec 32 := Scalar.addi v333 c2_i32_217
  let v407 : BitVec 32 := Scalar.muli c4_i32_218 v406
  let c4_i32_219 : BitVec 32 := 4#32
  let v408 : BitVec 32 := Scalar.subi v407 c4_i32_219
  let v409 : BitVec 32 := Scalar.maxsi c0_i32_220 v408
  let v410 : BitVec 32 := Scalar.minsi c52_i32_221 v409
  let c64_i32_231 : BitVec 32 := 64#32
  let v432 : BitVec 32 := Scalar.muli v410 c64_i32_231
  v432
def k0_mult25 : BitVec 32 :=
  let c2_i32_177 : BitVec 32 := 2#32
  let c2_i32_176 : BitVec 32 := 2#32
  let v333 : BitVec 32 := Scalar.muli c2_i32_177 c2_i32_176
  let c1_i32_243 : BitVec 32 := 1#32
  let v452 : BitVec 32 := Scalar.addi v333 c1_i32_243
  let c256_i32_248 : BitVec 32 := 256#32
  let v457 : BitVec 32 := Scalar.muli v452 c256_i32_248
  v457
def k0_mult26 : BitVec 32 :=
  let c52_i32_247 : BitVec 32 := 52#32
  let c0_i32_246 : BitVec 32 := 0#32
  let c4_i32_244 : BitVec 32 := 4#32
  let c2_i32_177 : BitVec 32 := 2#32
  let c2_i32_176 : BitVec 32 := 2#32
  let v333 : BitVec 32 := Scalar.muli c2_i32_177 c2_i32_176
  let c1_i32_243 : BitVec 32 := 1#32
  let v452 : BitVec 32 := Scalar.addi v333 c1_i32_243
  let v453 : BitVec 32 := Scalar.muli c4_i32_244 v452
  let c4_i32_245 : BitVec 32 := 4#32
  let v454 : BitVec 32 := Scalar.subi v453 c4_i32_245
  let v455 : BitVec 32 := Scalar.maxsi c0_i32_246 v454
  let v456 : BitVec 32 := Scalar.minsi c52_i32_247 v455
  let c64_i32_249 : BitVec 32 := 64#32
  let v459 : BitVec 32 := Scalar.muli v456 c64_i32_249
  v459
def k0_mult27 : BitVec 32 :=
  let c2_i32_257 : BitVec 32 := 2#32
  let c3_i32 : BitVec 32 := 3#32
  let v479 : BitVec 32 := Scalar.muli c2_i32_257 c3_i32
  let c1_i32_258 : BitVec 32 := 1#32
  let v480 : BitVec 32 := Scalar.addi v479 c1_i32_258
  let c256_i32_271 : BitVec 32 := 256#32
  let v504 : BitVec 32 := Scalar.muli v480 c256_i32_271
  v504
def k0_mult28 : BitVec 32 :=
  let c52_i32_262 : BitVec 32 := 52#32
  let c0_i32_261 : BitVec 32 := 0#32
  let c4_i32_259 : BitVec 32 := 4#32
  let c2_i32_257 : BitVec 32 := 2#32
  let c3_i32 : BitVec 32 := 3#32
  let v479 : BitVec 32 := Scalar.muli c2_i32_257 c3_i32
  let c1_i32_258 : BitVec 32 := 1#32
  let v480 : BitVec 32 := Scalar.addi v479 c1_i32_258
  let v481 : BitVec 32 := Scalar.muli c4_i32_259 v480
  let c4_i32_260 : BitVec 32 := 4#32
  let v482 : BitVec 32 := Scalar.subi v481 c4_i32_260
  let v483 : BitVec 32 := Scalar.maxsi c0_i32_261 v482
  let v484 : BitVec 32 := Scalar.minsi c52_i32_262 v483
  let c64_i32_272 : BitVec 32 := 64#32
  let v506 : BitVec 32 := Scalar.muli v484 c64_i32_272
  v506
def k0_mult29 : BitVec 32 :=
  let c2_i32_257 : BitVec 32 := 2#32
  let c3_i32 : BitVec 32 := 3#32
  let v479 : BitVec 32 := Scalar.muli c2_i32_257 c3_i32
  let c256_i32_288 : BitVec 32 := 256#32
  let v530 : BitVec 32 := Scalar.muli v479 c256_i32_288
  v530
def k0_mult30 : BitVec 32 :=
  let c52_i32_287 : BitVec 32 := 52#32
  let c0_i32_286 : BitVec 32 := 0#32
  let c4_i32_284 : BitVec 32 := 4#32
  let c2_i32_257 : BitVec 32 := 2#32
  let c3_i32 : BitVec 32 := 3#32
  let v479 : BitVec 32 := Scalar.muli c2_i32_257 c3_i32
  let v526 : BitVec 32 := Scalar.muli c4_i32_284 v479
  let c4_i32_285 : BitVec 32 := 4#32
  let v527 : BitVec 32 := Scalar.subi v526 c4_i32_285
  let v528 : BitVec 32 := Scalar.maxsi c0_i32_286 v527
  let v529 : BitVec 32 := Scalar.minsi c52_i32_287 v528
  let c64_i32_289 : BitVec 32 := 64#32
  let v532 : BitVec 32 := Scalar.muli v529 c64_i32_289
  v532
def k0_mult31 : BitVec 32 :=
  let c2_i32_257 : BitVec 32 := 2#32
  let c3_i32 : BitVec 32 := 3#32
  let v479 : BitVec 32 := Scalar.muli c2_i32_257 c3_i32
  let c2_i32_297 : BitVec 32 := 2#32
  let v552 : BitVec 32 := Scalar.addi v479 c2_i32_297
  let c256_i32_310 : BitVec 32 := 256#32
  let v576 : BitVec 32 := Scalar.muli v552 c256_i32_310
  v576
def k0_mult32 : BitVec 32 :=
  let c52_i32_301 : BitVec 32 := 52#32
  let c0_i32_300 : BitVec 32 := 0#32
  let c4_i32_298 : BitVec 32 := 4#32
  let c2_i32_257 : BitVec 32 := 2#32
  let c3_i32 : BitVec 32 := 3#32
  let v479 : BitVec 32 := Scalar.muli c2_i32_257 c3_i32
  let c2_i32_297 : BitVec 32 := 2#32
  let v552 : BitVec 32 := Scalar.addi v479 c2_i32_297
  let v553 : BitVec 32 := Scalar.muli c4_i32_298 v552
  let c4_i32_299 : BitVec 32 := 4#32
  let v554 : BitVec 32 := Scalar.subi v553 c4_i32_299
  let v555 : BitVec 32 := Scalar.maxsi c0_i32_300 v554
  let v556 : BitVec 32 := Scalar.minsi c52_i32_301 v555
  let c64_i32_311 : BitVec 32 := 64#32
  let v578 : BitVec 32 := Scalar.muli v556 c64_i32_311
  v578
def k0_mult33 : BitVec 32 :=
  let c2_i32_257 : BitVec 32 := 2#32
  let c3_i32 : BitVec 32 := 3#32
  let v479 : BitVec 32 := Scalar.muli c2_i32_257 c3_i32
  let c1_i32_323 : BitVec 32 := 1#32
  let v598 : BitVec 32 := Scalar.addi v479 c1_i32_323
  let c256_i32_328 : BitVec 32 := 256#32
  let v603 : BitVec 32 := Scalar.muli v598 c256_i32_328
  v603
def k0_mult34 : BitVec 32 :=
  let c52_i32_327 : BitVec 32 := 52#32
  let c0_i32_326 : BitVec 32 := 0#32
  let c4_i32_324 : BitVec 32 := 4#32
  let c2_i32_257 : BitVec 32 := 2#32
  let c3_i32 : BitVec 32 := 3#32
  let v479 : BitVec 32 := Scalar.muli c2_i32_257 c3_i32
  let c1_i32_323 : BitVec 32 := 1#32
  let v598 : BitVec 32 := Scalar.addi v479 c1_i32_323
  let v599 : BitVec 32 := Scalar.muli c4_i32_324 v598
  let c4_i32_325 : BitVec 32 := 4#32
  let v600 : BitVec 32 := Scalar.subi v599 c4_i32_325
  let v601 : BitVec 32 := Scalar.maxsi c0_i32_326 v600
  let v602 : BitVec 32 := Scalar.minsi c52_i32_327 v601
  let c64_i32_329 : BitVec 32 := 64#32
  let v605 : BitVec 32 := Scalar.muli v602 c64_i32_329
  v605
def k0_mult35 : BitVec 32 :=
  let c2_i32_338 : BitVec 32 := 2#32
  let c4_i32_337 : BitVec 32 := 4#32
  let v625 : BitVec 32 := Scalar.muli c2_i32_338 c4_i32_337
  let c1_i32_339 : BitVec 32 := 1#32
  let v626 : BitVec 32 := Scalar.addi v625 c1_i32_339
  let c256_i32_352 : BitVec 32 := 256#32
  let v650 : BitVec 32 := Scalar.muli v626 c256_i32_352
  v650
def k0_mult36 : BitVec 32 :=
  let c52_i32_343 : BitVec 32 := 52#32
  let c0_i32_342 : BitVec 32 := 0#32
  let c4_i32_340 : BitVec 32 := 4#32
  let c2_i32_338 : BitVec 32 := 2#32
  let c4_i32_337 : BitVec 32 := 4#32
  let v625 : BitVec 32 := Scalar.muli c2_i32_338 c4_i32_337
  let c1_i32_339 : BitVec 32 := 1#32
  let v626 : BitVec 32 := Scalar.addi v625 c1_i32_339
  let v627 : BitVec 32 := Scalar.muli c4_i32_340 v626
  let c4_i32_341 : BitVec 32 := 4#32
  let v628 : BitVec 32 := Scalar.subi v627 c4_i32_341
  let v629 : BitVec 32 := Scalar.maxsi c0_i32_342 v628
  let v630 : BitVec 32 := Scalar.minsi c52_i32_343 v629
  let c64_i32_353 : BitVec 32 := 64#32
  let v652 : BitVec 32 := Scalar.muli v630 c64_i32_353
  v652
def k0_mult37 : BitVec 32 :=
  let c2_i32_338 : BitVec 32 := 2#32
  let c4_i32_337 : BitVec 32 := 4#32
  let v625 : BitVec 32 := Scalar.muli c2_i32_338 c4_i32_337
  let c256_i32_369 : BitVec 32 := 256#32
  let v676 : BitVec 32 := Scalar.muli v625 c256_i32_369
  v676
def k0_mult38 : BitVec 32 :=
  let c52_i32_368 : BitVec 32 := 52#32
  let c0_i32_367 : BitVec 32 := 0#32
  let c4_i32_365 : BitVec 32 := 4#32
  let c2_i32_338 : BitVec 32 := 2#32
  let c4_i32_337 : BitVec 32 := 4#32
  let v625 : BitVec 32 := Scalar.muli c2_i32_338 c4_i32_337
  let v672 : BitVec 32 := Scalar.muli c4_i32_365 v625
  let c4_i32_366 : BitVec 32 := 4#32
  let v673 : BitVec 32 := Scalar.subi v672 c4_i32_366
  let v674 : BitVec 32 := Scalar.maxsi c0_i32_367 v673
  let v675 : BitVec 32 := Scalar.minsi c52_i32_368 v674
  let c64_i32_370 : BitVec 32 := 64#32
  let v678 : BitVec 32 := Scalar.muli v675 c64_i32_370
  v678
def k0_mult39 : BitVec 32 :=
  let c2_i32_338 : BitVec 32 := 2#32
  let c4_i32_337 : BitVec 32 := 4#32
  let v625 : BitVec 32 := Scalar.muli c2_i32_338 c4_i32_337
  let c2_i32_378 : BitVec 32 := 2#32
  let v698 : BitVec 32 := Scalar.addi v625 c2_i32_378
  let c256_i32_391 : BitVec 32 := 256#32
  let v722 : BitVec 32 := Scalar.muli v698 c256_i32_391
  v722
def k0_mult40 : BitVec 32 :=
  let c52_i32_382 : BitVec 32 := 52#32
  let c0_i32_381 : BitVec 32 := 0#32
  let c4_i32_379 : BitVec 32 := 4#32
  let c2_i32_338 : BitVec 32 := 2#32
  let c4_i32_337 : BitVec 32 := 4#32
  let v625 : BitVec 32 := Scalar.muli c2_i32_338 c4_i32_337
  let c2_i32_378 : BitVec 32 := 2#32
  let v698 : BitVec 32 := Scalar.addi v625 c2_i32_378
  let v699 : BitVec 32 := Scalar.muli c4_i32_379 v698
  let c4_i32_380 : BitVec 32 := 4#32
  let v700 : BitVec 32 := Scalar.subi v699 c4_i32_380
  let v701 : BitVec 32 := Scalar.maxsi c0_i32_381 v700
  let v702 : BitVec 32 := Scalar.minsi c52_i32_382 v701
  let c64_i32_392 : BitVec 32 := 64#32
  let v724 : BitVec 32 := Scalar.muli v702 c64_i32_392
  v724
def k0_mult41 : BitVec 32 :=
  let c2_i32_338 : BitVec 32 := 2#32
  let c4_i32_337 : BitVec 32 := 4#32
  let v625 : BitVec 32 := Scalar.muli c2_i32_338 c4_i32_337
  let c1_i32_404 : BitVec 32 := 1#32
  let v744 : BitVec 32 := Scalar.addi v625 c1_i32_404
  let c256_i32_409 : BitVec 32 := 256#32
  let v749 : BitVec 32 := Scalar.muli v744 c256_i32_409
  v749
def k0_mult42 : BitVec 32 :=
  let c52_i32_408 : BitVec 32 := 52#32
  let c0_i32_407 : BitVec 32 := 0#32
  let c4_i32_405 : BitVec 32 := 4#32
  let c2_i32_338 : BitVec 32 := 2#32
  let c4_i32_337 : BitVec 32 := 4#32
  let v625 : BitVec 32 := Scalar.muli c2_i32_338 c4_i32_337
  let c1_i32_404 : BitVec 32 := 1#32
  let v744 : BitVec 32 := Scalar.addi v625 c1_i32_404
  let v745 : BitVec 32 := Scalar.muli c4_i32_405 v744
  let c4_i32_406 : BitVec 32 := 4#32
  let v746 : BitVec 32 := Scalar.subi v745 c4_i32_406
  let v747 : BitVec 32 := Scalar.maxsi c0_i32_407 v746
  let v748 : BitVec 32 := Scalar.minsi c52_i32_408 v747
  let c64_i32_410 : BitVec 32 := 64#32
  let v751 : BitVec 32 := Scalar.muli v748 c64_i32_410
  v751
def k0_mult43 : BitVec 32 :=
  let c2_i32_418 : BitVec 32 := 2#32
  let c5_i32 : BitVec 32 := 5#32
  let v771 : BitVec 32 := Scalar.muli c2_i32_418 c5_i32
  let c1_i32_419 : BitVec 32 := 1#32
  let v772 : BitVec 32 := Scalar.addi v771 c1_i32_419
  let c256_i32_432 : BitVec 32 := 256#32
  let v796 : BitVec 32 := Scalar.muli v772 c256_i32_432
  v796
def k0_mult44 : BitVec 32 :=
  let c52_i32_423 : BitVec 32 := 52#32
  let c0_i32_422 : BitVec 32 := 0#32
  let c4_i32_420 : BitVec 32 := 4#32
  let c2_i32_418 : BitVec 32 := 2#32
  let c5_i32 : BitVec 32 := 5#32
  let v771 : BitVec 32 := Scalar.muli c2_i32_418 c5_i32
  let c1_i32_419 : BitVec 32 := 1#32
  let v772 : BitVec 32 := Scalar.addi v771 c1_i32_419
  let v773 : BitVec 32 := Scalar.muli c4_i32_420 v772
  let c4_i32_421 : BitVec 32 := 4#32
  let v774 : BitVec 32 := Scalar.subi v773 c4_i32_421
  let v775 : BitVec 32 := Scalar.maxsi c0_i32_422 v774
  let v776 : BitVec 32 := Scalar.minsi c52_i32_423 v775
  let c64_i32_433 : BitVec 32 := 64#32
  let v798 : BitVec 32 := Scalar.muli v776 c64_i32_433
  v798
def k0_mult45 : BitVec 32 :=
  let c2_i32_418 : BitVec 32 := 2#32
  let c5_i32 : BitVec 32 := 5#32
  let v771 : BitVec 32 := Scalar.muli c2_i32_418 c5_i32
  let c256_i32_449 : BitVec 32 := 256#32
  let v822 : BitVec 32 := Scalar.muli v771 c256_i32_449
  v822
def k0_mult46 : BitVec 32 :=
  let c52_i32_448 : BitVec 32 := 52#32
  let c0_i32_447 : BitVec 32 := 0#32
  let c4_i32_445 : BitVec 32 := 4#32
  let c2_i32_418 : BitVec 32 := 2#32
  let c5_i32 : BitVec 32 := 5#32
  let v771 : BitVec 32 := Scalar.muli c2_i32_418 c5_i32
  let v818 : BitVec 32 := Scalar.muli c4_i32_445 v771
  let c4_i32_446 : BitVec 32 := 4#32
  let v819 : BitVec 32 := Scalar.subi v818 c4_i32_446
  let v820 : BitVec 32 := Scalar.maxsi c0_i32_447 v819
  let v821 : BitVec 32 := Scalar.minsi c52_i32_448 v820
  let c64_i32_450 : BitVec 32 := 64#32
  let v824 : BitVec 32 := Scalar.muli v821 c64_i32_450
  v824
def k0_mult47 : BitVec 32 :=
  let c2_i32_418 : BitVec 32 := 2#32
  let c5_i32 : BitVec 32 := 5#32
  let v771 : BitVec 32 := Scalar.muli c2_i32_418 c5_i32
  let c2_i32_458 : BitVec 32 := 2#32
  let v844 : BitVec 32 := Scalar.addi v771 c2_i32_458
  let c256_i32_471 : BitVec 32 := 256#32
  let v868 : BitVec 32 := Scalar.muli v844 c256_i32_471
  v868
def k0_mult48 : BitVec 32 :=
  let c52_i32_462 : BitVec 32 := 52#32
  let c0_i32_461 : BitVec 32 := 0#32
  let c4_i32_459 : BitVec 32 := 4#32
  let c2_i32_418 : BitVec 32 := 2#32
  let c5_i32 : BitVec 32 := 5#32
  let v771 : BitVec 32 := Scalar.muli c2_i32_418 c5_i32
  let c2_i32_458 : BitVec 32 := 2#32
  let v844 : BitVec 32 := Scalar.addi v771 c2_i32_458
  let v845 : BitVec 32 := Scalar.muli c4_i32_459 v844
  let c4_i32_460 : BitVec 32 := 4#32
  let v846 : BitVec 32 := Scalar.subi v845 c4_i32_460
  let v847 : BitVec 32 := Scalar.maxsi c0_i32_461 v846
  let v848 : BitVec 32 := Scalar.minsi c52_i32_462 v847
  let c64_i32_472 : BitVec 32 := 64#32
  let v870 : BitVec 32 := Scalar.muli v848 c64_i32_472
  v870
def k0_mult49 : BitVec 32 :=
  let c2_i32_418 : BitVec 32 := 2#32
  let c5_i32 : BitVec 32 := 5#32
  let v771 : BitVec 32 := Scalar.muli c2_i32_418 c5_i32
  let c1_i32_484 : BitVec 32 := 1#32
  let v890 : BitVec 32 := Scalar.addi v771 c1_i32_484
  let c256_i32_489 : BitVec 32 := 256#32
  let v895 : BitVec 32 := Scalar.muli v890 c256_i32_489
  v895
def k0_mult50 : BitVec 32 :=
  let c52_i32_488 : BitVec 32 := 52#32
  let c0_i32_487 : BitVec 32 := 0#32
  let c4_i32_485 : BitVec 32 := 4#32
  let c2_i32_418 : BitVec 32 := 2#32
  let c5_i32 : BitVec 32 := 5#32
  let v771 : BitVec 32 := Scalar.muli c2_i32_418 c5_i32
  let c1_i32_484 : BitVec 32 := 1#32
  let v890 : BitVec 32 := Scalar.addi v771 c1_i32_484
  let v891 : BitVec 32 := Scalar.muli c4_i32_485 v890
  let c4_i32_486 : BitVec 32 := 4#32
  let v892 : BitVec 32 := Scalar.subi v891 c4_i32_486
  let v893 : BitVec 32 := Scalar.maxsi c0_i32_487 v892
  let v894 : BitVec 32 := Scalar.minsi c52_i32_488 v893
  let c64_i32_490 : BitVec 32 := 64#32
  let v897 : BitVec 32 := Scalar.muli v894 c64_i32_490
  v897
def k0_mult51 : BitVec 32 :=
  let c2_i32_498 : BitVec 32 := 2#32
  let c6_i32 : BitVec 32 := 6#32
  let v917 : BitVec 32 := Scalar.muli c2_i32_498 c6_i32
  let c1_i32_499 : BitVec 32 := 1#32
  let v918 : BitVec 32 := Scalar.addi v917 c1_i32_499
  let c256_i32_512 : BitVec 32 := 256#32
  let v942 : BitVec 32 := Scalar.muli v918 c256_i32_512
  v942
def k0_mult52 : BitVec 32 :=
  let c52_i32_503 : BitVec 32 := 52#32
  let c0_i32_502 : BitVec 32 := 0#32
  let c4_i32_500 : BitVec 32 := 4#32
  let c2_i32_498 : BitVec 32 := 2#32
  let c6_i32 : BitVec 32 := 6#32
  let v917 : BitVec 32 := Scalar.muli c2_i32_498 c6_i32
  let c1_i32_499 : BitVec 32 := 1#32
  let v918 : BitVec 32 := Scalar.addi v917 c1_i32_499
  let v919 : BitVec 32 := Scalar.muli c4_i32_500 v918
  let c4_i32_501 : BitVec 32 := 4#32
  let v920 : BitVec 32 := Scalar.subi v919 c4_i32_501
  let v921 : BitVec 32 := Scalar.maxsi c0_i32_502 v920
  let v922 : BitVec 32 := Scalar.minsi c52_i32_503 v921
  let c64_i32_513 : BitVec 32 := 64#32
  let v944 : BitVec 32 := Scalar.muli v922 c64_i32_513
  v944
def k0_mult53 : BitVec 32 :=
  let c2_i32_498 : BitVec 32 := 2#32
  let c6_i32 : BitVec 32 := 6#32
  let v917 : BitVec 32 := Scalar.muli c2_i32_498 c6_i32
  let c256_i32_529 : BitVec 32 := 256#32
  let v968 : BitVec 32 := Scalar.muli v917 c256_i32_529
  v968
def k0_mult54 : BitVec 32 :=
  let c52_i32_528 : BitVec 32 := 52#32
  let c0_i32_527 : BitVec 32 := 0#32
  let c4_i32_525 : BitVec 32 := 4#32
  let c2_i32_498 : BitVec 32 := 2#32
  let c6_i32 : BitVec 32 := 6#32
  let v917 : BitVec 32 := Scalar.muli c2_i32_498 c6_i32
  let v964 : BitVec 32 := Scalar.muli c4_i32_525 v917
  let c4_i32_526 : BitVec 32 := 4#32
  let v965 : BitVec 32 := Scalar.subi v964 c4_i32_526
  let v966 : BitVec 32 := Scalar.maxsi c0_i32_527 v965
  let v967 : BitVec 32 := Scalar.minsi c52_i32_528 v966
  let c64_i32_530 : BitVec 32 := 64#32
  let v970 : BitVec 32 := Scalar.muli v967 c64_i32_530
  v970
def k0_mult55 : BitVec 32 :=
  let c2_i32_498 : BitVec 32 := 2#32
  let c6_i32 : BitVec 32 := 6#32
  let v917 : BitVec 32 := Scalar.muli c2_i32_498 c6_i32
  let c2_i32_538 : BitVec 32 := 2#32
  let v990 : BitVec 32 := Scalar.addi v917 c2_i32_538
  let c256_i32_551 : BitVec 32 := 256#32
  let v1014 : BitVec 32 := Scalar.muli v990 c256_i32_551
  v1014
def k0_mult56 : BitVec 32 :=
  let c52_i32_542 : BitVec 32 := 52#32
  let c0_i32_541 : BitVec 32 := 0#32
  let c4_i32_539 : BitVec 32 := 4#32
  let c2_i32_498 : BitVec 32 := 2#32
  let c6_i32 : BitVec 32 := 6#32
  let v917 : BitVec 32 := Scalar.muli c2_i32_498 c6_i32
  let c2_i32_538 : BitVec 32 := 2#32
  let v990 : BitVec 32 := Scalar.addi v917 c2_i32_538
  let v991 : BitVec 32 := Scalar.muli c4_i32_539 v990
  let c4_i32_540 : BitVec 32 := 4#32
  let v992 : BitVec 32 := Scalar.subi v991 c4_i32_540
  let v993 : BitVec 32 := Scalar.maxsi c0_i32_541 v992
  let v994 : BitVec 32 := Scalar.minsi c52_i32_542 v993
  let c64_i32_552 : BitVec 32 := 64#32
  let v1016 : BitVec 32 := Scalar.muli v994 c64_i32_552
  v1016
def k0_mult57 : BitVec 32 :=
  let c2_i32_498 : BitVec 32 := 2#32
  let c6_i32 : BitVec 32 := 6#32
  let v917 : BitVec 32 := Scalar.muli c2_i32_498 c6_i32
  let c1_i32_564 : BitVec 32 := 1#32
  let v1036 : BitVec 32 := Scalar.addi v917 c1_i32_564
  let c256_i32_569 : BitVec 32 := 256#32
  let v1041 : BitVec 32 := Scalar.muli v1036 c256_i32_569
  v1041
def k0_mult58 : BitVec 32 :=
  let c52_i32_568 : BitVec 32 := 52#32
  let c0_i32_567 : BitVec 32 := 0#32
  let c4_i32_565 : BitVec 32 := 4#32
  let c2_i32_498 : BitVec 32 := 2#32
  let c6_i32 : BitVec 32 := 6#32
  let v917 : BitVec 32 := Scalar.muli c2_i32_498 c6_i32
  let c1_i32_564 : BitVec 32 := 1#32
  let v1036 : BitVec 32 := Scalar.addi v917 c1_i32_564
  let v1037 : BitVec 32 := Scalar.muli c4_i32_565 v1036
  let c4_i32_566 : BitVec 32 := 4#32
  let v1038 : BitVec 32 := Scalar.subi v1037 c4_i32_566
  let v1039 : BitVec 32 := Scalar.maxsi c0_i32_567 v1038
  let v1040 : BitVec 32 := Scalar.minsi c52_i32_568 v1039
  let c64_i32_570 : BitVec 32 := 64#32
  let v1043 : BitVec 32 := Scalar.muli v1040 c64_i32_570
  v1043
def k0_mult59 : BitVec 32 :=
  let c3840_i32 : BitVec 32 := 3840#32
  c3840_i32
def k0_mult60 : BitVec 32 :=
  let c52_i32_579 : BitVec 32 := 52#32
  let c0_i32_578 : BitVec 32 := 0#32
  let c56_i32 : BitVec 32 := 56#32
  let v1063 : BitVec 32 := Scalar.maxsi c0_i32_578 c56_i32
  let v1064 : BitVec 32 := Scalar.minsi c52_i32_579 v1063
  let c64_i32_587 : BitVec 32 := 64#32
  let v1084 : BitVec 32 := Scalar.muli v1064 c64_i32_587
  v1084
def k0_mult61 : BitVec 32 :=
  let c3584_i32 : BitVec 32 := 3584#32
  c3584_i32
def k0_mult62 : BitVec 32 :=
  let c52_i32_601 : BitVec 32 := 52#32
  let c0_i32_600 : BitVec 32 := 0#32
  let c52_i32_599 : BitVec 32 := 52#32
  let v1104 : BitVec 32 := Scalar.maxsi c0_i32_600 c52_i32_599
  let v1105 : BitVec 32 := Scalar.minsi c52_i32_601 v1104
  let c64_i32_602 : BitVec 32 := 64#32
  let v1107 : BitVec 32 := Scalar.muli v1105 c64_i32_602
  v1107
def k0_mult63 : BitVec 32 :=
  let c3840_i32_613 : BitVec 32 := 3840#32
  c3840_i32_613
def k0_mult64 : BitVec 32 :=
  let c52_i32_612 : BitVec 32 := 52#32
  let c0_i32_611 : BitVec 32 := 0#32
  let c56_i32_610 : BitVec 32 := 56#32
  let v1127 : BitVec 32 := Scalar.maxsi c0_i32_611 c56_i32_610
  let v1128 : BitVec 32 := Scalar.minsi c52_i32_612 v1127
  let c64_i32_614 : BitVec 32 := 64#32
  let v1130 : BitVec 32 := Scalar.muli v1128 c64_i32_614
  v1130
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S2x4096x12288 : Shape := ⟨3, ![2, 4096, 12288]⟩
abbrev S4x16x15x31 : Shape := ⟨4, ![4, 16, 15, 31]⟩
abbrev S2x4096x2048 : Shape := ⟨3, ![2, 4096, 2048]⟩
abbrev S2x64x64x16x128 : Shape := ⟨5, ![2, 64, 64, 16, 128]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S8 : Shape := ⟨1, ![8]⟩
abbrev S1x8 : Shape := ⟨2, ![1, 8]⟩
abbrev S64x8 : Shape := ⟨2, ![64, 8]⟩
abbrev S64x8x1x1 : Shape := ⟨4, ![64, 8, 1, 1]⟩
abbrev S1x1x64x16 : Shape := ⟨4, ![1, 1, 64, 16]⟩
abbrev S64x8x64x16 : Shape := ⟨4, ![64, 8, 64, 16]⟩
abbrev S64x8x64x16x1 : Shape := ⟨5, ![64, 8, 64, 16, 1]⟩
abbrev S64x8x64x16x2 : Shape := ⟨5, ![64, 8, 64, 16, 2]⟩
abbrev S2x64x8x64x16x16x128 : Shape := ⟨7, ![2, 64, 8, 64, 16, 16, 128]⟩
abbrev S1x16x15x31 : Shape := ⟨4, ![1, 16, 15, 31]⟩
abbrev S16x15x31 : Shape := ⟨3, ![16, 15, 31]⟩
abbrev S16x64x8x64x16 : Shape := ⟨5, ![16, 64, 8, 64, 16]⟩
abbrev S16x64x64x8x16 : Shape := ⟨5, ![16, 64, 64, 8, 16]⟩
abbrev S2x16x64x64x8x16 : Shape := ⟨6, ![2, 16, 64, 64, 8, 16]⟩
abbrev S1x16x64x64x8x16 : Shape := ⟨6, ![1, 16, 64, 64, 8, 16]⟩
abbrev S2x16x64x64x128 : Shape := ⟨5, ![2, 16, 64, 64, 128]⟩
abbrev S2x16x64x64 : Shape := ⟨4, ![2, 16, 64, 64]⟩
abbrev S2x16x64x64x1 : Shape := ⟨5, ![2, 16, 64, 64, 1]⟩

abbrev nBuf : Space → Nat
  | .hbm => 153
  | .vmem => 0
  | .smem => 0
  | _ => 0

abbrev hbmTy0_0 (i : Nat) : BufTy := match i % 128 with
  | 0 => ⟨S2x4096x12288, .bf16⟩
  | 1 => ⟨S4x16x15x31, .f32⟩
  | 2 => ⟨S2x4096x12288, .f32⟩
  | 3 => ⟨S2x4096x2048, .f32⟩
  | 4 => ⟨S2x4096x2048, .f32⟩
  | 5 => ⟨S2x4096x2048, .f32⟩
  | 6 => ⟨S2x4096x2048, .f32⟩
  | 7 => ⟨S2x4096x2048, .f32⟩
  | 8 => ⟨S2x4096x2048, .f32⟩
  | 9 => ⟨S2x64x64x16x128, .f32⟩
  | 10 => ⟨S2x64x64x16x128, .f32⟩
  | 11 => ⟨S2x64x64x16x128, .f32⟩
  | 12 => ⟨S64, .i32⟩
  | 13 => ⟨S_, .i32⟩
  | 14 => ⟨S64, .i32⟩
  | 15 => ⟨S64, .i32⟩
  | 16 => ⟨S_, .i32⟩
  | 17 => ⟨S_, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S64x1, .i32⟩
  | 25 => ⟨S16, .i32⟩
  | 26 => ⟨S1x16, .i32⟩
  | 27 => ⟨S64x16, .i32⟩
  | 28 => ⟨S64x16, .i32⟩
  | 29 => ⟨S64x16, .i32⟩
  | 30 => ⟨S64x1, .i32⟩
  | 31 => ⟨S64x16, .i32⟩
  | 32 => ⟨S64x16, .i32⟩
  | 33 => ⟨S_, .i32⟩
  | 34 => ⟨S64x16, .i32⟩
  | 35 => ⟨S64x16, .i32⟩
  | 36 => ⟨S64, .i32⟩
  | 37 => ⟨S_, .i32⟩
  | 38 => ⟨S64, .i32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64x1, .i32⟩
  | 49 => ⟨S8, .i32⟩
  | 50 => ⟨S1x8, .i32⟩
  | 51 => ⟨S64x8, .i32⟩
  | 52 => ⟨S64x8, .i32⟩
  | 53 => ⟨S64x8, .i32⟩
  | 54 => ⟨S64x1, .i32⟩
  | 55 => ⟨S64x8, .i32⟩
  | 56 => ⟨S64x8, .i32⟩
  | 57 => ⟨S_, .i32⟩
  | 58 => ⟨S64x8, .i32⟩
  | 59 => ⟨S64x8, .i32⟩
  | 60 => ⟨S64x8x1x1, .i32⟩
  | 61 => ⟨S1x1x64x16, .i32⟩
  | 62 => ⟨S_, .i32⟩
  | 63 => ⟨S64x8x1x1, .i32⟩
  | 64 => ⟨S64x8x1x1, .i1⟩
  | 65 => ⟨S_, .i32⟩
  | 66 => ⟨S64x8x1x1, .i32⟩
  | 67 => ⟨S64x8x1x1, .i32⟩
  | 68 => ⟨S64x8x1x1, .i32⟩
  | 69 => ⟨S_, .i32⟩
  | 70 => ⟨S1x1x64x16, .i32⟩
  | 71 => ⟨S1x1x64x16, .i1⟩
  | 72 => ⟨S_, .i32⟩
  | 73 => ⟨S1x1x64x16, .i32⟩
  | 74 => ⟨S1x1x64x16, .i32⟩
  | 75 => ⟨S1x1x64x16, .i32⟩
  | 76 => ⟨S64x8x64x16, .i32⟩
  | 77 => ⟨S64x8x64x16, .i32⟩
  | 78 => ⟨S64x8x64x16x1, .i32⟩
  | 79 => ⟨S64x8x64x16x1, .i32⟩
  | 80 => ⟨S64x8x64x16x2, .i32⟩
  | 81 => ⟨S2x64x8x64x16x16x128, .f32⟩
  | 82 => ⟨S_, .i32⟩
  | 83 => ⟨S64x8x1x1, .i32⟩
  | 84 => ⟨S64x8x1x1, .i1⟩
  | 85 => ⟨S_, .i32⟩
  | 86 => ⟨S64x8x1x1, .i32⟩
  | 87 => ⟨S64x8x1x1, .i32⟩
  | 88 => ⟨S64x8x1x1, .i32⟩
  | 89 => ⟨S_, .i32⟩
  | 90 => ⟨S1x1x64x16, .i32⟩
  | 91 => ⟨S1x1x64x16, .i1⟩
  | 92 => ⟨S_, .i32⟩
  | 93 => ⟨S1x1x64x16, .i32⟩
  | 94 => ⟨S1x1x64x16, .i32⟩
  | 95 => ⟨S1x1x64x16, .i32⟩
  | 96 => ⟨S64x8x64x16, .i32⟩
  | 97 => ⟨S64x8x64x16, .i32⟩
  | 98 => ⟨S64x8x64x16x1, .i32⟩
  | 99 => ⟨S64x8x64x16x1, .i32⟩
  | 100 => ⟨S64x8x64x16x2, .i32⟩
  | 101 => ⟨S2x64x8x64x16x16x128, .f32⟩
  | 102 => ⟨S1x16x15x31, .f32⟩
  | 103 => ⟨S16x15x31, .f32⟩
  | 104 => ⟨S64x8x1x1, .i32⟩
  | 105 => ⟨S1x1x64x16, .i32⟩
  | 106 => ⟨S_, .i32⟩
  | 107 => ⟨S64x8x1x1, .i32⟩
  | 108 => ⟨S64x8x1x1, .i1⟩
  | 109 => ⟨S_, .i32⟩
  | 110 => ⟨S64x8x1x1, .i32⟩
  | 111 => ⟨S64x8x1x1, .i32⟩
  | 112 => ⟨S64x8x1x1, .i32⟩
  | 113 => ⟨S_, .i32⟩
  | 114 => ⟨S1x1x64x16, .i32⟩
  | 115 => ⟨S1x1x64x16, .i1⟩
  | 116 => ⟨S_, .i32⟩
  | 117 => ⟨S1x1x64x16, .i32⟩
  | 118 => ⟨S1x1x64x16, .i32⟩
  | 119 => ⟨S1x1x64x16, .i32⟩
  | 120 => ⟨S64x8x64x16, .i32⟩
  | 121 => ⟨S64x8x64x16, .i32⟩
  | 122 => ⟨S64x8x64x16x1, .i32⟩
  | 123 => ⟨S64x8x64x16x1, .i32⟩
  | 124 => ⟨S64x8x64x16x2, .i32⟩
  | 125 => ⟨S16x64x8x64x16, .f32⟩
  | 126 => ⟨S16x64x64x8x16, .f32⟩
  | 127 => ⟨S2x16x64x64x8x16, .f32⟩
  | _ => ⟨S2x4096x12288, .bf16⟩

abbrev hbmTy0_1 (i : Nat) : BufTy := match i % 128 with
  | 0 => ⟨S_, .f32⟩
  | 1 => ⟨S2x16x64x64x8x16, .f32⟩
  | 2 => ⟨S2x16x64x64x8x16, .f32⟩
  | 3 => ⟨S1x16x64x64x8x16, .f32⟩
  | 4 => ⟨S2x16x64x64x8x16, .f32⟩
  | 5 => ⟨S2x16x64x64x8x16, .f32⟩
  | 6 => ⟨S2x16x64x64x128, .f32⟩
  | 7 => ⟨S_, .f32⟩
  | 8 => ⟨S2x16x64x64, .f32⟩
  | 9 => ⟨S_, .f32⟩
  | 10 => ⟨S2x16x64x64, .f32⟩
  | 11 => ⟨S2x16x64x64, .f32⟩
  | 12 => ⟨S2x16x64x64x1, .f32⟩
  | 13 => ⟨S2x16x64x64x128, .f32⟩
  | 14 => ⟨S2x16x64x64x128, .f32⟩
  | 15 => ⟨S2x16x64x64x128, .f32⟩
  | 16 => ⟨S_, .f32⟩
  | 17 => ⟨S2x16x64x64, .f32⟩
  | 18 => ⟨S2x16x64x64x1, .f32⟩
  | 19 => ⟨S2x16x64x64x128, .f32⟩
  | 20 => ⟨S2x16x64x64x128, .f32⟩
  | 21 => ⟨S2x16x64x64x8x16, .f32⟩
  | 22 => ⟨S2x64x64x16x128, .f32⟩
  | 23 => ⟨S2x4096x2048, .f32⟩
  | 24 => ⟨S2x4096x2048, .bf16⟩
  | _ => ⟨S2x4096x12288, .bf16⟩

abbrev hbmTy (i : Nat) : BufTy := match i / 128 with
  | 0 => hbmTy0_0 i
  | 1 => hbmTy0_1 i
  | _ => ⟨S2x4096x12288, .bf16⟩

abbrev bufTy : (tb : Table) → Fin (tcTables nBuf tb) → BufTy
  | .hbm, ⟨i, _⟩ => hbmTy i
  | _, _ => ⟨S2x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_c_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_17 : Ref sig .tc := ⟨.hbm, 113, rfl⟩
abbrev main_v83 : Ref sig .tc := ⟨.hbm, 114, rfl⟩
abbrev main_v84 : Ref sig .tc := ⟨.hbm, 115, rfl⟩
abbrev main_c_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_21 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩

abbrev nD : Nat := 1
abbrev τ : Topo := Topo.v7x

variable {F : FTy → Type} [FloatOps F]
-- ==== InProj.lean ====
abbrev S2x4096x4096 : Shape := ⟨3, ![2, 4096, 4096]⟩
abbrev S4x4096x12288 : Shape := ⟨3, ![4, 4096, 12288]⟩
abbrev S8192x4096 : Shape := ⟨2, ![8192, 4096]⟩
abbrev S8192x12288 : Shape := ⟨2, ![8192, 12288]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩
abbrev S1x4096x1024 : Shape := ⟨3, ![1, 4096, 1024]⟩
abbrev S64x1024 : Shape := ⟨2, ![64, 1024]⟩
abbrev S2x4096x12288 : Shape := ⟨3, ![2, 4096, 12288]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x4096, .bf16⟩
  | .hbm, ⟨1, _⟩ => ⟨S4x4096x12288, .f32⟩
  | .hbm, ⟨2, _⟩ => ⟨S8192x4096, .bf16⟩
  | .hbm, ⟨3, _⟩ => ⟨S8192x12288, .bf16⟩
  | .hbm, ⟨4, _⟩ => ⟨S2x4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let arg0 : BitVec 32 := BitVec.ofNat 32 (i 0).val
  let c1024_i32 : BitVec 32 := 1024#32
  let v14 : BitVec 32 := Scalar.muli arg0 c1024_i32
  v14
def k0_off1 (i : grid0.Coords) : Fin 3 → Nat :=
  let c0_i32_9 : BitVec 32 := 0#32
  let c0_i32_10 : BitVec 32 := 0#32
  let arg0 : BitVec 32 := BitVec.ofNat 32 (i 0).val
  let c1024_i32 : BitVec 32 := 1024#32
  let v14 : BitVec 32 := Scalar.muli arg0 c1024_i32
  let v15 : BitVec 32 := v14
  ![0, 0, v15.toNat]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v14 : BitVec 32 := Scalar.muli arg0 c1024_i32
  v14
def k0_off2 (i : grid0.Coords) : Fin 3 → Nat :=
  let c0_i32_9 : BitVec 32 := 0#32
  let c0_i32_10 : BitVec 32 := 0#32
  let arg0 : BitVec 32 := BitVec.ofNat 32 (i 0).val
  let c1024_i32 : BitVec 32 := 1024#32
  let v14 : BitVec 32 := Scalar.muli arg0 c1024_i32
  let v15 : BitVec 32 := v14
  ![0, 0, v15.toNat]
@[reducible] def k0_t1_loop : Scf.Loop 32 :=
  let c0_i32_11 : BitVec 32 := 0#32
  let c64_i32 : BitVec 32 := 64#32
  let v18 : BitVec 32 := Scalar.addi c0_i32_11 c64_i32
  let c1_i32 : BitVec 32 := 1#32
  ⟨c0_i32_11, v18, c1_i32⟩
def k0_mult3 (k0_t1 : Fin k0_t1_loop.trips) : BitVec 32 :=
  let c0_i32_11 : BitVec 32 := 0#32
  let c1_i32 : BitVec 32 := 1#32
  let arg8 : BitVec 32 := Scf.iv c0_i32_11 c1_i32 k0_t1
  let c64_i32_15 : BitVec 32 := 64#32
  let v23 : BitVec 32 := Scalar.muli arg8 c64_i32_15
  v23
def k0_off3 (k0_t1 : Fin k0_t1_loop.trips) : Fin 2 → Nat :=
  let c0_i32_11 : BitVec 32 := 0#32
  let c1_i32 : BitVec 32 := 1#32
  let arg8 : BitVec 32 := Scf.iv c0_i32_11 c1_i32 k0_t1
  let c64_i32_15 : BitVec 32 := 64#32
  let v23 : BitVec 32 := Scalar.muli arg8 c64_i32_15
  let v24 : BitVec 32 := v23
  let v25 : Index := Scalar.indexCast v24
  let c0_16 : Index := 0#32
  ![v25.toNat, 0]
def k0_cond3 (i : grid0.Coords) : BitVec 1 :=
  let arg0 : BitVec 32 := BitVec.ofNat 32 (i 0).val
  let c1_i32_13 : BitVec 32 := 1#32
  let v19 : BitVec 32 := Scalar.addi arg0 c1_i32_13
  let c12_i32 : BitVec 32 := 12#32
  let v20 : BitVec 1 := Scalar.cmpi .slt v19 c12_i32
  let v21 : BitVec 32 := Scalar.extui v20
  let c0_i32_14 : BitVec 32 := 0#32
  let v22 : BitVec 1 := Scalar.cmpi .ne v21 c0_i32_14
  v22

def k0_mult4 (i : grid0.Coords) : BitVec 32 :=
  let arg0 : BitVec 32 := BitVec.ofNat 32 (i 0).val
  let c1_i32_15 : BitVec 32 := 1#32
  let v23 : BitVec 32 := Scalar.addi arg0 c1_i32_15
  let c1024_i32_16 : BitVec 32 := 1024#32
  let v24 : BitVec 32 := Scalar.muli v23 c1024_i32_16
  v24
def k0_off4 (i : grid0.Coords) : Fin 3 → Nat :=
  let c0_i32_17 : BitVec 32 := 0#32
  let c0_i32_18 : BitVec 32 := 0#32
  let arg0 : BitVec 32 := BitVec.ofNat 32 (i 0).val
  let c1_i32_15 : BitVec 32 := 1#32
  let v23 : BitVec 32 := Scalar.addi arg0 c1_i32_15
  let c1024_i32_16 : BitVec 32 := 1024#32
  let v24 : BitVec 32 := Scalar.muli v23 c1024_i32_16
  let v25 : BitVec 32 := v24
  ![0, 0, v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== InProjReferenceIdeal.lean ====
abbrev S2x4096x4096 : Shape := ⟨3, ![2, 4096, 4096]⟩
abbrev S4x4096x12288 : Shape := ⟨3, ![4, 4096, 12288]⟩
abbrev S1x4096x12288 : Shape := ⟨3, ![1, 4096, 12288]⟩
abbrev S4096x12288 : Shape := ⟨2, ![4096, 12288]⟩
abbrev S2x4096x12288 : Shape := ⟨3, ![2, 4096, 12288]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4x4096x12288, .f32⟩
  | .hbm, ⟨2, _⟩ => ⟨S2x4096x4096, .f32⟩
  | .hbm, ⟨3, _⟩ => ⟨S1x4096x12288, .f32⟩
  | .hbm, ⟨4, _⟩ => ⟨S4096x12288, .f32⟩
  | .hbm, ⟨5, _⟩ => ⟨S2x4096x12288, .f32⟩
  | .hbm, ⟨6, _⟩ => ⟨S2x4096x12288, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S2x4096x4096 : Shape := ⟨3, ![2, 4096, 4096]⟩
abbrev S4x4096x4096 : Shape := ⟨3, ![4, 4096, 4096]⟩
abbrev S2x12288 : Shape := ⟨2, ![2, 12288]⟩
abbrev S8192x4096 : Shape := ⟨2, ![8192, 4096]⟩
abbrev S2x3x1x4096 : Shape := ⟨4, ![2, 3, 1, 4096]⟩
abbrev S512x4096 : Shape := ⟨2, ![512, 4096]⟩
abbrev S512x1024 : Shape := ⟨2, ![512, 1024]⟩
abbrev S1x1x1x1024 : Shape := ⟨4, ![1, 1, 1, 1024]⟩
abbrev S4096x1024 : Shape := ⟨2, ![4096, 1024]⟩
abbrev S_ : Shape := ⟨0, ![]⟩
abbrev S1x4096x1024 : Shape := ⟨3, ![1, 4096, 1024]⟩
abbrev S64x1024 : Shape := ⟨2, ![64, 1024]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x4096, .bf16⟩
  | .hbm, ⟨1, _⟩ => ⟨S4x4096x4096, .f32⟩
  | .hbm, ⟨2, _⟩ => ⟨S2x4096x4096, .f32⟩
  | .hbm, ⟨3, _⟩ => ⟨S2x12288, .f32⟩
  | .hbm, ⟨4, _⟩ => ⟨S8192x4096, .bf16⟩
  | .hbm, ⟨5, _⟩ => ⟨S8192x4096, .f32⟩
  | .hbm, ⟨6, _⟩ => ⟨S2x3x1x4096, .f32⟩
  | .hbm, ⟨7, _⟩ => ⟨S8192x4096, .f32⟩
  | .hbm, ⟨8, _⟩ => ⟨S2x4096x4096, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .vmem, ⟨8, _⟩ => ⟨S4096x1024, .f32⟩
  | .local _ .vmem, ⟨9, _⟩ => ⟨S4096x1024, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let arg0 : BitVec 32 := BitVec.ofNat 32 (i 0).val
  let c1024_i32 : BitVec 32 := 1024#32
  let v20 : BitVec 32 := Scalar.muli arg0 c1024_i32
  v20
def k0_off1 (i : grid0.Coords) : Fin 3 → Nat :=
  let c0_i32_15 : BitVec 32 := 0#32
  let c0_i32_16 : BitVec 32 := 0#32
  let arg0 : BitVec 32 := BitVec.ofNat 32 (i 0).val
  let c1024_i32 : BitVec 32 := 1024#32
  let v20 : BitVec 32 := Scalar.muli arg0 c1024_i32
  let v21 : BitVec 32 := v20
  ![0, 0, v21.toNat]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v20 : BitVec 32 := Scalar.muli arg0 c1024_i32
  v20
def k0_off2 (i : grid0.Coords) : Fin 3 → Nat :=
  let c0_i32_15 : BitVec 32 := 0#32
  let c0_i32_16 : BitVec 32 := 0#32
  let arg0 : BitVec 32 := BitVec.ofNat 32 (i 0).val
  let c1024_i32 : BitVec 32 := 1024#32
  let v20 : BitVec 32 := Scalar.muli arg0 c1024_i32
  let v21 : BitVec 32 := v20
  ![0, 0, v21.toNat]
@[reducible] def k0_t1_loop : Scf.Loop 32 :=
  let c0_i32_17 : BitVec 32 := 0#32
  let c64_i32 : BitVec 32 := 64#32
  let v24 : BitVec 32 := Scalar.addi c0_i32_17 c64_i32
  let c1_i32 : BitVec 32 := 1#32
  ⟨c0_i32_17, v24, c1_i32⟩
def k0_mult3 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c64_i32_21 : BitVec 32 := 64#32
  let v29 : BitVec 32 := Scalar.muli arg10 c64_i32_21
  v29
def k0_off3 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c64_i32_21 : BitVec 32 := 64#32
  let v29 : BitVec 32 := Scalar.muli arg10 c64_i32_21
  let v30 : BitVec 32 := v29
  let v31 : Index := Scalar.indexCast v30
  let c0_22 : Index := 0#32
  ![v31.toNat, 0]
def k0_cond3 (i : grid0.Coords) : BitVec 1 :=
  let arg0 : BitVec 32 := BitVec.ofNat 32 (i 0).val
  let c1_i32_19 : BitVec 32 := 1#32
  let v25 : BitVec 32 := Scalar.addi arg0 c1_i32_19
  let c4_i32 : BitVec 32 := 4#32
  let v26 : BitVec 1 := Scalar.cmpi .slt v25 c4_i32
  let v27 : BitVec 32 := Scalar.extui v26
  let c0_i32_20 : BitVec 32 := 0#32
  let v28 : BitVec 1 := Scalar.cmpi .ne v27 c0_i32_20
  v28

def k0_mult4 (i : grid0.Coords) : BitVec 32 :=
  let arg0 : BitVec 32 := BitVec.ofNat 32 (i 0).val
  let c1_i32_21 : BitVec 32 := 1#32
  let v29 : BitVec 32 := Scalar.addi arg0 c1_i32_21
  let c1024_i32_22 : BitVec 32 := 1024#32
  let v30 : BitVec 32 := Scalar.muli v29 c1024_i32_22
  v30
def k0_off4 (i : grid0.Coords) : Fin 3 → Nat :=
  let c0_i32_23 : BitVec 32 := 0#32
  let c0_i32_24 : BitVec 32 := 0#32
  let arg0 : BitVec 32 := BitVec.ofNat 32 (i 0).val
  let c1_i32_21 : BitVec 32 := 1#32
  let v29 : BitVec 32 := Scalar.addi arg0 c1_i32_21
  let c1024_i32_22 : BitVec 32 := 1024#32
  let v30 : BitVec 32 := Scalar.muli v29 c1024_i32_22
  let v31 : BitVec 32 := v30
  ![0, 0, v31.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  ![v16.toNat, c2_i32.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S2x4096x4096 : Shape := ⟨3, ![2, 4096, 4096]⟩
abbrev S4x4096x4096 : Shape := ⟨3, ![4, 4096, 4096]⟩
abbrev S2x12288 : Shape := ⟨2, ![2, 12288]⟩
abbrev S2x4096 : Shape := ⟨2, ![2, 4096]⟩
abbrev S1x4096x4096 : Shape := ⟨3, ![1, 4096, 4096]⟩
abbrev S4096x4096 : Shape := ⟨2, ![4096, 4096]⟩
abbrev S2x1x4096 : Shape := ⟨3, ![2, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4x4096x4096, .f32⟩
  | .hbm, ⟨2, _⟩ => ⟨S2x4096x4096, .f32⟩
  | .hbm, ⟨3, _⟩ => ⟨S2x12288, .f32⟩
  | .hbm, ⟨4, _⟩ => ⟨S2x4096, .f32⟩
  | .hbm, ⟨5, _⟩ => ⟨S2x4096, .f32⟩
  | .hbm, ⟨6, _⟩ => ⟨S2x4096, .f32⟩
  | .hbm, ⟨7, _⟩ => ⟨S2x4096x4096, .f32⟩
  | .hbm, ⟨8, _⟩ => ⟨S1x4096x4096, .f32⟩
  | .hbm, ⟨9, _⟩ => ⟨S4096x4096, .f32⟩
  | .hbm, ⟨10, _⟩ => ⟨S2x4096x4096, .f32⟩
  | .hbm, ⟨11, _⟩ => ⟨S2x1x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== NormMod.lean ====
abbrev S2x4096x4096 : Shape := ⟨3, ![2, 4096, 4096]⟩
abbrev S4x4096 : Shape := ⟨2, ![4, 4096]⟩
abbrev S2x12288 : Shape := ⟨2, ![2, 12288]⟩
abbrev S8192x4096 : Shape := ⟨2, ![8192, 4096]⟩
abbrev S1x4096 : Shape := ⟨2, ![1, 4096]⟩
abbrev S4096 : Shape := ⟨1, ![4096]⟩
abbrev S2x3x1x4096 : Shape := ⟨4, ![2, 3, 1, 4096]⟩
abbrev S512x4096 : Shape := ⟨2, ![512, 4096]⟩
abbrev S1x1x1x4096 : Shape := ⟨4, ![1, 1, 1, 4096]⟩
abbrev S16x4096 : Shape := ⟨2, ![16, 4096]⟩
abbrev S16 : Shape := ⟨1, ![16]⟩
abbrev S16x1 : Shape := ⟨2, ![16, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x4096x4096, .f32⟩
  | .hbm, ⟨1, _⟩ => ⟨S4x4096, .f32⟩
  | .hbm, ⟨2, _⟩ => ⟨S2x12288, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S2x3x1x4096, .f32⟩
  | .hbm, ⟨7, _⟩ => ⟨S1x4096, .f32⟩
  | .hbm, ⟨8, _⟩ => ⟨S8192x4096, .bf16⟩
  | .hbm, ⟨9, _⟩ => ⟨S2x4096x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S512x4096, .bf16⟩
  | .local _ .vmem, ⟨8, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v9 : BitVec 32 := Scalar.addi c0_i32 c32_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v10 : BitVec 32 := Scalar.muli arg6 c16_i32
  v10
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32 : BitVec 32 := 16#32
  let v10 : BitVec 32 := Scalar.muli arg6 c16_i32
  let v11 : BitVec 32 := v10
  let v12 : Index := Scalar.indexCast v11
  let c0_10 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModReferenceIdeal.lean ====
abbrev S2x4096x4096 : Shape := ⟨3, ![2, 4096, 4096]⟩
abbrev S4x4096 : Shape := ⟨2, ![4, 4096]⟩
abbrev S2x12288 : Shape := ⟨2, ![2, 12288]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S2x4096x1 : Shape := ⟨3, ![2, 4096, 1]⟩
abbrev S1x1x4096 : Shape := ⟨3, ![1, 1, 4096]⟩
abbrev S2x1x4096 : Shape := ⟨3, ![2, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4x4096, .f32⟩
  | .hbm, ⟨2, _⟩ => ⟨S2x12288, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S1x4096, .f32⟩
  | .hbm, ⟨7, _⟩ => ⟨S4096, .f32⟩
  | .hbm, ⟨8, _⟩ => ⟨S2x4096x4096, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x4096, .f32⟩
  | .hbm, ⟨20, _⟩ => ⟨S2x4096x4096, .f32⟩
  | .hbm, ⟨21, _⟩ => ⟨S1x1x4096, .f32⟩
  | .hbm, ⟨22, _⟩ => ⟨S2x4096x4096, .f32⟩
  | .hbm, ⟨23, _⟩ => ⟨S2x4096x4096, .f32⟩
  | .hbm, ⟨24, _⟩ => ⟨S2x1x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S2x1x4096, .f32⟩
  | .hbm, ⟨31, _⟩ => ⟨S2x4096x4096, .f32⟩
  | .hbm, ⟨32, _⟩ => ⟨S2x4096x4096, .f32⟩
  | .hbm, ⟨33, _⟩ => ⟨S2x4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Gate.lean ====
abbrev S2x4096x2048 : Shape := ⟨3, ![2, 4096, 2048]⟩
abbrev S2x4096x12288 : Shape := ⟨3, ![2, 4096, 12288]⟩
abbrev S4x2048 : Shape := ⟨2, ![4, 2048]⟩
abbrev S8192x2048 : Shape := ⟨2, ![8192, 2048]⟩
abbrev S8192x12288 : Shape := ⟨2, ![8192, 12288]⟩
abbrev S1x2048 : Shape := ⟨2, ![1, 2048]⟩
abbrev S2048 : Shape := ⟨1, ![2048]⟩
abbrev S8192x4096 : Shape := ⟨2, ![8192, 4096]⟩
abbrev S512x2048 : Shape := ⟨2, ![512, 2048]⟩
abbrev S512x4096 : Shape := ⟨2, ![512, 4096]⟩
abbrev S16x2048 : Shape := ⟨2, ![16, 2048]⟩
abbrev S16 : Shape := ⟨1, ![16]⟩
abbrev S16x1 : Shape := ⟨2, ![16, 1]⟩
abbrev S2x4096x4096 : Shape := ⟨3, ![2, 4096, 4096]⟩

abbrev nBuf : Space → Nat
  | .hbm => 18
  | .vmem => 14
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x12288, .bf16⟩
  | .hbm, ⟨3, _⟩ => ⟨S2x4096x2048, .bf16⟩
  | .hbm, ⟨4, _⟩ => ⟨S4x2048, .f32⟩
  | .hbm, ⟨5, _⟩ => ⟨S4x2048, .f32⟩
  | .hbm, ⟨6, _⟩ => ⟨S8192x2048, .bf16⟩
  | .hbm, ⟨7, _⟩ => ⟨S8192x2048, .bf16⟩
  | .hbm, ⟨8, _⟩ => ⟨S8192x12288, .bf16⟩
  | .hbm, ⟨9, _⟩ => ⟨S8192x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S8192x4096, .bf16⟩
  | .hbm, ⟨17, _⟩ => ⟨S2x4096x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S512x4096, .bf16⟩
  | .local _ .vmem, ⟨13, _⟩ => ⟨S512x4096, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32 : BitVec 32 := 16#32
  let v1 : BitVec 32 := Scalar.muli arg9 c16_i32
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v1 : BitVec 32 := Scalar.muli arg9 c16_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v1 : BitVec 32 := Scalar.muli arg9 c16_i32
  let v2 : BitVec 32 := v1
  let v37 : Index := Scalar.indexCast v2
  let c0_8 : Index := 0#32
  ![v37.toNat, 0]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v1 : BitVec 32 := Scalar.muli arg9 c16_i32
  let v2 : BitVec 32 := v1
  let v68 : Index := Scalar.indexCast v2
  let c2048 : Index := 2048#32
  ![v68.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateReferenceIdeal.lean ====
abbrev S2x4096x2048 : Shape := ⟨3, ![2, 4096, 2048]⟩
abbrev S2x4096x12288 : Shape := ⟨3, ![2, 4096, 12288]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4096 : Shape := ⟨3, ![2, 4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x12288, .bf16⟩
  | .hbm, ⟨3, _⟩ => ⟨S2x4096x2048, .bf16⟩
  | .hbm, ⟨4, _⟩ => ⟨S4x2048, .f32⟩
  | .hbm, ⟨5, _⟩ => ⟨S4x2048, .f32⟩
  | .hbm, ⟨6, _⟩ => ⟨S2x4096x12288, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S1x2048, .f32⟩
  | .hbm, ⟨17, _⟩ => ⟨S2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x2048, .f32⟩
  | .hbm, ⟨30, _⟩ => ⟨S2x4096x2048, .f32⟩
  | .hbm, ⟨31, _⟩ => ⟨S1x1x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096x2048, .f32⟩
  | .hbm, ⟨38, _⟩ => ⟨S2x4096x2048, .f32⟩
  | .hbm, ⟨39, _⟩ => ⟨S_, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S1x2048, .f32⟩
  | .hbm, ⟨46, _⟩ => ⟨S2048, .f32⟩
  | .hbm, ⟨47, _⟩ => ⟨S2x4096x2048, .f32⟩
  | .hbm, ⟨48, _⟩ => ⟨S_, .f32⟩
  | .hbm, ⟨49, _⟩ => ⟨S2x4096, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x1, .f32⟩
  | .hbm, ⟨58, _⟩ => ⟨S2x4096x2048, .f32⟩
  | .hbm, ⟨59, _⟩ => ⟨S2x4096x2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S_, .f32⟩
  | .hbm, ⟨66, _⟩ => ⟨S2x4096x2048, .f32⟩
  | .hbm, ⟨67, _⟩ => ⟨S2x4096x2048, .f32⟩
  | .hbm, ⟨68, _⟩ => ⟨S_, .f32⟩
  | .hbm, ⟨69, _⟩ => ⟨S2x4096x2048, .f32⟩
  | .hbm, ⟨70, _⟩ => ⟨S2x4096x2048, .f32⟩
  | .hbm, ⟨71, _⟩ => ⟨S2x4096x2048, .f32⟩
  | .hbm, ⟨72, _⟩ => ⟨S2x4096x2048, .f32⟩
  | .hbm, ⟨73, _⟩ => ⟨S2x4096x4096, .f32⟩
  | .hbm, ⟨74, _⟩ => ⟨S2x4096x4096, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== FinalNorm.lean ====
abbrev S2x4096x4096 : Shape := ⟨3, ![2, 4096, 4096]⟩
abbrev S4096 : Shape := ⟨1, ![4096]⟩
abbrev S8192x4096 : Shape := ⟨2, ![8192, 4096]⟩
abbrev S2x16x8x32x4096 : Shape := ⟨5, ![2, 16, 8, 32, 4096]⟩
abbrev S2x16x32x8x4096 : Shape := ⟨5, ![2, 16, 32, 8, 4096]⟩
abbrev S1x4096 : Shape := ⟨2, ![1, 4096]⟩
abbrev S256x4096 : Shape := ⟨2, ![256, 4096]⟩
abbrev S32x256x128 : Shape := ⟨3, ![32, 256, 128]⟩
abbrev S16x4096 : Shape := ⟨2, ![16, 4096]⟩
abbrev S16 : Shape := ⟨1, ![16]⟩
abbrev S16x1 : Shape := ⟨2, ![16, 1]⟩
abbrev S16x128 : Shape := ⟨2, ![16, 128]⟩
abbrev S1x16x128 : Shape := ⟨3, ![1, 16, 128]⟩
abbrev S1x32x128 : Shape := ⟨3, ![1, 32, 128]⟩
abbrev S32x128 : Shape := ⟨2, ![32, 128]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S8192x4096, .f32⟩
  | .hbm, ⟨3, _⟩ => ⟨S2x16x8x32x4096, .f32⟩
  | .hbm, ⟨4, _⟩ => ⟨S2x16x32x8x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S2x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S32x256x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  v2
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v4 : Index := Scalar.indexCast v3
  let c0 : Index := 0#32
  ![v4.toNat, 0]
def k0_off2 (k0_t1 : Fin k0_t1_loop.trips) : Fin 3 → Nat :=
  let c0_9 : Index := 0#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v22 : Index := Scalar.indexCast v3
  let c0_10 : Index := 0#32
  ![0, v22.toNat, 0]
def k0_off3 (k0_t1 : Fin k0_t1_loop.trips) : Fin 3 → Nat :=
  let c1 : Index := 1#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v27 : Index := Scalar.indexCast v3
  let c0_11 : Index := 0#32
  ![1, v27.toNat, 0]
def k0_off4 (k0_t1 : Fin k0_t1_loop.trips) : Fin 3 → Nat :=
  let c2 : Index := 2#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v32 : Index := Scalar.indexCast v3
  let c0_12 : Index := 0#32
  ![2, v32.toNat, 0]
def k0_off5 (k0_t1 : Fin k0_t1_loop.trips) : Fin 3 → Nat :=
  let c3 : Index := 3#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v37 : Index := Scalar.indexCast v3
  let c0_13 : Index := 0#32
  ![3, v37.toNat, 0]
def k0_off6 (k0_t1 : Fin k0_t1_loop.trips) : Fin 3 → Nat :=
  let c4 : Index := 4#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v42 : Index := Scalar.indexCast v3
  let c0_14 : Index := 0#32
  ![4, v42.toNat, 0]
def k0_off7 (k0_t1 : Fin k0_t1_loop.trips) : Fin 3 → Nat :=
  let c5 : Index := 5#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v47 : Index := Scalar.indexCast v3
  let c0_15 : Index := 0#32
  ![5, v47.toNat, 0]
def k0_off8 (k0_t1 : Fin k0_t1_loop.trips) : Fin 3 → Nat :=
  let c6 : Index := 6#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v52 : Index := Scalar.indexCast v3
  let c0_16 : Index := 0#32
  ![6, v52.toNat, 0]
def k0_off9 (k0_t1 : Fin k0_t1_loop.trips) : Fin 3 → Nat :=
  let c7 : Index := 7#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v57 : Index := Scalar.indexCast v3
  let c0_17 : Index := 0#32
  ![7, v57.toNat, 0]
def k0_off10 (k0_t1 : Fin k0_t1_loop.trips) : Fin 3 → Nat :=
  let c8 : Index := 8#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v62 : Index := Scalar.indexCast v3
  let c0_18 : Index := 0#32
  ![8, v62.toNat, 0]
def k0_off11 (k0_t1 : Fin k0_t1_loop.trips) : Fin 3 → Nat :=
  let c9 : Index := 9#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v67 : Index := Scalar.indexCast v3
  let c0_19 : Index := 0#32
  ![9, v67.toNat, 0]
def k0_off12 (k0_t1 : Fin k0_t1_loop.trips) : Fin 3 → Nat :=
  let c10 : Index := 10#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v72 : Index := Scalar.indexCast v3
  let c0_20 : Index := 0#32
  ![10, v72.toNat, 0]
def k0_off13 (k0_t1 : Fin k0_t1_loop.trips) : Fin 3 → Nat :=
  let c11 : Index := 11#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v77 : Index := Scalar.indexCast v3
  let c0_21 : Index := 0#32
  ![11, v77.toNat, 0]
def k0_off14 (k0_t1 : Fin k0_t1_loop.trips) : Fin 3 → Nat :=
  let c12 : Index := 12#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v82 : Index := Scalar.indexCast v3
  let c0_22 : Index := 0#32
  ![12, v82.toNat, 0]
def k0_off15 (k0_t1 : Fin k0_t1_loop.trips) : Fin 3 → Nat :=
  let c13 : Index := 13#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v87 : Index := Scalar.indexCast v3
  let c0_23 : Index := 0#32
  ![13, v87.toNat, 0]
def k0_off16 (k0_t1 : Fin k0_t1_loop.trips) : Fin 3 → Nat :=
  let c14 : Index := 14#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v92 : Index := Scalar.indexCast v3
  let c0_24 : Index := 0#32
  ![14, v92.toNat, 0]
def k0_off17 (k0_t1 : Fin k0_t1_loop.trips) : Fin 3 → Nat :=
  let c15 : Index := 15#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v97 : Index := Scalar.indexCast v3
  let c0_25 : Index := 0#32
  ![15, v97.toNat, 0]
def k0_off18 (k0_t1 : Fin k0_t1_loop.trips) : Fin 3 → Nat :=
  let c16 : Index := 16#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v102 : Index := Scalar.indexCast v3
  let c0_26 : Index := 0#32
  ![16, v102.toNat, 0]
def k0_off19 (k0_t1 : Fin k0_t1_loop.trips) : Fin 3 → Nat :=
  let c17 : Index := 17#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v107 : Index := Scalar.indexCast v3
  let c0_27 : Index := 0#32
  ![17, v107.toNat, 0]
def k0_off20 (k0_t1 : Fin k0_t1_loop.trips) : Fin 3 → Nat :=
  let c18 : Index := 18#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v112 : Index := Scalar.indexCast v3
  let c0_28 : Index := 0#32
  ![18, v112.toNat, 0]
def k0_off21 (k0_t1 : Fin k0_t1_loop.trips) : Fin 3 → Nat :=
  let c19 : Index := 19#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v117 : Index := Scalar.indexCast v3
  let c0_29 : Index := 0#32
  ![19, v117.toNat, 0]
def k0_off22 (k0_t1 : Fin k0_t1_loop.trips) : Fin 3 → Nat :=
  let c20 : Index := 20#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v122 : Index := Scalar.indexCast v3
  let c0_30 : Index := 0#32
  ![20, v122.toNat, 0]
def k0_off23 (k0_t1 : Fin k0_t1_loop.trips) : Fin 3 → Nat :=
  let c21 : Index := 21#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v127 : Index := Scalar.indexCast v3
  let c0_31 : Index := 0#32
  ![21, v127.toNat, 0]
def k0_off24 (k0_t1 : Fin k0_t1_loop.trips) : Fin 3 → Nat :=
  let c22 : Index := 22#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v132 : Index := Scalar.indexCast v3
  let c0_32 : Index := 0#32
  ![22, v132.toNat, 0]
def k0_off25 (k0_t1 : Fin k0_t1_loop.trips) : Fin 3 → Nat :=
  let c23 : Index := 23#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v137 : Index := Scalar.indexCast v3
  let c0_33 : Index := 0#32
  ![23, v137.toNat, 0]
def k0_off26 (k0_t1 : Fin k0_t1_loop.trips) : Fin 3 → Nat :=
  let c24 : Index := 24#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v142 : Index := Scalar.indexCast v3
  let c0_34 : Index := 0#32
  ![24, v142.toNat, 0]
def k0_off27 (k0_t1 : Fin k0_t1_loop.trips) : Fin 3 → Nat :=
  let c25 : Index := 25#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v147 : Index := Scalar.indexCast v3
  let c0_35 : Index := 0#32
  ![25, v147.toNat, 0]
def k0_off28 (k0_t1 : Fin k0_t1_loop.trips) : Fin 3 → Nat :=
  let c26 : Index := 26#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v152 : Index := Scalar.indexCast v3
  let c0_36 : Index := 0#32
  ![26, v152.toNat, 0]
def k0_off29 (k0_t1 : Fin k0_t1_loop.trips) : Fin 3 → Nat :=
  let c27 : Index := 27#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v157 : Index := Scalar.indexCast v3
  let c0_37 : Index := 0#32
  ![27, v157.toNat, 0]
def k0_off30 (k0_t1 : Fin k0_t1_loop.trips) : Fin 3 → Nat :=
  let c28 : Index := 28#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v162 : Index := Scalar.indexCast v3
  let c0_38 : Index := 0#32
  ![28, v162.toNat, 0]
def k0_off31 (k0_t1 : Fin k0_t1_loop.trips) : Fin 3 → Nat :=
  let c29 : Index := 29#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v167 : Index := Scalar.indexCast v3
  let c0_39 : Index := 0#32
  ![29, v167.toNat, 0]
def k0_off32 (k0_t1 : Fin k0_t1_loop.trips) : Fin 3 → Nat :=
  let c30 : Index := 30#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v172 : Index := Scalar.indexCast v3
  let c0_40 : Index := 0#32
  ![30, v172.toNat, 0]
def k0_off33 (k0_t1 : Fin k0_t1_loop.trips) : Fin 3 → Nat :=
  let c31 : Index := 31#32
  let c0_i32 : BitVec 32 := 0#32
  let c1_i32 : BitVec 32 := 1#32
  let arg5 : BitVec 32 := Scf.iv c0_i32 c1_i32 k0_t1
  let c16_i32_4 : BitVec 32 := 16#32
  let v2 : BitVec 32 := Scalar.muli arg5 c16_i32_4
  let v3 : BitVec 32 := v2
  let v177 : Index := Scalar.indexCast v3
  let c0_41 : Index := 0#32
  ![31, v177.toNat, 0]
@[reducible] def k0_t2_loop : Scf.Loop 32 :=
  let c0_i32_1 : BitVec 32 := 0#32
  let c32_i32 : BitVec 32 := 32#32
  let v1 : BitVec 32 := Scalar.addi c0_i32_1 c32_i32
  let c1_i32_2 : BitVec 32 := 1#32
  ⟨c0_i32_1, v1, c1_i32_2⟩
def k0_mult2 (k0_t2 : Fin k0_t2_loop.trips) : BitVec 32 :=
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  v2
def k0_off34 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v4 : Index := Scalar.indexCast arg5
  let c0 : Index := 0#32
  let c0_4 : Index := 0#32
  ![v4.toNat, 0, 0]
def k0_off35 (k0_t2 : Fin k0_t2_loop.trips) : Fin 2 → Nat :=
  let c0_5 : Index := 0#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v7 : Index := Scalar.indexCast v3
  ![0, v7.toNat]
def k0_off36 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v9 : Index := Scalar.indexCast arg5
  let c1 : Index := 1#32
  let c0_6 : Index := 0#32
  ![v9.toNat, 1, 0]
def k0_off37 (k0_t2 : Fin k0_t2_loop.trips) : Fin 2 → Nat :=
  let c32 : Index := 32#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v12 : Index := Scalar.indexCast v3
  ![32, v12.toNat]
def k0_off38 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v14 : Index := Scalar.indexCast arg5
  let c2 : Index := 2#32
  let c0_7 : Index := 0#32
  ![v14.toNat, 2, 0]
def k0_off39 (k0_t2 : Fin k0_t2_loop.trips) : Fin 2 → Nat :=
  let c64 : Index := 64#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v17 : Index := Scalar.indexCast v3
  ![64, v17.toNat]
def k0_off40 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v19 : Index := Scalar.indexCast arg5
  let c3 : Index := 3#32
  let c0_8 : Index := 0#32
  ![v19.toNat, 3, 0]
def k0_off41 (k0_t2 : Fin k0_t2_loop.trips) : Fin 2 → Nat :=
  let c96 : Index := 96#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v22 : Index := Scalar.indexCast v3
  ![96, v22.toNat]
def k0_off42 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v24 : Index := Scalar.indexCast arg5
  let c4 : Index := 4#32
  let c0_9 : Index := 0#32
  ![v24.toNat, 4, 0]
def k0_off43 (k0_t2 : Fin k0_t2_loop.trips) : Fin 2 → Nat :=
  let c128 : Index := 128#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v27 : Index := Scalar.indexCast v3
  ![128, v27.toNat]
def k0_off44 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v29 : Index := Scalar.indexCast arg5
  let c5 : Index := 5#32
  let c0_10 : Index := 0#32
  ![v29.toNat, 5, 0]
def k0_off45 (k0_t2 : Fin k0_t2_loop.trips) : Fin 2 → Nat :=
  let c160 : Index := 160#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v32 : Index := Scalar.indexCast v3
  ![160, v32.toNat]
def k0_off46 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v34 : Index := Scalar.indexCast arg5
  let c6 : Index := 6#32
  let c0_11 : Index := 0#32
  ![v34.toNat, 6, 0]
def k0_off47 (k0_t2 : Fin k0_t2_loop.trips) : Fin 2 → Nat :=
  let c192 : Index := 192#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v37 : Index := Scalar.indexCast v3
  ![192, v37.toNat]
def k0_off48 (k0_t2 : Fin k0_t2_loop.trips) : Fin 3 → Nat :=
  let c0_i32_1 : BitVec 32 := 0#32
  let c1_i32_2 : BitVec 32 := 1#32
  let arg5 : BitVec 32 := Scf.iv c0_i32_1 c1_i32_2 k0_t2
  let v39 : Index := Scalar.indexCast arg5
  let c7 : Index := 7#32
  let c0_12 : Index := 0#32
  ![v39.toNat, 7, 0]
def k0_off49 (k0_t2 : Fin k0_t2_loop.trips) : Fin 2 → Nat :=
  let c224 : Index := 224#32
  let c0_i32_1 : BitVec 32 := 0#32
  let c1_i32_2 : BitVec 32 := 1#32
  let arg5 : BitVec 32 := Scf.iv c0_i32_1 c1_i32_2 k0_t2
  let c128_i32 : BitVec 32 := 128#32
  let v2 : BitVec 32 := Scalar.muli arg5 c128_i32
  let v3 : BitVec 32 := v2
  let v42 : Index := Scalar.indexCast v3
  ![224, v42.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Run.lean ====
/- One run of the attention kernel's body: from four input blocks to the list of pieces it stores. -/
module

public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3636000 in
/-- The body's run. The four blocks it reads stay as they are; the block it writes ends at the pieces `L` written
    over whatever it held before; the two score buffers end at something nothing reads. -/
def kernelRun (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x1x3x256x768 .f32) (harg5 : arg5.IsWhole) (arg6 : Memref sig .tc .vmem S4096x128 .bf16) (harg6 : arg6.IsWhole) (arg7 : Memref sig .tc .vmem S256x768 .f32) (harg7 : arg7.IsWhole) (arg8 : Memref sig .tc .vmem S256x768 .f32) (harg8 : arg8.IsWhole)
    (x0 : Vec F S4096x128 .bf16) (x1 : Vec F S4096x128 .bf16) (x2 : Vec F S4096x128 .bf16) (x3 : Vec F S1x1x3x256x768 .f32) :
    { L : List (View.Piece (Elt F) S4096x128 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d) ∗ (∃ d, owns (c : Thread nD τ) arg8 fullShare d)) -∗ K ⟨⟩))
          ⊢ wp frame (wpE (defs₀ (F := F)) Variants.none c none) E (cc0_natten i arg2 harg2 arg3 harg3 arg4 harg4 arg5 harg5 arg6 harg6 arg7 harg7 arg8 harg8) K } := by
  refine ⟨?_, fun E K => ?run⟩
  case run =>
    simp only [cc0_natten_eq_skeleton]; unfold cc0_natten_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _, _; isplitr; swap; · iexact HS0
      ipureintro; rfl
    iexists _, _; isplitr; swap; · iexact HS1
    ipureintro; rfl

end Cert.KernelIdeal.Gen

end
-- ==== Proof.Block.lean ====
/- What one grid point of the attention kernel leaves in its output block, as one function of the four blocks it
   reads: sixteen stripes of 256 queries, each against 768 keys. -/
module

public import proofs.«01_k».proof.Proof.Run
public import Idealize.ShloMosaic.Lib.Pointwise
public import Idealize.ShloMosaic.Lib.WholeRead
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- `n` consecutive rows of a `[4096, 128]` block, from row `o` on. -/
def rowsFrom {e : EltTy} (n o : ℕ) (h : o + n ≤ 4096) (x : Vec F S4096x128 e) : Vec F ⟨2, ![n, 128]⟩ e :=
  fun j => x (ix2 ⟨o + (j 0).val, lt_of_lt_of_le (Nat.add_lt_add_left (j 0).isLt o) h⟩ (j 1))

/-- One of the three bias tables of a head. -/
def tableAt {e : EltTy} (p : Fin 3) (b : Vec F S1x1x3x256x768 e) : Vec F S1x1x1x256x768 e :=
  fun j => b (ix5 0 0 p (j 3) (j 4))

/-- The chunk of 256 keys at which the 768 keys of query stripe `n` begin. -/
def keyChunk (n : ℕ) : ℕ := min (n - 1) 13

/-- Which bias table query stripe `n` takes: the stripe's distance from its first key chunk. -/
def variantOf (n : ℕ) : Fin 3 := ⟨min (n - keyChunk n) 2, by omega⟩

/-- One stripe: 256 queries, 768 keys and values, the bias table of their positions. -/
def stripe (q : Vec F S256x128 .bf16) (k : Vec F S768x128 .bf16) (b : Vec F S1x1x1x256x768 .f32) (v : Vec F S768x128 .bf16) :
    Vec F S256x128 .bf16 := k0_pay1 (k0_pay40 q k b) v

theorem keyChunk_le (n : ℕ) : 256 * keyChunk n + 768 ≤ 4096 := by unfold keyChunk; omega

/-- The whole output block: row `r` belongs to stripe `r / 256`. -/
def blockOut (x0 x1 x2 : Vec F S4096x128 .bf16) (x3 : Vec F S1x1x3x256x768 .f32) : Vec F S4096x128 .bf16 := fun y =>
  stripe (rowsFrom 256 (256 * ((y 0).val / 256)) (by have := (y 0).isLt; change _ < 4096 at this; omega) x0)
    (rowsFrom 768 (256 * keyChunk ((y 0).val / 256)) (keyChunk_le _) x1)
    (tableAt (variantOf ((y 0).val / 256)) x3)
    (rowsFrom 768 (256 * keyChunk ((y 0).val / 256)) (keyChunk_le _) x2)
    (ix2 ⟨(y 0).val % 256, Nat.mod_lt _ (by norm_num)⟩ (y 1))

theorem read_rows256 {arg : Memref sig .tc .vmem S4096x128 .bf16} (h : arg.IsWhole) (x : Vec F S4096x128 .bf16) (o : ℕ)
    (inb : ∀ a, (![o, 0] : Fin 2 → ℕ) a + S256x128.size a ≤ S4096x128.size a) (ho : o + 256 ≤ 4096) :
    View.readAt (Elt F) arg.view (Rect.unit (s := S4096x128) ![o, 0] S256x128.size inb).toLoadRect (h.unread x) = rowsFrom 256 o ho x := by
  funext j
  rw [h.readAt_unread]
  refine congrArg x (funext fun a => Fin.ext ?_)
  match a with
  | ⟨0, _⟩ => show o + 1 * _ = o + _; rw [Nat.one_mul]; rfl
  | ⟨1, _⟩ => show 0 + 1 * _ = _; rw [Nat.one_mul, Nat.zero_add]; rfl

theorem read_rows768 {arg : Memref sig .tc .vmem S4096x128 .bf16} (h : arg.IsWhole) (x : Vec F S4096x128 .bf16) (o : ℕ)
    (inb : ∀ a, (![o, 0] : Fin 2 → ℕ) a + S768x128.size a ≤ S4096x128.size a) (ho : o + 768 ≤ 4096) :
    View.readAt (Elt F) arg.view (Rect.unit (s := S4096x128) ![o, 0] S768x128.size inb).toLoadRect (h.unread x) = rowsFrom 768 o ho x := by
  funext j
  rw [h.readAt_unread]
  refine congrArg x (funext fun a => Fin.ext ?_)
  match a with
  | ⟨0, _⟩ => show o + 1 * _ = o + _; rw [Nat.one_mul]; rfl
  | ⟨1, _⟩ => show 0 + 1 * _ = _; rw [Nat.one_mul, Nat.zero_add]; rfl

theorem read_table {arg : Memref sig .tc .vmem S1x1x3x256x768 .f32} (h : arg.IsWhole) (x : Vec F S1x1x3x256x768 .f32) (p : ℕ)
    (inb : ∀ a, (![0, 0, p, 0, 0] : Fin 5 → ℕ) a + S1x1x1x256x768.size a ≤ S1x1x3x256x768.size a) (hp : p < 3) :
    View.readAt (Elt F) arg.view (Rect.unit (s := S1x1x3x256x768) ![0, 0, p, 0, 0] S1x1x1x256x768.size inb).toLoadRect (h.unread x)
      = tableAt ⟨p, hp⟩ x := by
  funext j
  rw [h.readAt_unread]
  refine congrArg x (funext fun a => Fin.ext ?_)
  match a with
  | ⟨0, _⟩ => exact Nat.lt_one_iff.mp (Fin.isLt _)
  | ⟨1, _⟩ => exact Nat.lt_one_iff.mp (Fin.isLt _)
  | ⟨2, _⟩ =>
    show p + 1 * (j 2).val = p
    have : (j 2).val = 0 := Nat.lt_one_iff.mp (j 2).isLt
    omega
  | ⟨3, _⟩ => show 0 + 1 * _ = _; rw [Nat.one_mul, Nat.zero_add]; rfl
  | ⟨4, _⟩ => show 0 + 1 * _ = _; rw [Nat.one_mul, Nat.zero_add]; rfl

/-- Stripe `n`'s stored rows are the output block's. -/
theorem stripe_eq_blockOut (x0 x1 x2 : Vec F S4096x128 .bf16) (x3 : Vec F S1x1x3x256x768 .f32) (n o : ℕ) (ho : o = 256 * n)
    (h0 : o + 256 ≤ 4096) (b : ℕ) (hb : b = 256 * keyChunk n) (h1 : b + 768 ≤ 4096) (p : Fin 3) (hp : p = variantOf n)
    (inb : ∀ a, (![o, 0] : Fin 2 → ℕ) a + S256x128.size a ≤ S4096x128.size a)
    (x : (Rect.unit (s := S4096x128) ![o, 0] S256x128.size inb).shape.Idx) :
    stripe (rowsFrom 256 o h0 x0) (rowsFrom 768 b h1 x1) (tableAt p x3) (rowsFrom 768 b h1 x2) x
      = blockOut x0 x1 x2 x3 ((Rect.unit (s := S4096x128) ![o, 0] S256x128.size inb).emb x) := by
  subst ho hb hp
  have hx : (x 0).val < 256 := (x 0).isLt
  have hd : (((Rect.unit (s := S4096x128) ![256 * n, 0] S256x128.size inb).emb x) 0).val / 256 = n := by
    show (256 * n + 1 * (x 0).val) / 256 = n; omega
  have hm : (((Rect.unit (s := S4096x128) ![256 * n, 0] S256x128.size inb).emb x) 0).val % 256 = (x 0).val := by
    show (256 * n + 1 * (x 0).val) % 256 = _; omega
  have key : ∀ (n' : ℕ) (h0' : 256 * n' + 256 ≤ 4096) (z : S256x128.Idx), n' = n → z = x →
      stripe (rowsFrom 256 (256 * n) h0 x0) (rowsFrom 768 (256 * keyChunk n) h1 x1) (tableAt (variantOf n) x3) (rowsFrom 768 (256 * keyChunk n) h1 x2) x
        = stripe (rowsFrom 256 (256 * n') h0' x0) (rowsFrom 768 (256 * keyChunk n') (keyChunk_le n') x1) (tableAt (variantOf n') x3)
            (rowsFrom 768 (256 * keyChunk n') (keyChunk_le n') x2) z := by
    rintro _ _ _ rfl rfl; rfl
  refine key _ _ _ hd (funext fun a => Fin.ext ?_)
  match a with
  | ⟨0, _⟩ => exact hm
  | ⟨1, _⟩ => show 0 + 1 * _ = _; rw [Nat.one_mul, Nat.zero_add]; rfl

/-- What the last whole-buffer store left is what a whole-buffer load finds. -/
theorem read_scores {sp : Space} (v : View sig .tc sp S256x768 .f32) (inb inb' : ∀ a, (![0, 0] : Fin 2 → ℕ) a + S256x768.size a ≤ S256x768.size a)
    (w : Vec F S256x768 .f32) (L : List (View.Piece (Elt F) S256x768 .f32)) :
    v.readCov ((⟨Rect.unit (s := S256x768) ![0, 0] S256x768.size inb, w⟩ : View.Piece (Elt F) S256x768 .f32) :: L)
      (Rect.unit (s := S256x768) ![0, 0] S256x768.size inb').toLoadRect = w := by
  have hz : ∀ a : Fin S256x768.rank, (![0, 0] : Fin 2 → ℕ) a = 0 := by decide
  exact View.readCov_cons_unit_lit' v inb inb' w L hz hz

section
variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x1x3x256x768 .f32) (harg5 : arg5.IsWhole) (arg6 : Memref sig .tc .vmem S4096x128 .bf16) (harg6 : arg6.IsWhole) (arg7 : Memref sig .tc .vmem S256x768 .f32) (harg7 : arg7.IsWhole) (arg8 : Memref sig .tc .vmem S256x768 .f32) (harg8 : arg8.IsWhole)
    (x0 x1 x2 : Vec F S4096x128 .bf16) (x3 : Vec F S1x1x3x256x768 .f32)

include harg2 harg3 harg4 harg5 in
/-- Stripe `n` computed from what the body loads is the output block's rows. -/
theorem stored_eq (n o : ℕ) (ho : o = 256 * n) (b : ℕ) (hb : b = 256 * keyChunk n) (p : ℕ) (hp3 : p < 3) (hp : ⟨p, hp3⟩ = variantOf n)
    (inb : ∀ a, (![o, 0] : Fin 2 → ℕ) a + S256x128.size a ≤ S4096x128.size a)
    (inb2 : ∀ a, (![o, 0] : Fin 2 → ℕ) a + S256x128.size a ≤ S4096x128.size a)
    (inb3 : ∀ a, (![b, 0] : Fin 2 → ℕ) a + S768x128.size a ≤ S4096x128.size a)
    (inb5 : ∀ a, (![0, 0, p, 0, 0] : Fin 5 → ℕ) a + S1x1x1x256x768.size a ≤ S1x1x3x256x768.size a)
    (inb4 : ∀ a, (![b, 0] : Fin 2 → ℕ) a + S768x128.size a ≤ S4096x128.size a)
    {sp : Space} (v : View sig .tc sp S256x768 .f32) (inb6 inb7 : ∀ a, (![0, 0] : Fin 2 → ℕ) a + S256x768.size a ≤ S256x768.size a)
    (L : List (View.Piece (Elt F) S256x768 .f32))
    (x : (Rect.unit (s := S4096x128) ![o, 0] S256x128.size inb).shape.Idx) :
    k0_pay1 (v.readCov ((⟨Rect.unit (s := S256x768) ![0, 0] S256x768.size inb6, k0_pay40
        (View.readAt (Elt F) arg2.view (Rect.unit (s := S4096x128) ![o, 0] S256x128.size inb2).toLoadRect (harg2.unread x0))
        (View.readAt (Elt F) arg3.view (Rect.unit (s := S4096x128) ![b, 0] S768x128.size inb3).toLoadRect (harg3.unread x1))
        (View.readAt (Elt F) arg5.view (Rect.unit (s := S1x1x3x256x768) ![0, 0, p, 0, 0] S1x1x1x256x768.size inb5).toLoadRect (harg5.unread x3))⟩
          : View.Piece (Elt F) S256x768 .f32) :: L)
          (Rect.unit (s := S256x768) ![0, 0] S256x768.size inb7).toLoadRect)
      (View.readAt (Elt F) arg4.view (Rect.unit (s := S4096x128) ![b, 0] S768x128.size inb4).toLoadRect (harg4.unread x2)) x
      = blockOut x0 x1 x2 x3 ((Rect.unit (s := S4096x128) ![o, 0] S256x128.size inb).emb x) := by
  rw [read_scores]
  have h0 : o + 256 ≤ 4096 := inb2 0
  have h1 : b + 768 ≤ 4096 := inb3 0
  rw [read_rows256 harg2 x0 o inb2 h0, read_rows768 harg3 x1 b inb3 h1, read_rows768 harg4 x2 b inb4 h1, read_table harg5 x3 p inb5 hp3]
  exact stripe_eq_blockOut x0 x1 x2 x3 n o ho h0 b hb h1 _ hp inb x

/-- Every store of the body puts the output block's own rows where they belong. -/
theorem pieces_eq : ∀ p ∈ (kernelRun (F := F) c i arg2 harg2 arg3 harg3 arg4 harg4 arg5 harg5 arg6 harg6 arg7 harg7 arg8 harg8 x0 x1 x2 x3).1,
    ∀ x : p.1.shape.Idx, p.2 x = blockOut x0 x1 x2 x3 (p.1.emb x) := by
  unfold kernelRun
  dsimp only
  sl_unfold_run_names
  simp only [List.forall_mem_cons, List.not_mem_nil, false_imp_iff, implies_true, and_true]
  refine ⟨?_, ?_, ?_, ?_, ?_, ?_, ?_, ?_, ?_, ?_, ?_, ?_, ?_, ?_, ?_, ?_⟩ <;> intro x
  · exact stored_eq arg2 harg2 arg3 harg3 arg4 harg4 arg5 harg5 x0 x1 x2 x3 15 3840 rfl 3328 (by decide) 2 (by decide) rfl _ _ _ _ _ _ _ _ _ _
  · exact stored_eq arg2 harg2 arg3 harg3 arg4 harg4 arg5 harg5 x0 x1 x2 x3 14 3584 rfl 3328 (by decide) 1 (by decide) rfl _ _ _ _ _ _ _ _ _ _
  · exact stored_eq arg2 harg2 arg3 harg3 arg4 harg4 arg5 harg5 x0 x1 x2 x3 13 3328 rfl 3072 (by decide) 1 (by decide) rfl _ _ _ _ _ _ _ _ _ _
  · exact stored_eq arg2 harg2 arg3 harg3 arg4 harg4 arg5 harg5 x0 x1 x2 x3 12 3072 rfl 2816 (by decide) 1 (by decide) rfl _ _ _ _ _ _ _ _ _ _
  · exact stored_eq arg2 harg2 arg3 harg3 arg4 harg4 arg5 harg5 x0 x1 x2 x3 11 2816 rfl 2560 (by decide) 1 (by decide) rfl _ _ _ _ _ _ _ _ _ _
  · exact stored_eq arg2 harg2 arg3 harg3 arg4 harg4 arg5 harg5 x0 x1 x2 x3 10 2560 rfl 2304 (by decide) 1 (by decide) rfl _ _ _ _ _ _ _ _ _ _
  · exact stored_eq arg2 harg2 arg3 harg3 arg4 harg4 arg5 harg5 x0 x1 x2 x3 9 2304 rfl 2048 (by decide) 1 (by decide) rfl _ _ _ _ _ _ _ _ _ _
  · exact stored_eq arg2 harg2 arg3 harg3 arg4 harg4 arg5 harg5 x0 x1 x2 x3 8 2048 rfl 1792 (by decide) 1 (by decide) rfl _ _ _ _ _ _ _ _ _ _
  · exact stored_eq arg2 harg2 arg3 harg3 arg4 harg4 arg5 harg5 x0 x1 x2 x3 7 1792 rfl 1536 (by decide) 1 (by decide) rfl _ _ _ _ _ _ _ _ _ _
  · exact stored_eq arg2 harg2 arg3 harg3 arg4 harg4 arg5 harg5 x0 x1 x2 x3 6 1536 rfl 1280 (by decide) 1 (by decide) rfl _ _ _ _ _ _ _ _ _ _
  · exact stored_eq arg2 harg2 arg3 harg3 arg4 harg4 arg5 harg5 x0 x1 x2 x3 5 1280 rfl 1024 (by decide) 1 (by decide) rfl _ _ _ _ _ _ _ _ _ _
  · exact stored_eq arg2 harg2 arg3 harg3 arg4 harg4 arg5 harg5 x0 x1 x2 x3 4 1024 rfl 768 (by decide) 1 (by decide) rfl _ _ _ _ _ _ _ _ _ _
  · exact stored_eq arg2 harg2 arg3 harg3 arg4 harg4 arg5 harg5 x0 x1 x2 x3 3 768 rfl 512 (by decide) 1 (by decide) rfl _ _ _ _ _ _ _ _ _ _
  · exact stored_eq arg2 harg2 arg3 harg3 arg4 harg4 arg5 harg5 x0 x1 x2 x3 2 512 rfl 256 (by decide) 1 (by decide) rfl _ _ _ _ _ _ _ _ _ _
  · exact stored_eq arg2 harg2 arg3 harg3 arg4 harg4 arg5 harg5 x0 x1 x2 x3 1 256 rfl 0 (by decide) 1 (by decide) rfl _ _ _ _ _ _ _ _ _ _
  · exact stored_eq arg2 harg2 arg3 harg3 arg4 harg4 arg5 harg5 x0 x1 x2 x3 0 0 rfl 0 (by decide) 0 (by decide) rfl _ _ _ _ _ _ _ _ _ _

/-- The sixteen stores fill the output block: read back, it is `blockOut`. -/
theorem block_read (f : arg6.view.ty.Contents (Elt F)) :
    arg6.view.read (Elt F) (arg6.view.writes (Elt F) f (kernelRun (F := F) c i arg2 harg2 arg3 harg3 arg4 harg4 arg5 harg5 arg6 harg6 arg7 harg7 arg8 harg8 x0 x1 x2 x3).1)
      = blockOut x0 x1 x2 x3 := by
  funext y
  refine View.read_writes_apply_of_pieces arg6.view f (blockOut x0 x1 x2 x3) _
    (pieces_eq c i arg2 harg2 arg3 harg3 arg4 harg4 arg5 harg5 arg6 harg6 arg7 harg7 arg8 harg8 x0 x1 x2 x3) y ?_
  have h0 : (y 0).val < 4096 := (y 0).isLt
  have h1 : (y 1).val < 128 := (y 1).isLt
  unfold kernelRun
  dsimp only
  simp only [List.exists_mem_cons_iff, List.not_mem_nil, false_and, exists_false, or_false]
  have two : ∀ (o : ℕ) (inb : ∀ a, (![o, 0] : Fin 2 → ℕ) a + S256x128.size a ≤ S4096x128.size a), (o ≤ (y 0).val ∧ (y 0).val < o + 256) →
      y ∈ (Rect.unit (s := S4096x128) ![o, 0] S256x128.size inb).set := by
    intro o inb ho
    rw [Rect.mem_set_unit]
    intro a
    match a with
    | ⟨0, _⟩ => exact ho
    | ⟨1, _⟩ => exact ⟨Nat.zero_le _, lt_of_lt_of_eq h1 (Nat.zero_add _).symm⟩
  rcases (show ∃ n : Fin 16, 256 * n.val ≤ (y 0).val ∧ (y 0).val < 256 * n.val + 256 from
    ⟨⟨(y 0).val / 256, by omega⟩, by dsimp only; omega, by dsimp only; omega⟩) with ⟨n, hn⟩
  fin_cases n
  · exact Or.inr (Or.inr (Or.inr (Or.inr (Or.inr (Or.inr (Or.inr (Or.inr (Or.inr (Or.inr (Or.inr (Or.inr (Or.inr (Or.inr (Or.inr (two 0 _ hn)))))))))))))))
  · exact Or.inr (Or.inr (Or.inr (Or.inr (Or.inr (Or.inr (Or.inr (Or.inr (Or.inr (Or.inr (Or.inr (Or.inr (Or.inr (Or.inr (Or.inl (two 256 _ hn)))))))))))))))
  · exact Or.inr (Or.inr (Or.inr (Or.inr (Or.inr (Or.inr (Or.inr (Or.inr (Or.inr (Or.inr (Or.inr (Or.inr (Or.inr (Or.inl (two 512 _ hn))))))))))))))
  · exact Or.inr (Or.inr (Or.inr (Or.inr (Or.inr (Or.inr (Or.inr (Or.inr (Or.inr (Or.inr (Or.inr (Or.inr (Or.inl (two 768 _ hn)))))))))))))
  · exact Or.inr (Or.inr (Or.inr (Or.inr (Or.inr (Or.inr (Or.inr (Or.inr (Or.inr (Or.inr (Or.inr (Or.inl (two 1024 _ hn))))))))))))
  · exact Or.inr (Or.inr (Or.inr (Or.inr (Or.inr (Or.inr (Or.inr (Or.inr (Or.inr (Or.inr (Or.inl (two 1280 _ hn)))))))))))
  · exact Or.inr (Or.inr (Or.inr (Or.inr (Or.inr (Or.inr (Or.inr (Or.inr (Or.inr (Or.inl (two 1536 _ hn))))))))))
  · exact Or.inr (Or.inr (Or.inr (Or.inr (Or.inr (Or.inr (Or.inr (Or.inr (Or.inl (two 1792 _ hn)))))))))
  · exact Or.inr (Or.inr (Or.inr (Or.inr (Or.inr (Or.inr (Or.inr (Or.inl (two 2048 _ hn))))))))
  · exact Or.inr (Or.inr (Or.inr (Or.inr (Or.inr (Or.inr (Or.inl (two 2304 _ hn)))))))
  · exact Or.inr (Or.inr (Or.inr (Or.inr (Or.inr (Or.inl (two 2560 _ hn))))))
  · exact Or.inr (Or.inr (Or.inr (Or.inr (Or.inl (two 2816 _ hn)))))
  · exact Or.inr (Or.inr (Or.inr (Or.inl (two 3072 _ hn))))
  · exact Or.inr (Or.inr (Or.inl (two 3328 _ hn)))
  · exact Or.inr (Or.inl (two 3584 _ hn))
  · exact Or.inl (two 3840 _ hn)
end

end Cert.KernelIdeal.Gen

end
-- ==== Proof.Region.lean ====
/- The attention kernel's launch: at every grid point the body leaves `blockOut` of the four blocks it read, so the
   program ends with its output array filled block by block and its arguments as they were. -/
module

public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3x256x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x768 .f32 := Memref.whole cc0_scratch0
abbrev scM0_1 : Memref sig .tc .vmem S256x768 .f32 := Memref.whole cc0_scratch1

/-- Between grid points the core owns its two score buffers, at some contents, and its generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)
/-! ## The pipeline's proof data -/

/-- What the pipeline on core `c` holds at each grid point: an input window its block of the array, the output
    window `blockOut` of the four input blocks. The three windows on the one token array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (iblk m c 0 t) (iblk m c 1 t) (iblk m c 2 t) (iblk m c 3 t)
  Φ _ := Pipeline.ΦA spec0 c
  q w := Pipeline.shareOf spec0 w
  owed _ := 0

/-- The pipeline's arrays are what the host lines before it left. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOut (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: its inputs hold their blocks, so `kernelRun` applies, and what it stored reads back as
    `blockOut` (`block_read`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr; swap; · iexact H4
  ipureintro
  exact block_read _ _ _ _ _ _ _ _ _ _ _ _ _ _ _ _ _ _ _ _ f4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- So the body does at every grid point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every run ends with the arrays the pipeline leaves and every semaphore counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.Window.lean ====
/- Neighbourhood attention on a 64 × 64 image, written down directly: which keys a query looks at, their scores, and the
   softmax-weighted sum of their values. Both programs are read as this. -/
module

public import Idealize.ShloMosaic.PureOps.Ideal
public import Idealize.ShloMosaic.PureOps.Ideal.Laws
public import Idealize.ShloMosaic.Lib.Pointwise

@[expose] public section

noncomputable section

namespace Cert.Equation

open Idealize.ShloMosaic

/-- The packed projections `[2, 4096, 12288]`: queries, keys and values lie in columns 4096, 6144 and 8192 on, one
    128-wide stretch to a head. -/
abbrev Packed := (⟨3, ![2, 4096, 12288]⟩ : Shape).Idx → EReal
/-- The position biases `[4, 16, 15, 31]`: layer, head, row offset, column offset. -/
abbrev Biases := (⟨4, ![4, 16, 15, 31]⟩ : Shape).Idx → EReal

/-- The image row of the `k`-th row of the window around image row `r`: eight rows, kept inside the image. -/
def keyRow (r : Fin 64) (k : Fin 8) : Fin 64 := ⟨min (r.val - 4) 56 + k.val, by omega⟩
/-- The image column of the `w`-th column of the window around image column `c`: sixteen columns, kept inside. -/
def keyCol (c : Fin 64) (w : Fin 16) : Fin 64 := ⟨min (c.val - 8) 48 + w.val, by omega⟩
/-- The token at image row `r`, column `c`. -/
def token (r c : Fin 64) : Fin 4096 := ⟨64 * r.val + c.val, by omega⟩

/-- Coordinate `d` of head `h`'s query, key and value among the packed columns. -/
def queryCol (h : Fin 16) (d : Fin 128) : Fin 12288 := ⟨4096 + 128 * h.val + d.val, by omega⟩
def headKeyCol (h : Fin 16) (d : Fin 128) : Fin 12288 := ⟨6144 + 128 * h.val + d.val, by omega⟩
def valueCol (h : Fin 16) (d : Fin 128) : Fin 12288 := ⟨8192 + 128 * h.val + d.val, by omega⟩

/-- How far (from 0 up) the `k`-th window row lies from row `r`; and the same for columns. -/
def rowOff (r : Fin 64) (k : Fin 8) : Fin 15 := ⟨(keyRow r k).val + 7 - r.val, by simp only [keyRow]; omega⟩
def colOff (c : Fin 64) (w : Fin 16) : Fin 31 := ⟨(keyCol c w).val + 15 - c.val, by simp only [keyCol]; omega⟩

/-- The factor on every product of a query with a key: the f32 number nearest `1 / √128`. -/
def scale : EReal := ((11863283 / 134217728 : ℝ) : EReal)

/-- The score of window key `(k, w)` for the query at image row `r`, column `c`. -/
def score (p : Packed) (g : Biases) (b : Fin 2) (h : Fin 16) (r c : Fin 64) (k : Fin 8) (w : Fin 16) : EReal :=
  (∑ d : Fin 128, p (ix3 b (token r c) (queryCol h d)) * p (ix3 b (token (keyRow r k) (keyCol c w)) (headKeyCol h d))) * scale
    + g (ix4 0 h (rowOff r k) (colOff c w))

/-- The window's rows and columns counted through in one go. -/
def winRow (j : Fin 128) : Fin 8 := ⟨j.val / 16, by omega⟩
def winCol (j : Fin 128) : Fin 16 := ⟨j.val % 16, by omega⟩

/-- The same scores counted through the window's 128 keys. -/
def scoreAt (p : Packed) (g : Biases) (b : Fin 2) (h : Fin 16) (r c : Fin 64) (j : Fin 128) : EReal :=
  score p g b h r c (winRow j) (winCol j)

/-- The value coordinate `d` of the window's `j`-th key. -/
def valueAt (p : Packed) (b : Fin 2) (h : Fin 16) (r c : Fin 64) (d : Fin 128) (j : Fin 128) : EReal :=
  p (ix3 b (token (keyRow r (winRow j)) (keyCol c (winCol j))) (valueCol h d))

/-- The softmax-weighted sum `∑ j, (exp (x j − max x) / ∑ i, exp (x i − max x)) · v j` over 128 keys. -/
def softmaxSum (x v : Fin 128 → EReal) : EReal :=
  ∑ j : Fin 128, Ideal.div (Ideal.exp (x j - Finset.univ.fold max ⊥ x)) (∑ i : Fin 128, Ideal.exp (x i - Finset.univ.fold max ⊥ x)) * v j

/-- Coordinate `d` of head `h`'s output for the query at image row `r`, column `c`. -/
def attend (p : Packed) (g : Biases) (b : Fin 2) (h : Fin 16) (r c : Fin 64) (d : Fin 128) : EReal :=
  softmaxSum (scoreAt p g b h r c) (valueAt p b h r c d)

/-- The whole result `[2, 4096, 2048]`. -/
def result (p : Packed) (g : Biases) : (⟨3, ![2, 4096, 2048]⟩ : Shape).Idx → EReal := fun i =>
  attend p g (i 0) ⟨(i 2).val / 128, by have h : (i 2).val < 2048 := (i 2).isLt; omega⟩
    ⟨(i 1).val / 64, by have h : (i 1).val < 4096 := (i 1).isLt; omega⟩ ⟨(i 1).val % 64, by omega⟩ ⟨(i 2).val % 128, by omega⟩

end Cert.Equation
-- ==== Proof.Layout.lean ====
/- The arrays the attention call takes: the tokens of each chunk of 256 reordered, and the table of position biases,
   `−∞` outside the window, read at an index. -/
module

public import proofs.«01_k».proof.Proof.Gen.KernelIdeal.Frame
public import proofs.«01_k».proof.Proof.Window
public import Idealize.ShloMosaic.Lib.StableHlo.RunRead
public import Idealize.ShloMosaic.Lib.Claim
public import Idealize.ShloMosaic.Lib.Pointwise

@[expose] public section

set_option maxRecDepth 100000

noncomputable section

namespace Cert.Equation

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-! ## Tokens -/

/-- Row `P` of a batch's 4096 rows holds this token: within its chunk of 256, row `8 j + s` holds token `32 s + j`. -/
def stepToken (P : Fin 4096) : Fin 4096 := ⟨256 * (P.val / 256) + 32 * (P.val % 8) + P.val % 256 / 8, by omega⟩

/-- The reordered packed projections. -/
def reordered (p : Packed) : S8192x12288.Idx → EReal :=
  shapeCast S8192x12288 (transpose S2x16x32x8x12288 [0, 1, 3, 2, 4]
    (shapeCast S2x16x8x32x12288 (shapeCast S8192x12288 p shapeCasts_S2x4096x12288_S8192x12288) shapeCasts_S8192x12288_S2x16x8x32x12288)
    transposes_S2x16x8x32x12288_S2x16x32x8x12288_0_1_3_2_4) shapeCasts_S2x16x32x8x12288_S8192x12288

theorem V_tokens : V m c main_v3 = reordered (m ((c.tc : Thread nD τ).loc main_arg0)) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp

  rfl

theorem reordered_apply (p : Packed) (b : Fin 2) (P : Fin 4096) (n : Fin 12288) :
    reordered p (ix2 ⟨4096 * b.val + P.val, by omega⟩ n) = p (ix3 b (stepToken P) n) := by
  have hb := b.isLt; have hP := P.isLt; have hn := n.isLt
  unfold reordered
  rw [shapeCast_apply _ _ _ (ix5 b (⟨P.val / 256, by omega⟩ : Fin 16) (⟨P.val % 256 / 8, by omega⟩ : Fin 32) (⟨P.val % 8, by omega⟩ : Fin 8) n)
      (by rw [Shape.rowMajor_val_five, Shape.rowMajor_val_two]
          show (((b.val * 16 + P.val / 256) * 32 + P.val % 256 / 8) * 8 + P.val % 8) * 12288 + n.val = (4096 * b.val + P.val) * 12288 + n.val
          omega),
    transpose_apply _ _ _ _ (ix5 b (⟨P.val / 256, by omega⟩ : Fin 16) (⟨P.val % 8, by omega⟩ : Fin 8) (⟨P.val % 256 / 8, by omega⟩ : Fin 32) n)
      (fun a => match a with | ⟨0, _⟩ => rfl | ⟨1, _⟩ => rfl | ⟨2, _⟩ => rfl | ⟨3, _⟩ => rfl | ⟨4, _⟩ => rfl),
    shapeCast_apply _ _ _ (ix2 (⟨4096 * b.val + (stepToken P).val, by omega⟩ : Fin 8192) n)
      (by rw [Shape.rowMajor_val_five, Shape.rowMajor_val_two]
          show (4096 * b.val + (256 * (P.val / 256) + 32 * (P.val % 8) + P.val % 256 / 8)) * 12288 + n.val
            = (((b.val * 16 + P.val / 256) * 8 + P.val % 8) * 32 + P.val % 256 / 8) * 12288 + n.val
          omega),
    shapeCast_apply _ _ _ (ix3 b (stepToken P) n)
      (by rw [Shape.rowMajor_val_three, Shape.rowMajor_val_two]
          show (b.val * 4096 + (stepToken P).val) * 12288 + n.val = (4096 * b.val + (stepToken P).val) * 12288 + n.val
          omega)]

/-! ## The table of biases -/

/-- The table's axes: the place of the stripe among the image's rows, the query's column within a half row, its row in
    the stripe, its half; the key's chunk, column within a half row, row in the chunk, half. -/
abbrev T : Shape := S3x32x4x2x3x32x4x2

/-- A word everywhere, and the coordinate along an axis. -/
def splat (w : BitVec 32) : IVec T 32 := broadcastInDim T ![] bcast_S_S3x32x4x2x3x32x4x2 (constantI S_ 32 w)
def axis (a : Fin 8) : IVec T 32 := iotaInDim T 32 a
/-- A value kept between two words; an index below zero counted from the end. -/
def clip (lo hi : BitVec 32) (x : IVec T 32) : IVec T 32 := minsi (splat hi) (maxsi (splat lo) x)
def wrap (n : BitVec 32) (x : IVec T 32) : IVec T 32 := select (cmpi .slt x (splat 0#32)) (addi x (splat n)) x
/-- Whether `x` lies in the `n` values from `lo` on. -/
def within (lo x : IVec T 32) (n : BitVec 32) : IVec T 1 := andi (cmpi .sge x lo) (cmpi .slt x (addi lo (splat n)))

def queryColT : IVec T 32 := addi (muli (splat 32#32) (axis 3)) (axis 1)
def keyRowT : IVec T 32 := addi (muli (splat 4#32) (axis 4)) (axis 6)
def keyColT : IVec T 32 := addi (muli (splat 32#32) (axis 7)) (axis 5)
def rowLoT : IVec T 32 := select (cmpi .eq (axis 0) (splat 0#32)) (splat 0#32) (select (cmpi .eq (axis 0) (splat 1#32)) (axis 2) (splat 4#32))
def colLoT : IVec T 32 := clip 0#32 48#32 (subi queryColT (splat 8#32))
def maskT : IVec T 1 := andi (within rowLoT keyRowT 8#32) (within colLoT keyColT 16#32)
def rowOffT : IVec T 32 := wrap 15#32 (clip 0#32 14#32 (addi (subi (subi keyRowT (axis 2)) (muli (splat 4#32) (axis 0))) (splat 7#32)))
def colOffT : IVec T 32 := wrap 31#32 (clip 0#32 30#32 (addi (subi keyColT queryColT) (splat 15#32)))
/-- Two words side by side. -/
def pairT (x y : IVec T 32) : IVec S3x32x4x2x3x32x4x2x2 32 :=
  concatenate S3x32x4x2x3x32x4x2x2 8
    [⟨S3x32x4x2x3x32x4x2x1, broadcastInDim S3x32x4x2x3x32x4x2x1 ![0, 1, 2, 3, 4, 5, 6, 7] bcast_S3x32x4x2x3x32x4x2_S3x32x4x2x3x32x4x2x1_0_1_2_3_4_5_6_7 x⟩,
     ⟨S3x32x4x2x3x32x4x2x1, broadcastInDim S3x32x4x2x3x32x4x2x1 ![0, 1, 2, 3, 4, 5, 6, 7] bcast_S3x32x4x2x3x32x4x2_S3x32x4x2x3x32x4x2x1_0_1_2_3_4_5_6_7 y⟩]
    concatenates_S3x32x4x2x3x32x4x2x1_S3x32x4x2x3x32x4x2x1_S3x32x4x2x3x32x4x2x2_d8

def joinT (x y : S3x32x4x2x3x32x4x2x1.Idx → BitVec 32) : IVec S3x32x4x2x3x32x4x2x2 32 :=
  concatenate S3x32x4x2x3x32x4x2x2 8 [⟨S3x32x4x2x3x32x4x2x1, x⟩, ⟨S3x32x4x2x3x32x4x2x1, y⟩]
    concatenates_S3x32x4x2x3x32x4x2x1_S3x32x4x2x3x32x4x2x1_S3x32x4x2x3x32x4x2x2_d8

theorem joinT_eq (x y : S3x32x4x2x3x32x4x2x1.Idx → BitVec 32) :
    concatenate S3x32x4x2x3x32x4x2x2 8 [⟨S3x32x4x2x3x32x4x2x1, x⟩, ⟨S3x32x4x2x3x32x4x2x1, y⟩]
      concatenates_S3x32x4x2x3x32x4x2x1_S3x32x4x2x3x32x4x2x1_S3x32x4x2x3x32x4x2x2_d8 = joinT x y := rfl

def offsetsT : IVec S3x32x4x2x3x32x4x2x2 32 := pairT rowOffT colOffT

/-- The table before its axes are joined. -/
def splitTable (g : Biases) : S4x16x3x32x4x2x3x32x4x2.Idx → EReal :=
  select (broadcastInDim S4x16x3x32x4x2x3x32x4x2 ![2, 3, 4, 5, 6, 7, 8, 9] bcast_S3x32x4x2x3x32x4x2_S4x16x3x32x4x2x3x32x4x2_2_3_4_5_6_7_8_9 maskT)
    (Host.gather gather_S4x16x15x31_S3x32x4x2x3x32x4x2x2_S4x16x3x32x4x2x3x32x4x2_01_23_n_n_23_8_41611 g offsetsT)
    (broadcastInDim S4x16x3x32x4x2x3x32x4x2 ![] bcast_S_S4x16x3x32x4x2x3x32x4x2 (constant (F := Ideal) S_ .f32 0xFF800000#32))

theorem V_table : V m c main_v67
    = shapeCast S4x16x3x256x768 (splitTable (m ((c.tc : Thread nD τ).loc main_arg1))) shapeCasts_S4x16x3x32x4x2x3x32x4x2_S4x16x3x256x768 := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rw [joinT_eq]
  after_reads_simp
  simp -implicitDefEqProofs only [StableHlo.TRef.toBuf, StableHlo.TRef.ofBuf, cast_cast, cast_eq, id_eq]
  unfold splitTable offsetsT maskT within rowOffT colOffT colLoT clip wrap rowLoT queryColT keyRowT keyColT pairT joinT splat axis
  rfl

end Cert.Equation
-- ==== Proof.Table.lean ====
/- The table of position biases at a place: for a query and a key of a stripe, the bias at their clipped offsets where
   the key lies in the query's window, and `−∞` elsewhere. -/
module

public import proofs.«01_k».proof.Proof.Layout

@[expose] public section

set_option maxRecDepth 100000

noncomputable section

namespace Cert.Equation

open Cert.KernelIdeal Cert.KernelIdeal.Gen Idealize.ShloMosaic Idealize.ShloMosaic.TcCoe Idealize.SL.Sem Idealize.ShloMosaic.StableHlo

/-! ## Places of the joined axes

A query's place in its stripe of four image rows is `y < 256`, a key's place in its three chunks is `x < 768`. -/

def queryRowOf (y : Fin 256) : ℕ := y.val % 8 / 2
def queryColOf (y : Fin 256) : ℕ := 32 * (y.val % 2) + y.val / 8
def keyRowOf (x : Fin 768) : ℕ := 4 * (x.val / 256) + x.val % 8 / 2
def keyColOf (x : Fin 768) : ℕ := 32 * (x.val % 2) + x.val % 256 / 8

/-- First row of the window of a query in row `q` of a stripe standing first (0), inside (1) or last (2) in its keys. -/
def rowLo (p q : ℕ) : ℕ := if p = 0 then 0 else if p = 1 then q else 4
def rowIn (p q k : ℕ) : Prop := rowLo p q ≤ k ∧ k < rowLo p q + 8
def colIn (c k : ℕ) : Prop := min (c - 8) 48 ≤ k ∧ k < min (c - 8) 48 + 16

instance (p q k : ℕ) : Decidable (rowIn p q k) := by unfold rowIn; infer_instance
instance (c k : ℕ) : Decidable (colIn c k) := by unfold colIn; infer_instance

/-! ## The words -/

theorem row_words : ∀ (p : Fin 3) (q : Fin 4) (ck : Fin 3) (rk : Fin 4),
    within rowLoT keyRowT 8#32 (ix8 p 0 q 0 ck 0 rk 0) = (if rowIn p q (4 * ck.val + rk.val) then 1#1 else 0#1)
    ∧ min (rowOffT (ix8 p 0 q 0 ck 0 rk 0)).toInt.toNat 14 = min (4 * ck.val + rk.val + 7 - (q.val + 4 * p.val)) 14 := by
  decide +kernel

theorem col_words : ∀ (j : Fin 32) (h : Fin 2) (jk : Fin 32) (hk : Fin 2),
    within colLoT keyColT 16#32 (ix8 0 j 0 h 0 jk 0 hk) = (if colIn (32 * h.val + j.val) (32 * hk.val + jk.val) then 1#1 else 0#1)
    ∧ min (colOffT (ix8 0 j 0 h 0 jk 0 hk)).toInt.toNat 30 = min (32 * hk.val + jk.val + 15 - (32 * h.val + j.val)) 30 := by
  decide +kernel

section Words

variable (p : Fin 3) (j : Fin 32) (q : Fin 4) (h : Fin 2) (ck : Fin 3) (jk : Fin 32) (rk : Fin 4) (hk : Fin 2)

theorem mask_apply : maskT (ix8 p j q h ck jk rk hk)
    = (if rowIn p q (4 * ck.val + rk.val) ∧ colIn (32 * h.val + j.val) (32 * hk.val + jk.val) then 1#1 else 0#1) := by
  have hr : within rowLoT keyRowT 8#32 (ix8 p j q h ck jk rk hk) = _ := (row_words p q ck rk).1
  have hc : within colLoT keyColT 16#32 (ix8 p j q h ck jk rk hk) = _ := (col_words j h jk hk).1
  show within rowLoT keyRowT 8#32 (ix8 p j q h ck jk rk hk) &&& within colLoT keyColT 16#32 (ix8 p j q h ck jk rk hk) = _
  rw [hr, hc]
  by_cases h1 : rowIn p q (4 * ck.val + rk.val) <;> by_cases h2 : colIn (32 * h.val + j.val) (32 * hk.val + jk.val) <;> simp [h1, h2]

theorem pairT_fst (x z : IVec T 32) : pairT x z (ix9 p j q h ck jk rk hk 0) = x (ix8 p j q h ck jk rk hk) := by
  refine (congrArg x ?_ : _ = _)
  funext e
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem pairT_snd (x z : IVec T 32) : pairT x z (ix9 p j q h ck jk rk hk 1) = z (ix8 p j q h ck jk rk hk) := by
  refine (congrArg z ?_ : _ = _)
  funext e
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem offsets_row : min (offsetsT (ix9 p j q h ck jk rk hk 0)).toInt.toNat 14 = min (4 * ck.val + rk.val + 7 - (q.val + 4 * p.val)) 14 := by
  rw [show offsetsT (ix9 p j q h ck jk rk hk 0) = rowOffT (ix8 p j q h ck jk rk hk) from pairT_fst p j q h ck jk rk hk _ _]
  exact (row_words p q ck rk).2

theorem offsets_col : min (offsetsT (ix9 p j q h ck jk rk hk 1)).toInt.toNat 30 = min (32 * hk.val + jk.val + 15 - (32 * h.val + j.val)) 30 := by
  rw [show offsetsT (ix9 p j q h ck jk rk hk 1) = colOffT (ix8 p j q h ck jk rk hk) from pairT_snd p j q h ck jk rk hk _ _]
  exact (col_words j h jk hk).2

end Words

/-! ## The table -/

/-- The index of the split table. -/
def place (l : Fin 4) (b : Fin 16) (p : Fin 3) (j : Fin 32) (q : Fin 4) (h : Fin 2) (ck : Fin 3) (jk : Fin 32) (rk : Fin 4) (hk : Fin 2) :
    S4x16x3x32x4x2x3x32x4x2.Idx :=
  fun a => match a with
    | ⟨0, _⟩ => l | ⟨1, _⟩ => b | ⟨2, _⟩ => p | ⟨3, _⟩ => j | ⟨4, _⟩ => q | ⟨5, _⟩ => h | ⟨6, _⟩ => ck | ⟨7, _⟩ => jk | ⟨8, _⟩ => rk | ⟨9, _⟩ => hk

section Place

variable (l : Fin 4) (b : Fin 16) (p : Fin 3) (j : Fin 32) (q : Fin 4) (h : Fin 2) (ck : Fin 3) (jk : Fin 32) (rk : Fin 4) (hk : Fin 2)

theorem rowMajor_place : (S4x16x3x32x4x2x3x32x4x2.rowMajor (place l b p j q h ck jk rk hk)).val
    = l.val * 9437184 + b.val * 589824 + p.val * 196608 + j.val * 6144 + q.val * 1536 + h.val * 768 + ck.val * 256 + jk.val * 8 + rk.val * 2 + hk.val := by
  show (Shape.rowMajorPi _ (place l b p j q h ck jk rk hk)).val = _
  simp [Shape.rowMajorPi_succ_val, Fin.prod_univ_succ, Shape.rowMajorPi_fin0_val]
  show l.val * 9437184 + (b.val * 589824 + (p.val * 196608 + (j.val * 6144 + (q.val * 1536 + (h.val * 768 + (ck.val * 256 + (jk.val * 8 + (rk.val * 2 + hk.val)))))))) = _
  omega

theorem gather_place (g : Biases) (idx : IVec S3x32x4x2x3x32x4x2x2 32) :
    Host.gather gather_S4x16x15x31_S3x32x4x2x3x32x4x2x2_S4x16x3x32x4x2x3x32x4x2_01_23_n_n_23_8_41611 g idx (place l b p j q h ck jk rk hk)
      = g (ix4 l b ⟨min (idx (ix9 p j q h ck jk rk hk 0)).toInt.toNat 14, by omega⟩ ⟨min (idx (ix9 p j q h ck jk rk hk 1)).toInt.toNat 30, by omega⟩) := by
  unfold Host.gather
  congr 1
  funext a
  apply Fin.ext
  match a with
  | ⟨0, _⟩ => exact Nat.zero_add _
  | ⟨1, _⟩ => exact Nat.zero_add _
  | ⟨2, _⟩ =>
    refine (congrArg (fun i => min (idx i).toInt.toNat 14) (a₂ := ix9 p j q h ck jk rk hk 0) ?_ : _ = _)
    funext e
    match e with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
  | ⟨3, _⟩ =>
    refine (congrArg (fun i => min (idx i).toInt.toNat 30) (a₂ := ix9 p j q h ck jk rk hk 1) ?_ : _ = _)
    funext e
    match e with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl

theorem splitTable_apply (g : Biases) : splitTable g (place l b p j q h ck jk rk hk)
    = (if rowIn p q (4 * ck.val + rk.val) ∧ colIn (32 * h.val + j.val) (32 * hk.val + jk.val) then
        g (ix4 l b ⟨min (4 * ck.val + rk.val + 7 - (q.val + 4 * p.val)) 14, by omega⟩ ⟨min (32 * hk.val + jk.val + 15 - (32 * h.val + j.val)) 30, by omega⟩)
      else ⊥) := by
  have hm : broadcastInDim S4x16x3x32x4x2x3x32x4x2 ![2, 3, 4, 5, 6, 7, 8, 9] bcast_S3x32x4x2x3x32x4x2_S4x16x3x32x4x2x3x32x4x2_2_3_4_5_6_7_8_9 maskT (place l b p j q h ck jk rk hk) = maskT (ix8 p j q h ck jk rk hk) := rfl
  unfold splitTable
  show (if _ = 1#1 then _ else _) = _
  rw [hm, mask_apply, gather_place]
  simp only [offsets_row, offsets_col]
  have hb : broadcastInDim S4x16x3x32x4x2x3x32x4x2 ![] bcast_S_S4x16x3x32x4x2x3x32x4x2 (constant (F := Ideal) S_ .f32 0xFF800000#32) (place l b p j q h ck jk rk hk) = (⊥ : EReal) := by
    pointwise
    simp [Ideal.ofBits, Ideal.ieee]
  rw [hb]
  split_ifs <;> simp_all

end Place

/-- The bias of a query and a key at places of a stripe's joined axes. -/
def biasAt (g : Biases) (b : Fin 16) (p : Fin 3) (y : Fin 256) (x : Fin 768) : EReal :=
  if rowIn p (queryRowOf y) (keyRowOf x) ∧ colIn (queryColOf y) (keyColOf x) then
    g (ix4 0 b ⟨min (keyRowOf x + 7 - (queryRowOf y + 4 * p.val)) 14, by omega⟩ ⟨min (keyColOf x + 15 - queryColOf y) 30, by omega⟩)
  else ⊥

theorem table_apply (g : Biases) (b : Fin 16) (p : Fin 3) (y : Fin 256) (x : Fin 768) :
    shapeCast S4x16x3x256x768 (splitTable g) shapeCasts_S4x16x3x32x4x2x3x32x4x2_S4x16x3x256x768 (ix5 0 b p y x) = biasAt g b p y x := by
  have hb := b.isLt; have hp := p.isLt; have hy := y.isLt; have hx := x.isLt
  rw [shapeCast_apply _ _ _ (place 0 b p ⟨y.val / 8, by omega⟩ ⟨y.val % 8 / 2, by omega⟩ ⟨y.val % 2, by omega⟩
      ⟨x.val / 256, by omega⟩ ⟨x.val % 256 / 8, by omega⟩ ⟨x.val % 8 / 2, by omega⟩ ⟨x.val % 2, by omega⟩)
      (by rw [rowMajor_place, Shape.rowMajor_val_five]
          show 0 * 9437184 + b.val * 589824 + p.val * 196608 + y.val / 8 * 6144 + y.val % 8 / 2 * 1536 + y.val % 2 * 768 + x.val / 256 * 256 + x.val % 256 / 8 * 8 + x.val % 8 / 2 * 2 + x.val % 2
            = (((0 * 16 + b.val) * 3 + p.val) * 256 + y.val) * 768 + x.val
          omega),
    splitTable_apply]
  rfl

end Cert.Equation
-- ==== Proof.Softmax.lean ====
/- Softmax over the 128 keys of a window against softmax in base two over 768 keys, all but the window's masked with `−∞`. -/
module

public import proofs.«01_k».proof.Proof.Window

@[expose] public section

noncomputable section

namespace Cert.Equation

open Idealize.ShloMosaic

/-- The weighted sum the kernel forms over 768 keys: powers of two, one division at the end. -/
def baseTwoSum (s v : Fin 768 → EReal) : EReal :=
  Ideal.div (∑ x : Fin 768, Ideal.exp2 (s x - Finset.univ.fold max ⊥ s) * v x) (∑ x : Fin 768, Ideal.exp2 (s x - Finset.univ.fold max ⊥ s))

/-- A finite sum times a nonnegative real, term by term. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- Real numbers summed as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fold_max_eq {ι : Type} [Fintype ι] (f : ι → EReal) (m : EReal) (hle : ∀ i, f i ≤ m) (hm : ∃ i, f i = m) :
    Finset.univ.fold max ⊥ f = m := by
  have h : Finset.univ.fold max ⊥ f = Finset.univ.sup f := rfl
  rw [h]
  obtain ⟨i, hi⟩ := hm
  exact le_antisymm (Finset.sup_le fun i _ => hle i) (hi ▸ Finset.le_sup (Finset.mem_univ i))

/-- Two to the power `y / ln 2` is the exponential of `y`. -/
theorem two_pow_div_log (y : ℝ) : Real.rpow 2 (y * (Real.log 2)⁻¹) = Real.exp y := by
  show (2 : ℝ) ^ (y * (Real.log 2)⁻¹) = _
  have h2 : Real.log 2 ≠ 0 := (Real.log_pos (by norm_num)).ne'
  rw [Real.rpow_def_of_pos (by norm_num : (0 : ℝ) < 2)]
  congr 1
  field_simp

/-- With the window's keys at `e` scored `x / ln 2` and all others `−∞`, the kernel's sum is the softmax-weighted one. -/
theorem baseTwoSum_eq (s v : Fin 768 → EReal) (x : Fin 128 → ℝ) (e : Fin 128 → Fin 768) (he : Function.Injective e)
    (hin : ∀ j, s (e j) = ((x j * (Real.log 2)⁻¹ : ℝ) : EReal)) (hout : ∀ i, i ∉ Set.range e → s i = ⊥) :
    baseTwoSum s v = softmaxSum (fun j => (x j : EReal)) (fun j => v (e j)) := by
  obtain ⟨j₀, -, hj₀⟩ := Finset.exists_max_image (Finset.univ : Finset (Fin 128)) x Finset.univ_nonempty
  have hlog : 0 < (Real.log 2)⁻¹ := inv_pos.mpr (Real.log_pos (by norm_num))
  have hM : Finset.univ.fold max ⊥ s = ((x j₀ * (Real.log 2)⁻¹ : ℝ) : EReal) := by
    refine fold_max_eq s _ (fun i => ?_) ⟨e j₀, hin j₀⟩
    by_cases hi : i ∈ Set.range e
    · obtain ⟨j, rfl⟩ := hi
      rw [hin j]
      exact_mod_cast mul_le_mul_of_nonneg_right (hj₀ j (Finset.mem_univ j)) hlog.le
    · rw [hout i hi]; exact bot_le
  have hX : Finset.univ.fold max ⊥ (fun j => (x j : EReal)) = (x j₀ : EReal) :=
    fold_max_eq _ _ (fun j => by exact_mod_cast hj₀ j (Finset.mem_univ j)) ⟨j₀, rfl⟩
  have hEin : ∀ j, Ideal.exp2 (s (e j) - Finset.univ.fold max ⊥ s) = ((Real.exp (x j - x j₀) : ℝ) : EReal) := fun j => by
    rw [hM, hin j, ← EReal.coe_sub, ← sub_mul]
    show ((Real.rpow 2 _ : ℝ) : EReal) = _
    rw [two_pow_div_log]
  have hEout : ∀ i, i ∉ Set.range e → Ideal.exp2 (s i - Finset.univ.fold max ⊥ s) = 0 := fun i hi => by
    rw [hout i hi, EReal.bot_sub]; rfl
  have hE : ∀ j, Ideal.exp ((x j : EReal) - (x j₀ : EReal)) = ((Real.exp (x j - x j₀) : ℝ) : EReal) := fun j => by
    rw [← EReal.coe_sub]; rfl
  have hnum : ∑ i : Fin 768, Ideal.exp2 (s i - Finset.univ.fold max ⊥ s) * v i
      = ∑ j : Fin 128, ((Real.exp (x j - x j₀) : ℝ) : EReal) * v (e j) :=
    (Fintype.sum_of_injective e he _ _ (fun i hi => by rw [hEout i hi, zero_mul]) (fun j => by rw [hEin j])).symm
  have hden : ∑ i : Fin 768, Ideal.exp2 (s i - Finset.univ.fold max ⊥ s)
      = ((∑ j : Fin 128, Real.exp (x j - x j₀) : ℝ) : EReal) := by
    rw [← coe_sum]
    exact (Fintype.sum_of_injective e he _ _ (fun i hi => hEout i hi) (fun j => (hEin j).symm)).symm
  have hL : 0 < ∑ j : Fin 128, Real.exp (x j - x j₀) := Finset.sum_pos (fun j _ => Real.exp_pos _) Finset.univ_nonempty
  have hL0 : ((∑ j : Fin 128, Real.exp (x j - x j₀) : ℝ) : EReal) ≠ 0 := by exact_mod_cast hL.ne'
  unfold baseTwoSum softmaxSum
  rw [hnum, hden, hX]
  simp only [hE]
  rw [coe_sum]
  simp only [Ideal.div, if_neg hL0, ← EReal.coe_inv]
  rw [sum_mul_coe _ _ _ (inv_nonneg.mpr hL.le)]
  exact Finset.sum_congr rfl fun j _ => by rw [mul_right_comm]

end Cert.Equation
-- ==== Proof.Tile.lean ====
/- One stripe of the kernel at the extended reals: each query's scores against 768 keys, and the weighted sum of the values. -/
module

public import proofs.«01_k».proof.Proof.Block
public import proofs.«01_k».proof.Proof.Softmax

@[expose] public section

noncomputable section

namespace Cert.Equation

open Cert.KernelIdeal Cert.KernelIdeal.Gen Idealize.ShloMosaic

/-- The kernel's two factors: `scale / ln 2` on the products, `1 / ln 2` on the biases. -/
def productFactor : EReal := (((11863283 / 134217728) * (Real.log 2)⁻¹ : ℝ) : EReal)
def biasFactor : EReal := (((Real.log 2)⁻¹ : ℝ) : EReal)

theorem productFactor_eq : Named.named (F := Ideal) (φ := .f32) κ "scale_log2e" 0x3E0293EE#32 = productFactor :=
  IdealRules.named_const.ideal_named_scalar _ _ _ _ rfl
theorem biasFactor_eq : Named.named (F := Ideal) (φ := .f32) κ "log2e" 0x3FB8AA3B#32 = biasFactor :=
  IdealRules.named_const.ideal_named_scalar _ _ _ _ rfl

/-- The kernel's score of a key for a query, in base-two units. -/
theorem scores_apply (q : Vec Ideal S256x128 .bf16) (k : Vec Ideal S768x128 .bf16) (t : Vec Ideal S1x1x1x256x768 .f32)
    (j : S256x768.Idx) : k0_pay40 (F := Ideal) q k t j
      = (∑ d : Fin 128, q (ix2 (j 0) d) * k (ix2 (j 1) d)) * productFactor + t (ix5 0 0 0 (j 0) (j 1)) * biasFactor := by
  rw [← productFactor_eq, ← biasFactor_eq]
  unfold k0_pay40
  pointwise

theorem finish_apply (s : Vec Ideal S256x768 .f32) (v : Vec Ideal S768x128 .bf16) (j : S256x128.Idx) :
    k0_pay1 (F := Ideal) s v j = baseTwoSum (fun x => s (ix2 (j 0) x)) (fun x => v (ix2 x (j 1))) := by
  have z : Ideal.ofBits .f32 0xFF800000#32 = ⊥ := by simp [Ideal.ofBits, Ideal.ieee]
  unfold k0_pay1 baseTwoSum
  pointwise
  rw [z]
  rfl

/-- One stripe at query row `r`, column `d`. -/
theorem stripe_apply (q : Vec Ideal S256x128 .bf16) (k : Vec Ideal S768x128 .bf16) (t : Vec Ideal S1x1x1x256x768 .f32)
    (v : Vec Ideal S768x128 .bf16) (r : Fin 256) (d : Fin 128) :
    stripe (F := Ideal) q k t v (ix2 r d)
      = baseTwoSum (fun x => (∑ a : Fin 128, q (ix2 r a) * k (ix2 x a)) * productFactor + t (ix5 0 0 0 r x) * biasFactor)
          (fun x => v (ix2 x d)) := by
  unfold stripe
  rw [finish_apply]
  refine congrArg₂ baseTwoSum (funext fun x => ?_) rfl
  rw [scores_apply]
  rfl

end Cert.Equation
-- ==== Proof.Equation.lean ====
/- The equation: the base-two softmax over a stripe's 768 keys, with the table's `−∞` outside the window, is the softmax
   over the window's 128 keys. -/
module

public import proofs.«01_k».proof.Proof.Table
public import proofs.«01_k».proof.Proof.Tile

@[expose] public section

noncomputable section

namespace Cert.Equation

open Cert.KernelIdeal Cert.KernelIdeal.Gen Idealize.ShloMosaic

/-! ## Where a window key lies among the stripe's keys -/

/-- The stripe of row `P`, and the row's place in it. -/
def stripeOf (P : Fin 4096) : ℕ := P.val / 256
def placeOf (P : Fin 4096) : Fin 256 := ⟨P.val % 256, by omega⟩
/-- The image row and column of the token of row `P`. -/
def imageRow (P : Fin 4096) : Fin 64 := ⟨(stepToken P).val / 64, by omega⟩
def imageCol (P : Fin 4096) : Fin 64 := ⟨(stepToken P).val % 64, by omega⟩

/-- The row of the `x`-th key of the stripe. -/
def keyPlace (n : ℕ) (x : Fin 768) : Fin 4096 := ⟨256 * keyChunk n + x.val, by have := keyChunk_le n; omega⟩

theorem imageRow_val (P : Fin 4096) : (imageRow P).val = 4 * stripeOf P + queryRowOf (placeOf P) := by
  simp only [imageRow, stepToken, stripeOf, queryRowOf, placeOf]; omega

theorem imageCol_val (P : Fin 4096) : (imageCol P).val = queryColOf (placeOf P) := by
  simp only [imageCol, stepToken, queryColOf, placeOf]; omega

theorem keyRowOf_lt (x : Fin 768) : keyRowOf x < 12 := by simp only [keyRowOf]; omega
theorem keyColOf_lt (x : Fin 768) : keyColOf x < 64 := by simp only [keyColOf]; omega

theorem token_query (P : Fin 4096) : stepToken P = token (imageRow P) (imageCol P) := by
  apply Fin.ext; simp only [token, imageRow, imageCol]; omega

theorem token_key (n : ℕ) (x : Fin 768) : (stepToken (keyPlace n x)).val = 64 * (4 * keyChunk n + keyRowOf x) + keyColOf x := by
  simp only [stepToken, keyPlace, keyRowOf, keyColOf]; omega

theorem window_start : ∀ (n : Fin 16) (q : Fin 4),
    4 * keyChunk n.val + rowLo (variantOf n.val).val q.val = min (4 * n.val + q.val - 4) 56 ∧ rowLo (variantOf n.val).val q.val ≤ 4
    ∧ keyChunk n.val + (variantOf n.val).val = n.val := by decide +kernel

variable (P : Fin 4096)

theorem window_start_at : 4 * keyChunk (stripeOf P) + rowLo (variantOf (stripeOf P)).val (queryRowOf (placeOf P)) = min ((imageRow P).val - 4) 56
    ∧ rowLo (variantOf (stripeOf P)).val (queryRowOf (placeOf P)) ≤ 4 ∧ keyChunk (stripeOf P) + (variantOf (stripeOf P)).val = stripeOf P := by
  have h := window_start ⟨stripeOf P, by simp only [stripeOf]; omega⟩ ⟨queryRowOf (placeOf P), by simp only [queryRowOf]; omega⟩
  rw [imageRow_val]
  exact h

/-- The key of the stripe standing at row `R` of its twelve and image column `C`. -/
def keyAt (R C : ℕ) (hR : R < 12) (hC : C < 64) : Fin 768 := ⟨256 * (R / 4) + 8 * (C % 32) + 2 * (R % 4) + C / 32, by omega⟩

theorem keyAt_words : ∀ (R : Fin 12) (C : Fin 64), keyRowOf (keyAt R C R.isLt C.isLt) = R.val ∧ keyColOf (keyAt R C R.isLt C.isLt) = C.val := by
  decide +kernel
theorem keyRowOf_keyAt (R C : ℕ) (hR : R < 12) (hC : C < 64) : keyRowOf (keyAt R C hR hC) = R := (keyAt_words ⟨R, hR⟩ ⟨C, hC⟩).1
theorem keyColOf_keyAt (R C : ℕ) (hR : R < 12) (hC : C < 64) : keyColOf (keyAt R C hR hC) = C := (keyAt_words ⟨R, hR⟩ ⟨C, hC⟩).2
theorem keyAt_of : ∀ x : Fin 768, keyAt (keyRowOf x) (keyColOf x) (keyRowOf_lt x) (keyColOf_lt x) = x := by decide +kernel
/-- A key of the stripe is known by its row and its column. -/
theorem key_ext {x z : Fin 768} (hr : keyRowOf x = keyRowOf z) (hc : keyColOf x = keyColOf z) : x = z := by
  rw [← keyAt_of x, ← keyAt_of z]; simp only [keyAt, hr, hc]

/-- The place of the window's `j`-th key among the stripe's keys. -/
def windowKey (j : Fin 128) : Fin 768 :=
  keyAt (rowLo (variantOf (stripeOf P)).val (queryRowOf (placeOf P)) + (winRow j).val) (min (queryColOf (placeOf P) - 8) 48 + (winCol j).val)
    (by have := (window_start_at P).2.1; have := (winRow j).isLt; omega) (by have := (winCol j).isLt; omega)

theorem windowKey_injective : Function.Injective (windowKey P) := fun i j h => by
  have hr := congrArg keyRowOf h
  have hc := congrArg keyColOf h
  simp only [windowKey, keyRowOf_keyAt, keyColOf_keyAt, winRow, winCol] at hr hc
  apply Fin.ext; omega

theorem windowKey_in (j : Fin 128) : rowIn (variantOf (stripeOf P)).val (queryRowOf (placeOf P)) (keyRowOf (windowKey P j))
    ∧ colIn (queryColOf (placeOf P)) (keyColOf (windowKey P j)) := by
  have := (winRow j).isLt; have := (winCol j).isLt
  simp only [windowKey, keyRowOf_keyAt, keyColOf_keyAt, rowIn, colIn]; omega

theorem exists_windowKey (x : Fin 768) (hr : rowIn (variantOf (stripeOf P)).val (queryRowOf (placeOf P)) (keyRowOf x))
    (hc : colIn (queryColOf (placeOf P)) (keyColOf x)) : x ∈ Set.range (windowKey P) := by
  unfold rowIn at hr; unfold colIn at hc
  refine ⟨⟨16 * (keyRowOf x - rowLo (variantOf (stripeOf P)).val (queryRowOf (placeOf P))) + (keyColOf x - min (queryColOf (placeOf P) - 8) 48), by omega⟩, ?_⟩
  apply key_ext <;> simp only [windowKey, keyRowOf_keyAt, keyColOf_keyAt, winRow, winCol] <;> omega

theorem token_window (j : Fin 128) : stepToken (keyPlace (stripeOf P) (windowKey P j))
    = token (keyRow (imageRow P) (winRow j)) (keyCol (imageCol P) (winCol j)) := by
  apply Fin.ext
  rw [token_key]
  have h := (window_start_at P).1
  simp only [token, keyRow, keyCol, windowKey, keyRowOf_keyAt, keyColOf_keyAt, imageCol_val]; omega

/-! ## The scores -/

/-- The kernel's score of the stripe's `x`-th key, in the base of two. -/
def tileScore (p : Packed) (g : Biases) (b : Fin 2) (h : Fin 16) (x : Fin 768) : EReal :=
  (∑ a : Fin 128, p (ix3 b (stepToken P) (queryCol h a)) * p (ix3 b (stepToken (keyPlace (stripeOf P) x)) (headKeyCol h a))) * productFactor
    + biasAt g h (variantOf (stripeOf P)) (placeOf P) x * biasFactor

/-- The queries and the keys are real numbers, and so are the layer's position biases; the values are any. -/
structure RealScores (p : Packed) (g : Biases) (u : Fin 2 → Fin 4096 → Fin 12288 → ℝ) (w : Fin 16 → Fin 15 → Fin 31 → ℝ) : Prop where
  query : ∀ b t h d, p (ix3 b t (queryCol h d)) = (u b t (queryCol h d) : EReal)
  key : ∀ b t h d, p (ix3 b t (headKeyCol h d)) = (u b t (headKeyCol h d) : EReal)
  bias : ∀ h i j, g (ix4 0 h i j) = (w h i j : EReal)

variable {p : Packed} {g : Biases} (u : Fin 2 → Fin 4096 → Fin 12288 → ℝ) (w : Fin 16 → Fin 15 → Fin 31 → ℝ)

/-- The score of the window's `j`-th key as a real number. -/
def realScore (b : Fin 2) (h : Fin 16) (r c : Fin 64) (j : Fin 128) : ℝ :=
  (∑ d : Fin 128, u b (token r c) (queryCol h d) * u b (token (keyRow r (winRow j)) (keyCol c (winCol j))) (headKeyCol h d)) * (11863283 / 134217728)
    + w h (rowOff r (winRow j)) (colOff c (winCol j))

theorem dot_coe (x y : Fin 128 → ℝ) : (∑ a : Fin 128, (x a : EReal) * (y a : EReal)) = ((∑ a : Fin 128, x a * y a : ℝ) : EReal) := by
  simp only [← EReal.coe_mul]
  exact (map_sum (⟨⟨Real.toEReal, EReal.coe_zero⟩, EReal.coe_add⟩ : ℝ →+ EReal) _ _).symm

section Real

variable {u w} (hr : RealScores p g u w)
include hr

theorem scoreAt_coe (b : Fin 2) (h : Fin 16) (r c : Fin 64) (j : Fin 128) :
    scoreAt p g b h r c j = (realScore u w b h r c j : EReal) := by
  unfold scoreAt score
  simp only [hr.query, hr.key, hr.bias]
  rw [dot_coe, scale, ← EReal.coe_mul, ← EReal.coe_add]
  rfl

theorem bias_window (h : Fin 16) (j : Fin 128) : biasAt g h (variantOf (stripeOf P)) (placeOf P) (windowKey P j)
    = (w h (rowOff (imageRow P) (winRow j)) (colOff (imageCol P) (winCol j)) : EReal) := by
  unfold biasAt
  rw [if_pos (windowKey_in P j), hr.bias]
  have hs := window_start_at P
  have hw := (winRow j).isLt; have hv := (winCol j).isLt
  have hq : queryColOf (placeOf P) < 64 := by rw [← imageCol_val]; exact (imageCol P).isLt
  have hqr : queryRowOf (placeOf P) < 4 := by simp only [queryRowOf]; omega
  refine congrArg₂ (fun i j => ((w h i j : ℝ) : EReal)) (Fin.ext ?_) (Fin.ext ?_)
  · have hr := imageRow_val P
    simp only [windowKey, keyRowOf_keyAt, rowOff, keyRow]; omega
  · simp only [windowKey, keyColOf_keyAt, colOff, keyCol, imageCol_val]; omega

theorem tileScore_in (b : Fin 2) (h : Fin 16) (j : Fin 128) : tileScore P p g b h (windowKey P j)
    = ((realScore u w b h (imageRow P) (imageCol P) j * (Real.log 2)⁻¹ : ℝ) : EReal) := by
  unfold tileScore
  rw [bias_window P hr, token_window, token_query]
  simp only [hr.query, hr.key]
  rw [dot_coe, productFactor, biasFactor, ← EReal.coe_mul, ← EReal.coe_mul, ← EReal.coe_add, realScore, add_mul, mul_assoc]

omit hr in
theorem tileScore_out (b : Fin 2) (h : Fin 16) (x : Fin 768) (hx : x ∉ Set.range (windowKey P)) :
    tileScore P p g b h x = ⊥ := by
  unfold tileScore biasAt
  rw [if_neg fun hh => hx (exists_windowKey P x hh.1 hh.2), biasFactor,
    EReal.bot_mul_coe_of_pos (inv_pos.mpr (Real.log_pos (by norm_num))), EReal.add_bot]

/-- A stripe's row is the attention of its query over its window. -/
theorem tile_eq_attend (b : Fin 2) (h : Fin 16) (d : Fin 128) :
    baseTwoSum (tileScore P p g b h) (fun x => p (ix3 b (stepToken (keyPlace (stripeOf P) x)) (valueCol h d)))
      = attend p g b h (imageRow P) (imageCol P) d := by
  rw [baseTwoSum_eq _ _ (realScore u w b h (imageRow P) (imageCol P)) (windowKey P) (windowKey_injective P)
    (tileScore_in P hr b h) (tileScore_out P b h)]
  exact congrArg₂ softmaxSum (funext fun j => (scoreAt_coe hr b h _ _ j).symm) (funext fun j => by rw [token_window]; rfl)

end Real

end Cert.Equation
-- ==== Proof.Array.lean ====
/- What the attention call's output array holds after every grid point has written its block back, and what the
   reshapes after it make of that array. -/
module

public import proofs.«01_k».proof.Proof.Region
public import proofs.«01_k».proof.Proof.Equation
public import Idealize.ShloMosaic.Lib.Pipeline.ValueKit

@[expose] public section

set_option maxRecDepth 100000

noncomputable section

namespace Cert.Equation

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (c : Dev nD)

/-! ## The grid: heads outside, batches inside -/

theorem points : cfg0.N = 32 := by decide +kernel

def headAt (t : Fin cfg0.N) : Fin 16 := ⟨t.val / 2, by have := lt_of_lt_of_eq t.isLt points; omega⟩
def batchAt (t : Fin cfg0.N) : Fin 2 := ⟨t.val % 2, by omega⟩

theorem index_maps : ∀ t : Fin cfg0.N,
    win0_0.index t = ![(batchAt t).val, 32 + (headAt t).val] ∧ win0_1.index t = ![(batchAt t).val, 48 + (headAt t).val]
    ∧ win0_2.index t = ![(batchAt t).val, 64 + (headAt t).val] ∧ win0_3.index t = ![0, (headAt t).val, 0, 0, 0]
    ∧ win0_4.index t = ![(batchAt t).val, (headAt t).val] := by
  decide +kernel

/-! ## The blocks a point reads -/

theorem block_query (t : Fin cfg0.N) (P : Fin 4096) (d : Fin 128) :
    iblk m c 0 t (ix2 P d) = m ((c.tc : Thread nD τ).loc main_arg0) (ix3 (batchAt t) (stepToken P) (queryCol (headAt t) d)) := by
  refine Eq.trans ?_ (reordered_apply (m ((c.tc : Thread nD τ).loc main_arg0)) (batchAt t) P (queryCol (headAt t) d))
  rw [← V_tokens]
  blk_ext [iblk, (index_maps t).1, queryCol]

theorem block_key (t : Fin cfg0.N) (P : Fin 4096) (d : Fin 128) :
    iblk m c 1 t (ix2 P d) = m ((c.tc : Thread nD τ).loc main_arg0) (ix3 (batchAt t) (stepToken P) (headKeyCol (headAt t) d)) := by
  refine Eq.trans ?_ (reordered_apply (m ((c.tc : Thread nD τ).loc main_arg0)) (batchAt t) P (headKeyCol (headAt t) d))
  rw [← V_tokens]
  blk_ext [iblk, (index_maps t).2.1, headKeyCol]

theorem block_value (t : Fin cfg0.N) (P : Fin 4096) (d : Fin 128) :
    iblk m c 2 t (ix2 P d) = m ((c.tc : Thread nD τ).loc main_arg0) (ix3 (batchAt t) (stepToken P) (valueCol (headAt t) d)) := by
  refine Eq.trans ?_ (reordered_apply (m ((c.tc : Thread nD τ).loc main_arg0)) (batchAt t) P (valueCol (headAt t) d))
  rw [← V_tokens]
  blk_ext [iblk, (index_maps t).2.2.1, valueCol]

theorem read_table_block (X : S4x16x3x256x768.Idx → EReal) (t : Fin cfg0.N) (p : Fin 3) (y : Fin 256) (x : Fin 768) :
    ((cfg0.win 3).blk t).view.read (Elt Ideal) X (ix5 0 0 p y x) = X (ix5 0 (headAt t) p y x) := by
  blk_ext [(index_maps t).2.2.2.1]

theorem block_table (t : Fin cfg0.N) (p : Fin 3) (y : Fin 256) (x : Fin 768) :
    iblk m c 3 t (ix5 0 0 p y x) = biasAt (m ((c.tc : Thread nD τ).loc main_arg1)) (headAt t) p y x := by
  refine Eq.trans ?_ (table_apply (m ((c.tc : Thread nD τ).loc main_arg1)) (headAt t) p y x)
  unfold iblk
  refine (read_table_block (V m c main_v67) t p y x).trans ?_
  rw [V_table]

/-! ## The array -/

/-- A place of the output array: its batch, row among the batch's 4096, head and coordinate. -/
def outBatch (i : S8192x2048.Idx) : Fin 2 := ⟨(i 0).val / 4096, by have h : (i 0).val < 8192 := (i 0).isLt; omega⟩
def outRow (i : S8192x2048.Idx) : Fin 4096 := ⟨(i 0).val % 4096, by omega⟩
def outHead (i : S8192x2048.Idx) : Fin 16 := ⟨(i 1).val / 128, by have h : (i 1).val < 2048 := (i 1).isLt; omega⟩
def outCoord (i : S8192x2048.Idx) : Fin 128 := ⟨(i 1).val % 128, by omega⟩

/-- The attention, its tokens in the kernel's order and its batches joined. -/
def outArray (p : Packed) (g : Biases) : S8192x2048.Idx → EReal := fun i =>
  attend p g (outBatch i) (outHead i) (imageRow (outRow i)) (imageCol (outRow i)) (outCoord i)

theorem outArray_at (p : Packed) (g : Biases) (b : Fin 2) (h : Fin 16) (P : Fin 4096) (d : Fin 128) (i : S8192x2048.Idx)
    (h0 : (i 0).val = b.val * 4096 + P.val) (h1 : (i 1).val = h.val * 128 + d.val) :
    outArray p g i = attend p g b h (imageRow P) (imageCol P) d := by
  have hP := P.isLt; have hd := d.isLt
  have e0 : outBatch i = b := Fin.ext (by show (i 0).val / 4096 = _; omega)
  have e1 : outRow i = P := Fin.ext (by show (i 0).val % 4096 = _; omega)
  have e2 : outHead i = h := Fin.ext (by show (i 1).val / 128 = _; omega)
  have e3 : outCoord i = d := Fin.ext (by show (i 1).val % 128 = _; omega)
  unfold outArray
  rw [e0, e1, e2, e3]

/-- A point's block, read at a row and a coordinate. -/
theorem block_out {u : Fin 2 → Fin 4096 → Fin 12288 → ℝ} {w : Fin 16 → Fin 15 → Fin 31 → ℝ}
    (hr : RealScores (m ((c.tc : Thread nD τ).loc main_arg0)) (m ((c.tc : Thread nD τ).loc main_arg1)) u w)
    (t : Fin cfg0.N) (P : Fin 4096) (d : Fin 128) :
    blockOut (iblk m c 0 t) (iblk m c 1 t) (iblk m c 2 t) (iblk m c 3 t) (ix2 P d)
      = attend (m ((c.tc : Thread nD τ).loc main_arg0)) (m ((c.tc : Thread nD τ).loc main_arg1)) (batchAt t) (headAt t) (imageRow P) (imageCol P) d := by
  refine Eq.trans ?_ (tile_eq_attend P hr (batchAt t) (headAt t) d)
  refine (stripe_apply _ _ _ _ (placeOf P) d).trans ?_
  have hq : (⟨256 * (P.val / 256) + P.val % 256, by omega⟩ : Fin 4096) = P := Fin.ext (Nat.div_add_mod _ _)
  refine congrArg₂ baseTwoSum (funext fun x => ?_) (funext fun x => ?_)
  · unfold tileScore
    refine congrArg₂ (· + ·) (congrArg (· * productFactor) (Finset.sum_congr rfl fun a _ => congrArg₂ (· * ·) ?_ ?_)) (congrArg (· * biasFactor) ?_)
    · exact (congrArg (fun i => iblk m c 0 t (ix2 i a)) hq).trans (block_query m c t P a)
    · exact block_key m c t (keyPlace (stripeOf P) x) a
    · exact block_table m c t _ _ x
  · exact block_value m c t (keyPlace (stripeOf P) x) d

theorem array_eq {u : Fin 2 → Fin 4096 → Fin 12288 → ℝ} {w : Fin 16 → Fin 15 → Fin 31 → ℝ}
    (hr : RealScores (m ((c.tc : Thread nD τ).loc main_arg0)) (m ((c.tc : Thread nD τ).loc main_arg1)) u w) :
    (dats m 0 c).arrAt 4 cfg0.N = outArray (m ((c.tc : Thread nD τ).loc main_arg0)) (m ((c.tc : Thread nD τ).loc main_arg1)) := by
  refine (dats m 0 c).arrAt_eq_of_covers 4 _ (by decide +kernel) fun t hf y => ?_
  blk_simp
  rw [after0_4]
  have hy0 : (y 0).val < 4096 := (y 0).isLt
  have hy1 : (y 1).val < 128 := (y 1).isLt
  refine Eq.trans ?_ ((block_out m c hr t ⟨(y 0).val, hy0⟩ ⟨(y 1).val, hy1⟩).trans ?_)
  · refine congrArg _ (funext fun a => ?_)
    match a with
    | ⟨0, _⟩ => rfl
    | ⟨1, _⟩ => rfl
  · have h0 : (((win0_4.blk t).view.emb y) 0).val = (batchAt t).val * 4096 + (y 0).val := by
      blk_simp [(index_maps t).2.2.2.2]
    have h1 : (((win0_4.blk t).view.emb y) 1).val = (headAt t).val * 128 + (y 1).val := by
      blk_simp [(index_maps t).2.2.2.2]
    exact (outArray_at _ _ _ _ ⟨(y 0).val, hy0⟩ ⟨(y 1).val, hy1⟩ _ h0 h1).symm

/-! ## The result -/

/-- A token's row: the place `8 j + s` for token `32 s + j` of a chunk. -/
def tokenRow (t : Fin 4096) : Fin 4096 := ⟨256 * (t.val / 256) + 8 * (t.val % 32) + t.val % 256 / 32, by omega⟩

theorem stepToken_tokenRow : ∀ t : Fin 4096, stepToken (tokenRow t) = t := by decide +kernel

/-- The output array with its tokens put back in order and its batches split. -/
def restored (x : S8192x2048.Idx → EReal) : S2x4096x2048.Idx → EReal :=
  shapeCast S2x4096x2048 (shapeCast S8192x2048 (transpose S2x16x8x32x2048 [0, 1, 3, 2, 4]
    (shapeCast S2x16x32x8x2048 x shapeCasts_S8192x2048_S2x16x32x8x2048) transposes_S2x16x32x8x2048_S2x16x8x32x2048_0_1_3_2_4)
    shapeCasts_S2x16x8x32x2048_S8192x2048) shapeCasts_S8192x2048_S2x4096x2048

theorem restored_apply (x : S8192x2048.Idx → EReal) (b : Fin 2) (t : Fin 4096) (n : Fin 2048) :
    restored x (ix3 b t n) = x (ix2 ⟨4096 * b.val + (tokenRow t).val, by omega⟩ n) := by
  have hb := b.isLt; have ht := t.isLt; have hn := n.isLt
  unfold restored
  rw [shapeCast_apply _ _ _ (ix2 (⟨4096 * b.val + t.val, by omega⟩ : Fin 8192) n)
      (by rw [Shape.rowMajor_val_three, Shape.rowMajor_val_two]
          show (4096 * b.val + t.val) * 2048 + n.val = (b.val * 4096 + t.val) * 2048 + n.val
          omega),
    shapeCast_apply _ _ _ (ix5 b (⟨t.val / 256, by omega⟩ : Fin 16) (⟨t.val % 256 / 32, by omega⟩ : Fin 8) (⟨t.val % 32, by omega⟩ : Fin 32) n)
      (by rw [Shape.rowMajor_val_five, Shape.rowMajor_val_two]
          show (((b.val * 16 + t.val / 256) * 8 + t.val % 256 / 32) * 32 + t.val % 32) * 2048 + n.val = (4096 * b.val + t.val) * 2048 + n.val
          omega),
    transpose_apply _ _ _ _ (ix5 b (⟨t.val / 256, by omega⟩ : Fin 16) (⟨t.val % 32, by omega⟩ : Fin 32) (⟨t.val % 256 / 32, by omega⟩ : Fin 8) n)
      (fun a => match a with | ⟨0, _⟩ => rfl | ⟨1, _⟩ => rfl | ⟨2, _⟩ => rfl | ⟨3, _⟩ => rfl | ⟨4, _⟩ => rfl),
    shapeCast_apply _ _ _ (ix2 (⟨4096 * b.val + (tokenRow t).val, by omega⟩ : Fin 8192) n)
      (by rw [Shape.rowMajor_val_five, Shape.rowMajor_val_two]
          show (4096 * b.val + (256 * (t.val / 256) + 8 * (t.val % 32) + t.val % 256 / 32)) * 2048 + n.val
            = (((b.val * 16 + t.val / 256) * 32 + t.val % 32) * 8 + t.val % 256 / 32) * 2048 + n.val
          omega)]

theorem restored_outArray (p : Packed) (g : Biases) : restored (outArray p g) = result p g := by
  funext i
  have h2 : (i 2).val < 2048 := (i 2).isLt
  refine (congrArg (restored (outArray p g)) (?_ : i = ix3 (i 0) (i 1) (i 2))).trans ((restored_apply _ (i 0) (i 1) (i 2)).trans ?_)
  · funext a
    match a with
    | ⟨0, _⟩ => rfl
    | ⟨1, _⟩ => rfl
    | ⟨2, _⟩ => rfl
  · refine (outArray_at p g (i 0) ⟨(i 2).val / 128, by omega⟩ (tokenRow (i 1)) ⟨(i 2).val % 128, by omega⟩ _ ?_ ?_).trans ?_
    · show 4096 * _ + _ = _; rw [Nat.mul_comm]
    · show (i 2).val = (i 2).val / 128 * 128 + (i 2).val % 128; omega
    · exact congrArg (fun t : Fin 4096 => attend p g (i 0) ⟨(i 2).val / 128, by omega⟩ ⟨t.val / 64, by omega⟩ ⟨t.val % 64, by omega⟩ ⟨(i 2).val % 128, by omega⟩)
        (stepToken_tokenRow (i 1))

/-- What the program leaves in its result. -/
theorem W_result {u : Fin 2 → Fin 4096 → Fin 12288 → ℝ} {w : Fin 16 → Fin 15 → Fin 31 → ℝ}
    (hr : RealScores (m ((c.tc : Thread nD τ).loc main_arg0)) (m ((c.tc : Thread nD τ).loc main_arg1)) u w) :
    Pipeline.afterTail₀ cfgs (dats m) 0 (V0 m) [hostOps1] c main_v72
      = result (m ((c.tc : Thread nD τ).loc main_arg0)) (m ((c.tc : Thread nD τ).loc main_arg1)) := by
  have harr : Pipeline.withArrays spec0 c (V0 m c) (fun k => (dats m 0 c).arrAt k cfg0.N) (Proc.devRef .tc main_v68)
      = outArray (m ((c.tc : Thread nD τ).loc main_arg0)) (m ((c.tc : Thread nD τ).loc main_arg1)) :=
    (Pipeline.withArrays_arr_shared spec0 c (V0 m c) (fun k => (dats m 0 c).arrAt k cfg0.N)
      (fun k k' hne e => ((dats m 0 c).arrAt_in k ((by decide : ∀ k k' : Fin 5, k ≠ k' → Pipeline.arrRef spec0 k = Pipeline.arrRef spec0 k' → (cfg0.win k).isOut = false) k k' hne e) _).trans (A_eq m c k)) 4).trans
      (array_eq m c hr)
  rw [← restored_outArray, ← harr]
  unfold Pipeline.afterTail₀
  simp only [hostOps1, List.flatten_cons, List.flatten_nil, List.append_nil]
  after_reads_simp
  rfl

end Cert.Equation
-- ==== Proof.Finite.lean ====
/- What the precondition says: queries, keys and the layer's position biases are real numbers. -/
module

public import proofs.«01_k».proof.Proof.Equation
public import proofs.«01_k».proof.Pre_finite
public import Idealize.ShloMosaic.Lib.Pointwise

@[expose] public section

noncomputable section

namespace Cert.Equation

open Cert.KernelIdeal Cert.KernelIdeal.Gen Idealize.ShloMosaic

/-- An extended real whose magnitude lies below `∞` is a real number. -/
theorem real_of_abs_lt {x : EReal} (h : Ideal.cmp .olt (max x (-x)) ⊤ = 1#1) : x = (x.toReal : EReal) := by
  rw [show (1#1 : BitVec 1) = 1 from rfl, Ideal.cmp_olt_eq_one] at h
  refine (EReal.coe_toReal ?_ ?_).symm
  · rintro rfl; simp at h
  · rintro rfl; simp at h

/-- The bound the precondition compares with is `∞`. -/
theorem infinity : Ideal.ofBits .f32 0x7F800000#32 = ⊤ := by simp [Ideal.ofBits, Ideal.ieee]

variable [Cert.Pre_finite.Facts] {p : Packed} {g : Biases}

/-- The packed columns from 4096 to 8191, which hold the queries and the keys, are real numbers. -/
theorem packed_real (h : (Cert.Pre_finite.fn (F := Ideal) p g).1 = fun _ => 1#1) (b : Fin 2) (t : Fin 4096) (n : Fin 12288)
    (hn : 4096 ≤ n.val ∧ n.val < 8192) : p (ix3 b t n) = ((p (ix3 b t n)).toReal : EReal) := by
  apply real_of_abs_lt
  have := congrFun h (ix3 b t ⟨n.val - 4096, by omega⟩)
  rw [← this, ← infinity]
  refine congrArg (fun x : EReal => Ideal.cmp .olt (max x (-x)) (Ideal.ofBits .f32 0x7F800000#32)) (congrArg p (funext fun a => Fin.ext ?_))
  match a with
  | ⟨0, _⟩ => exact (Nat.zero_add _).symm
  | ⟨1, _⟩ => exact (Nat.zero_add _).symm
  | ⟨2, _⟩ => show n.val = 4096 + (n.val - 4096); omega

/-- The layer's position biases are real numbers. -/
theorem bias_real (h : (Cert.Pre_finite.fn (F := Ideal) p g).2 = fun _ => 1#1) (k : Fin 16) (i : Fin 15) (j : Fin 31) :
    g (ix4 0 k i j) = ((g (ix4 0 k i j)).toReal : EReal) := by
  apply real_of_abs_lt
  have := congrFun h (ix4 0 k i j)
  rw [← this, ← infinity]
  refine congrArg (fun x : EReal => Ideal.cmp .olt (max x (-x)) (Ideal.ofBits .f32 0x7F800000#32)) (congrArg g (funext fun a => Fin.ext ?_))
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- So the scores are sums of products of real numbers. -/
theorem realScores (h : (Cert.Pre_finite.fn (F := Ideal) p g).1 = fun _ => 1#1) (h' : (Cert.Pre_finite.fn (F := Ideal) p g).2 = fun _ => 1#1) :
    RealScores p g (fun b t n => (p (ix3 b t n)).toReal) (fun k i j => (g (ix4 0 k i j)).toReal) where
  query b t k d := packed_real h b t (queryCol k d) (by simp only [queryCol]; omega)
  key b t k d := packed_real h b t (headKeyCol k d) (by simp only [headKeyCol]; omega)
  bias := bias_real h'

end Cert.Equation

end
-- ==== Proof.RefRead.lean ====
/- The reference read at an index: the keys and values its gathers pick, its scores, its softmax and its weighted sum. -/
module

public import proofs.«01_k».proof.Proof.Gen.ReferenceIdeal.Read
public import proofs.«01_k».proof.Proof.Window
public import Idealize.ShloMosaic.Lib.Pointwise
public import Idealize.ShloMosaic.Lib.ValueIdxRank6

@[expose] public section

noncomputable section

namespace Cert.Equation

open Cert.ReferenceIdeal Cert.ReferenceIdeal.Gen Cert.ReferenceIdeal.Read Idealize.ShloMosaic

/-! ## The index words -/

theorem rowWord₁ : ∀ (r : Fin 64) (k : Fin 8), (val_main_v46 (F := Ideal) (ix4 r k 0 0)).toInt.toNat = (keyRow r k).val := by
  decide +kernel
theorem colWord₁ : ∀ (c : Fin 64) (w : Fin 16), (val_main_v51 (F := Ideal) (ix4 0 0 c w)).toInt.toNat = (keyCol c w).val := by
  decide +kernel
theorem rowWord₂ : ∀ (r : Fin 64) (k : Fin 8), (val_main_v62 (F := Ideal) (ix4 r k 0 0)).toInt.toNat = (keyRow r k).val := by
  decide +kernel
theorem colWord₂ : ∀ (c : Fin 64) (w : Fin 16), (val_main_v67 (F := Ideal) (ix4 0 0 c w)).toInt.toNat = (keyCol c w).val := by
  decide +kernel
theorem rowOffWord : ∀ (r : Fin 64) (k : Fin 8), (val_main_v82 (F := Ideal) (ix4 r k 0 0)).toInt.toNat = (rowOff r k).val := by
  decide +kernel
theorem colOffWord : ∀ (c : Fin 64) (w : Fin 16), (val_main_v87 (F := Ideal) (ix4 0 0 c w)).toInt.toNat = (colOff c w).val := by
  decide +kernel

/-! ## The gathers -/

/-- A gather of image rows and columns reads the operand where the two words of its index say. -/
theorem gather_rows (x : S2x64x64x16x128.Idx → EReal) (idx : IVec S64x8x64x16x2 32)
    (b : Fin 2) (r : Fin 64) (k : Fin 8) (c : Fin 64) (w : Fin 16) (h : Fin 16) (d : Fin 128) :
    Host.gather gather_S2x64x64x16x128_S64x8x64x16x2_S2x64x8x64x16x16x128_056_12_n_n_12_4_21116128 x idx (ix7 b r k c w h d)
      = x (ix5 b ⟨min (idx (ix5 r k c w 0)).toInt.toNat 63, by omega⟩ ⟨min (idx (ix5 r k c w 1)).toInt.toNat 63, by omega⟩ h d) := by
  unfold Host.gather
  congr 1
  funext a
  apply Fin.ext
  match a with
  | ⟨0, _⟩ => exact Nat.zero_add _
  | ⟨1, _⟩ =>
    refine (congrArg (fun i => min (idx i).toInt.toNat 63) (a₂ := ix5 r k c w 0) ?_ : _ = _)
    funext e
    match e with
    | ⟨0, _⟩ => rfl
    | ⟨1, _⟩ => rfl
    | ⟨2, _⟩ => rfl
    | ⟨3, _⟩ => rfl
    | ⟨4, _⟩ => rfl
  | ⟨2, _⟩ =>
    refine (congrArg (fun i => min (idx i).toInt.toNat 63) (a₂ := ix5 r k c w 1) ?_ : _ = _)
    funext e
    match e with
    | ⟨0, _⟩ => rfl
    | ⟨1, _⟩ => rfl
    | ⟨2, _⟩ => rfl
    | ⟨3, _⟩ => rfl
    | ⟨4, _⟩ => rfl
  | ⟨3, _⟩ => exact Nat.zero_add _
  | ⟨4, _⟩ => exact Nat.zero_add _

/-- The gather of biases likewise, over row and column offsets. -/
theorem gather_biases (x : S16x15x31.Idx → EReal) (idx : IVec S64x8x64x16x2 32)
    (h : Fin 16) (r : Fin 64) (k : Fin 8) (c : Fin 64) (w : Fin 16) :
    Host.gather gather_S16x15x31_S64x8x64x16x2_S16x64x8x64x16_0_12_n_n_12_4_1611 x idx (ix5 h r k c w)
      = x (ix3 h ⟨min (idx (ix5 r k c w 0)).toInt.toNat 14, by omega⟩ ⟨min (idx (ix5 r k c w 1)).toInt.toNat 30, by omega⟩) := by
  unfold Host.gather
  congr 1
  funext a
  apply Fin.ext
  match a with
  | ⟨0, _⟩ => exact Nat.zero_add _
  | ⟨1, _⟩ =>
    refine (congrArg (fun i => min (idx i).toInt.toNat 14) (a₂ := ix5 r k c w 0) ?_ : _ = _)
    funext e
    match e with
    | ⟨0, _⟩ => rfl
    | ⟨1, _⟩ => rfl
    | ⟨2, _⟩ => rfl
    | ⟨3, _⟩ => rfl
    | ⟨4, _⟩ => rfl
  | ⟨2, _⟩ =>
    refine (congrArg (fun i => min (idx i).toInt.toNat 30) (a₂ := ix5 r k c w 1) ?_ : _ = _)
    funext e
    match e with
    | ⟨0, _⟩ => rfl
    | ⟨1, _⟩ => rfl
    | ⟨2, _⟩ => rfl
    | ⟨3, _⟩ => rfl
    | ⟨4, _⟩ => rfl

/-! ## Queries, keys, values, biases -/

theorem query_apply (p : Packed) (b : Fin 2) (r c : Fin 64) (h : Fin 16) (d : Fin 128) :
    val_main_v7 (F := Ideal) p (ix5 b r c h d) = p (ix3 b (token r c) (queryCol h d)) := by
  have hb := b.isLt; have hr := r.isLt; have hc := c.isLt; have hh := h.isLt; have hd := d.isLt
  rw [val_main_v7_apply, val_main_v3_apply, val_main_v0_apply]
  refine congrArg p (funext fun a => Fin.ext ?_)
  match a with
  | ⟨0, _⟩ => simp only [ix5, ix3, token, queryCol]; omega
  | ⟨1, _⟩ => simp only [ix5, ix3, token, queryCol]; omega
  | ⟨2, _⟩ => simp only [ix5, ix3, token, queryCol]; omega

theorem key_apply (p : Packed) (b : Fin 2) (r c : Fin 64) (h : Fin 16) (d : Fin 128) :
    val_main_v8 (F := Ideal) p (ix5 b r c h d) = p (ix3 b (token r c) (headKeyCol h d)) := by
  have hb := b.isLt; have hr := r.isLt; have hc := c.isLt; have hh := h.isLt; have hd := d.isLt
  rw [val_main_v8_apply, val_main_v4_apply, val_main_v0_apply]
  refine congrArg p (funext fun a => Fin.ext ?_)
  match a with
  | ⟨0, _⟩ => simp only [ix5, ix3, token, headKeyCol]; omega
  | ⟨1, _⟩ => simp only [ix5, ix3, token, headKeyCol]; omega
  | ⟨2, _⟩ => simp only [ix5, ix3, token, headKeyCol]; omega

theorem value_apply (p : Packed) (b : Fin 2) (r c : Fin 64) (h : Fin 16) (d : Fin 128) :
    val_main_v9 (F := Ideal) p (ix5 b r c h d) = p (ix3 b (token r c) (valueCol h d)) := by
  have hb := b.isLt; have hr := r.isLt; have hc := c.isLt; have hh := h.isLt; have hd := d.isLt
  rw [val_main_v9_apply, val_main_v5_apply, val_main_v0_apply]
  refine congrArg p (funext fun a => Fin.ext ?_)
  match a with
  | ⟨0, _⟩ => simp only [ix5, ix3, token, valueCol]; omega
  | ⟨1, _⟩ => simp only [ix5, ix3, token, valueCol]; omega
  | ⟨2, _⟩ => simp only [ix5, ix3, token, valueCol]; omega

theorem bias_apply (g : Biases) (h : Fin 16) (y : Fin 15) (x : Fin 31) :
    val_main_v75 (F := Ideal) g (ix3 h y x) = g (ix4 0 h y x) := by
  have hh := h.isLt; have hy := y.isLt; have hx := x.isLt
  rw [val_main_v75_apply, val_main_v74_apply]
  refine congrArg g (funext fun a => Fin.ext ?_)
  match a with
  | ⟨0, _⟩ => rfl
  | ⟨1, _⟩ => simp only [ix4, ix3]; omega
  | ⟨2, _⟩ => simp only [ix4, ix3]; omega
  | ⟨3, _⟩ => simp only [ix4, ix3]; omega

theorem windowKey_apply (p : Packed) (b : Fin 2) (r : Fin 64) (k : Fin 8) (c : Fin 64) (w : Fin 16) (h : Fin 16) (d : Fin 128) :
    val_main_v57 (F := Ideal) p (ix7 b r k c w h d) = p (ix3 b (token (keyRow r k) (keyCol c w)) (headKeyCol h d)) := by
  unfold val_main_v57
  rw [gather_rows, key_apply]
  have e0 : val_main_v56 (F := Ideal) (ix5 r k c w 0) = val_main_v46 (F := Ideal) (ix4 r k 0 0) := rfl
  have e1 : val_main_v56 (F := Ideal) (ix5 r k c w 1) = val_main_v51 (F := Ideal) (ix4 0 0 c w) := rfl
  simp only [e0, e1, rowWord₁, colWord₁]
  have h0 : min (keyRow r k).val 63 = (keyRow r k).val := by omega
  have h1 : min (keyCol c w).val 63 = (keyCol c w).val := by omega
  simp only [h0, h1]

theorem windowValue_apply (p : Packed) (b : Fin 2) (r : Fin 64) (k : Fin 8) (c : Fin 64) (w : Fin 16) (h : Fin 16) (d : Fin 128) :
    val_main_v73 (F := Ideal) p (ix7 b r k c w h d) = p (ix3 b (token (keyRow r k) (keyCol c w)) (valueCol h d)) := by
  unfold val_main_v73
  rw [gather_rows, value_apply]
  have e0 : val_main_v72 (F := Ideal) (ix5 r k c w 0) = val_main_v62 (F := Ideal) (ix4 r k 0 0) := rfl
  have e1 : val_main_v72 (F := Ideal) (ix5 r k c w 1) = val_main_v67 (F := Ideal) (ix4 0 0 c w) := rfl
  simp only [e0, e1, rowWord₂, colWord₂]
  have h0 : min (keyRow r k).val 63 = (keyRow r k).val := by omega
  have h1 : min (keyCol c w).val 63 = (keyCol c w).val := by omega
  simp only [h0, h1]

theorem windowBias_apply (g : Biases) (h : Fin 16) (r : Fin 64) (k : Fin 8) (c : Fin 64) (w : Fin 16) :
    val_main_v93 (F := Ideal) g (ix5 h r k c w) = g (ix4 0 h (rowOff r k) (colOff c w)) := by
  unfold val_main_v93
  rw [gather_biases, bias_apply]
  have e0 : val_main_v92 (F := Ideal) (ix5 r k c w 0) = val_main_v82 (F := Ideal) (ix4 r k 0 0) := rfl
  have e1 : val_main_v92 (F := Ideal) (ix5 r k c w 1) = val_main_v87 (F := Ideal) (ix4 0 0 c w) := rfl
  simp only [e0, e1, rowOffWord, colOffWord]
  have h0 : min (rowOff r k).val 14 = (rowOff r k).val := by omega
  have h1 : min (colOff c w).val 30 = (colOff c w).val := by omega
  simp only [h0, h1]

/-! ## Scores, softmax, weighted sum -/

/-- The factor the reference multiplies by. -/
theorem factor_eq : (FloatOps.ofBits .f32 0x3DB504F3#32 : Ideal .f32) = scale := by
  show Ideal.ofBits .f32 0x3DB504F3#32 = scale
  simp [Ideal.ofBits, Ideal.ieee, scale]
  norm_num
  rw [← EReal.coe_mul]
  norm_num

theorem product_apply (p : Packed) (b : Fin 2) (h : Fin 16) (r c : Fin 64) (k : Fin 8) (w : Fin 16) :
    val_main_v95 (F := Ideal) p (ix6 b h r c k w)
      = ∑ d : Fin 128, p (ix3 b (token r c) (queryCol h d)) * p (ix3 b (token (keyRow r k) (keyCol c w)) (headKeyCol h d)) := by
  rw [val_main_v95_apply]
  refine Finset.sum_congr rfl fun d _ => ?_
  have el : lidx_main_v95 (ix6 b h r c k w) d = ix5 b r c h d := by
    funext a
    match a with
    | ⟨0, _⟩ => rfl
    | ⟨1, _⟩ => rfl
    | ⟨2, _⟩ => rfl
    | ⟨3, _⟩ => rfl
    | ⟨4, _⟩ => rfl
  have er : ridx_main_v95 (ix6 b h r c k w) d = ix7 b r k c w h d := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  rw [el, er, query_apply, windowKey_apply]

theorem score_apply (p : Packed) (g : Biases) (b : Fin 2) (h : Fin 16) (r c : Fin 64) (k : Fin 8) (w : Fin 16) :
    val_main_v100 (F := Ideal) p g (ix6 b h r c k w) = score p g b h r c k w := by
  have eb : idx_main_v94 (idx_main_v98 (idx_main_v99 (ix6 b h r c k w))) = ix5 h r k c w := by
    funext a
    match a with
    | ⟨0, _⟩ => rfl
    | ⟨1, _⟩ => rfl
    | ⟨2, _⟩ => rfl
    | ⟨3, _⟩ => rfl
    | ⟨4, _⟩ => rfl
  rw [val_main_v100_apply, val_main_v97_apply, product_apply, val_main_v96_apply, val_main_cst_apply, factor_eq,
    val_main_v99_apply, val_main_v98_apply, val_main_v94_apply, eb, windowBias_apply]
  rfl

theorem scoreAt_apply (p : Packed) (g : Biases) (b : Fin 2) (h : Fin 16) (r c : Fin 64) (j : Fin 128) :
    val_main_v101 (F := Ideal) p g (ix5 b h r c j) = scoreAt p g b h r c j := by
  unfold val_main_v101 scoreAt
  rw [← score_apply]
  refine shapeCast_apply _ _ _ _ ?_
  rw [Shape.rowMajor_val_five, Shape.rowMajor_val_six]
  show ((((b.val * 16 + h.val) * 64 + r.val) * 64 + c.val) * 8 + j.val / 16) * 16 + j.val % 16
    = (((b.val * 16 + h.val) * 64 + r.val) * 64 + c.val) * 128 + j.val
  omega

theorem max_apply (p : Packed) (g : Biases) (b : Fin 2) (h : Fin 16) (r c : Fin 64) :
    val_main_v102 (F := Ideal) p g (ix4 b h r c) = Finset.univ.fold max ⊥ (scoreAt p g b h r c) := by
  have e : scoreAt p g b h r c = fun j => val_main_v101 (F := Ideal) p g (ix5 b h r c j) :=
    funext fun j => (scoreAt_apply p g b h r c j).symm
  rw [e]
  unfold val_main_v102
  generalize val_main_v101 (F := Ideal) p g = x
  pointwise
  have z : val_main_cst_19 (F := Ideal) (Shape.Idx.first h_S_) = (⊥ : EReal) := by
    show Ideal.ofBits .f32 0xFF800000#32 = ⊥
    simp [Ideal.ofBits, Ideal.ieee]
  rw [z]

theorem shifted_apply (p : Packed) (g : Biases) (b : Fin 2) (h : Fin 16) (r c : Fin 64) (j : Fin 128) :
    val_main_v108 (F := Ideal) p g (ix5 b h r c j)
      = Ideal.exp (scoreAt p g b h r c j - Finset.univ.fold max ⊥ (scoreAt p g b h r c)) := by
  rw [val_main_v108_apply, val_main_v107_apply, val_main_v106_apply, val_main_v105_apply, val_main_v104_apply,
    val_main_v103_apply, val_main_cst_20_apply, scoreAt_apply]
  have e : idx_main_v105 (idx_main_v106 (ix5 b h r c j)) = ix4 b h r c := by
    funext a
    match a with
    | ⟨0, _⟩ => rfl
    | ⟨1, _⟩ => rfl
    | ⟨2, _⟩ => rfl
    | ⟨3, _⟩ => rfl
  rw [e, max_apply]
  have e2 : FloatOps.maximumf (F := Ideal) (φ := .f32) (FloatOps.ofBits .f32 0xFF800000#32) (Finset.univ.fold max ⊥ (scoreAt p g b h r c))
      = Finset.univ.fold max ⊥ (scoreAt p g b h r c) := by
    show max (Ideal.ofBits .f32 0xFF800000#32) _ = _
    simp [Ideal.ofBits, Ideal.ieee]
  rw [e2]
  rfl

theorem weight_apply (p : Packed) (g : Biases) (b : Fin 2) (h : Fin 16) (r c : Fin 64) (j : Fin 128) :
    val_main_v112 (F := Ideal) p g (ix5 b h r c j)
      = Ideal.div (Ideal.exp (scoreAt p g b h r c j - Finset.univ.fold max ⊥ (scoreAt p g b h r c)))
          (∑ i : Fin 128, Ideal.exp (scoreAt p g b h r c i - Finset.univ.fold max ⊥ (scoreAt p g b h r c))) := by
  rw [val_main_v112_apply, shifted_apply, val_main_v111_apply, val_main_v110_apply, val_main_v109_apply]
  have e : ∀ i : Fin 128, val_main_v108 (F := Ideal) p g (idx_main_v109 (idx_main_v110 (idx_main_v111 (ix5 b h r c j))) i)
      = Ideal.exp (scoreAt p g b h r c i - Finset.univ.fold max ⊥ (scoreAt p g b h r c)) := fun i => by
    rw [← shifted_apply]
    refine congrArg _ (funext fun a => ?_)
    match a with
    | ⟨0, _⟩ => rfl
    | ⟨1, _⟩ => rfl
    | ⟨2, _⟩ => rfl
    | ⟨3, _⟩ => rfl
    | ⟨4, _⟩ => rfl
  simp only [e]
  have z : val_main_cst_21 (F := Ideal) (Shape.Idx.first h_S_) = (0 : EReal) := Ideal.ofBits_zero_f32
  rw [z, zero_add]
  rfl

/-- Row and column of the window counted through together. -/
theorem winRow_mk (k : Fin 8) (w : Fin 16) : winRow ⟨k.val * 16 + w.val, by omega⟩ = k := Fin.ext (by simp only [winRow]; omega)
theorem winCol_mk (k : Fin 8) (w : Fin 16) : winCol ⟨k.val * 16 + w.val, by omega⟩ = w := Fin.ext (by simp only [winCol]; omega)

/-- The window's 128 keys, row by row. -/
def winEquiv : Fin 8 × Fin 16 ≃ Fin 128 where
  toFun x := ⟨x.1.val * 16 + x.2.val, by omega⟩
  invFun j := (winRow j, winCol j)
  left_inv x := Prod.ext (winRow_mk x.1 x.2) (winCol_mk x.1 x.2)
  right_inv j := Fin.ext (by simp only [winRow, winCol]; omega)

theorem sum_window (f : Fin 8 → Fin 16 → EReal) : ∑ k, ∑ w, f k w = ∑ j : Fin 128, f (winRow j) (winCol j) := by
  rw [← Fintype.sum_prod_type' f, ← Equiv.sum_comp winEquiv.symm]
  rfl

theorem weighted_apply (p : Packed) (g : Biases) (b : Fin 2) (r c : Fin 64) (h : Fin 16) (d : Fin 128) :
    val_main_v114 (F := Ideal) p g (ix5 b r c h d) = attend p g b h r c d := by
  have e1 : ∀ (k : Fin 8) (w : Fin 16), val_main_v113 (F := Ideal) p g (ix6 b h r c k w)
      = val_main_v112 (F := Ideal) p g (ix5 b h r c ⟨k.val * 16 + w.val, by omega⟩) := fun k w => by
    unfold val_main_v113
    refine shapeCast_apply _ _ _ _ ?_
    rw [Shape.rowMajor_val_five, Shape.rowMajor_val_six]
    show (((b.val * 16 + h.val) * 64 + r.val) * 64 + c.val) * 128 + (k.val * 16 + w.val)
      = ((((b.val * 16 + h.val) * 64 + r.val) * 64 + c.val) * 8 + k.val) * 16 + w.val
    omega
  have e2 : val_main_v114 (F := Ideal) p g (ix5 b r c h d)
      = ∑ k : Fin 8, ∑ w : Fin 16, val_main_v113 (F := Ideal) p g (ix6 b h r c k w) * val_main_v73 (F := Ideal) p (ix7 b r k c w h d) := by
    unfold val_main_v114
    generalize val_main_v113 (F := Ideal) p g = x
    generalize val_main_v73 (F := Ideal) p = y
    pointwise
  rw [e2]
  simp only [e1, windowValue_apply]
  rw [sum_window fun k w => val_main_v112 (F := Ideal) p g (ix5 b h r c ⟨k.val * 16 + w.val, by omega⟩)
    * p (ix3 b (token (keyRow r k) (keyCol c w)) (valueCol h d))]
  unfold attend softmaxSum
  refine Finset.sum_congr rfl fun j _ => ?_
  rw [← weight_apply]
  have ej : (⟨(winRow j).val * 16 + (winCol j).val, by omega⟩ : Fin 128) = j := winEquiv.right_inv j
  rw [ej]
  rfl

/-- The reference's result is neighbourhood attention, written down directly. -/
theorem reference_eq (p : Packed) (g : Biases) : val_main_v116 (F := Ideal) p g = result p g := by
  funext i
  have h0 : (i 0).val < 2 := (i 0).isLt
  have h1 : (i 1).val < 4096 := (i 1).isLt
  have h2 : (i 2).val < 2048 := (i 2).isLt
  rw [val_main_v116_apply, val_main_v115_apply]
  refine (congrArg (val_main_v114 (F := Ideal) p g) (funext fun a => Fin.ext ?_)).trans (weighted_apply p g (i 0)
    ⟨(i 1).val / 64, by omega⟩ ⟨(i 1).val % 64, by omega⟩ ⟨(i 2).val / 128, by omega⟩ ⟨(i 2).val % 128, by omega⟩)
  match a with
  | ⟨0, _⟩ => show (((i 0).val * 4096 + (i 1).val) * 2048 + (i 2).val) / 8388608 = (i 0).val; omega
  | ⟨1, _⟩ => show (((i 0).val * 4096 + (i 1).val) * 2048 + (i 2).val) / 131072 % 64 = (i 1).val / 64; omega
  | ⟨2, _⟩ => show (((i 0).val * 4096 + (i 1).val) * 2048 + (i 2).val) / 2048 % 64 = (i 1).val % 64; omega
  | ⟨3, _⟩ => show (((i 0).val * 4096 + (i 1).val) * 2048 + (i 2).val) / 128 % 16 = (i 2).val / 128; omega
  | ⟨4, _⟩ => show (((i 0).val * 4096 + (i 1).val) * 2048 + (i 2).val) % 128 = (i 2).val % 128; omega

end Cert.Equation
-- ==== Proof.InProjCast.lean ====
/- The projection kernel's counted loop: sixty-four trips, each rounding sixty-four rows of the staged weight tile to
   half precision. Before trip `k` the rows above `64 k` hold the rounded tile; after the last trip all of them do. -/
module

public import proofs.«01_k».proof.Proof.Gen.InProjIdeal.Frame
public import proofs.«01_k».proof.Proof.Gen.InProjIdeal.Loops
public import Idealize.ShloMosaic.Lib.Pipeline.Value

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's tokens beside the counters of the kernel's own copies. -/
local notation "𝕄" => MT nD τ sig Unit (Elt F) ℕ (Pipeline.UD sig nD τ) ℕ

/-- A weight tile rounded to half precision, element by element. -/
def castTile (x : Vec F S4096x1024 .f32) : Vec F S4096x1024 .bf16 := truncf .bf16 x bitsLt_bf16_f32

variable (c : Dev nD) (i : grid0.Coords)
  (arg2 : Memref sig .tc .vmem S1024x4096 .bf16) (harg2 : arg2.IsWhole)
  (arg3 : Memref sig .tc .hbm S4x4096x12288 .f32) (harg3 : arg3.IsWhole)
  (arg4 : Memref sig .tc .vmem S1024x1024 .bf16) (harg4 : arg4.IsWhole)
  (arg5 : Memref sig .tc .vmem S4096x1024 .f32) (harg5 : arg5.IsWhole)
  (arg6 : Memref sig .tc .vmem S4096x1024 .bf16) (harg6 : arg6.IsWhole)
  (arg7 : DmaSems sig S_) (h2 : k0_cond2 i = 1#1)

/-- The rows of trip `k`. -/
abbrev rowsAt (k : Fin k0_t1_loop.trips) : Rect S4096x1024 :=
  Rect.unit (s := S4096x1024) (k0_off3 k) S64x1024.size (k0_off3_inb i k h2)

/-- The rounded copy is right on the rows of the trips before `k`. -/
def Cast (X : BufTy.Contents (Elt F) arg5.view.ty) (k : ℕ) (f : BufTy.Contents (Elt F) arg6.view.ty) : Prop :=
  ∀ y : S4096x1024.Idx, (y 0).val < 64 * k → arg6.view.read (Elt F) f y = castTile (arg5.view.read (Elt F) X) y

/-- Before the first trip nothing is asked of the copy. -/
theorem cast_zero (X : BufTy.Contents (Elt F) arg5.view.ty) (f : BufTy.Contents (Elt F) arg6.view.ty) :
    Cast arg5 arg6 X 0 f := fun y hy => absurd hy (by omega)

omit [FloatOps F] in
theorem trips_eq : k0_t1_loop.trips = 64 := by decide

/-- One trip's store extends the rounded rows by the next sixty-four. -/
theorem cast_step (X : BufTy.Contents (Elt F) arg5.view.ty) (k : Fin k0_t1_loop.trips) (f : BufTy.Contents (Elt F) arg6.view.ty)
    (h : Cast arg5 arg6 X k.val f) :
    Cast arg5 arg6 X (k.val + 1)
      (arg6.view.writes (Elt F) f [⟨rowsAt i h2 k, k0_pay1 (arg5.view.readAt (Elt F) (rowsAt i h2 k).toLoadRect X)⟩]) := by
  intro y hy
  have e0 : (rowsAt i h2 k).off 0 = 64 * k.val := by
    show k0_off3 k 0 = _
    rw [k0_off3_eq]; rfl
  have e1 : (rowsAt i h2 k).off 1 = 0 := by
    show k0_off3 k 1 = _
    rw [k0_off3_eq]; rfl
  by_cases hlo : (y 0).val < 64 * k.val
  · rw [View.read_writes_cons_miss]
    · exact h y hlo
    · intro hm
      have hb := ((Rect.mem_set_unit (inb := k0_off3_inb i k h2)).mp hm 0).1
      have : k0_off3 k 0 = 64 * k.val := e0
      omega
  · have hx0 : (y 0).val - 64 * k.val < 64 := by omega
    have hx1 : (y 1).val < 1024 := (y 1).isLt
    have ey : (rowsAt i h2 k).emb ((fun a => match a with
        | 0 => ⟨(y 0).val - 64 * k.val, hx0⟩
        | 1 => ⟨(y 1).val, hx1⟩ : (rowsAt i h2 k).shape.Idx)) = y := by
      funext a
      refine Fin.ext ?_
      fin_cases a
      · show (rowsAt i h2 k).off 0 + 1 * ((y 0).val - 64 * k.val) = (y 0).val
        omega
      · show (rowsAt i h2 k).off 1 + 1 * (y 1).val = (y 1).val
        omega
    rw [View.read_writes_cons_hit _ _ _ _ _ _ _ ey]
    unfold k0_pay1
    dsimp only
    rw [shapeCast_self]
    exact congrArg (castTile (arg5.view.read (Elt F) X)) ey

/-- One trip, run: it loads its rows of the staged tile and stores them rounded. -/
theorem trip_run (X : BufTy.Contents (Elt F) arg5.view.ty) (k : Fin k0_t1_loop.trips) (E : Set ℕ)
    (f : BufTy.Contents (Elt F) arg6.view.ty) :
    (iprop((arg5.view.loc (c : Thread nD τ) ↦[arg5.view.set]{fullShare} X) ∗ (arg6.view.loc (c : Thread nD τ) ↦[arg6.view.set]{fullShare} f)) : sProp 𝕄)
      ⊢ wp frame (wpE (defs₀ (F := F)) Variants.none (c : Thread nD τ) none) E
          (k0_t1_body (F := F) i arg2 harg2 arg3 harg3 arg4 harg4 arg5 harg5 arg6 harg6 arg7 h2 k PUnit.unit)
          (fun _ => iprop((arg5.view.loc (c : Thread nD τ) ↦[arg5.view.set]{fullShare} X)
            ∗ (arg6.view.loc (c : Thread nD τ) ↦[arg6.view.set]{fullShare}
                arg6.view.writes (Elt F) f [⟨rowsAt i h2 k, k0_pay1 (arg5.view.readAt (Elt F) (rowsAt i h2 k).toLoadRect X)⟩]))) := by
  have hk : k.val < 64 := Nat.lt_of_lt_of_le k.isLt k0_t1_abs.2.1
  unfold k0_t1_body
  iintro ⟨HR, HW⟩
  sl_exec
  sl_step
  isplitl [HR]; · iexact HR
  iexact HW

set_option warn.classDefReducibility false in
/-- The loop by its invariant: the staged tile untouched, the rounded copy right on the rows already done. -/
@[sl_loop] def castLoop (E : Set ℕ) (X : BufTy.Contents (Elt F) arg5.view.ty) :
    LoopInvTy_k0_t1 (F := F) Unit ℕ (Pipeline.UD sig nD τ) ℕ Variants.none c none E i arg2 harg2 arg3 harg3 arg4 harg4 arg5 harg5 arg6 harg6 arg7 h2 where
  inv k _ := iprop((arg5.view.loc (c : Thread nD τ) ↦[arg5.view.set]{fullShare} X)
    ∗ (∃ f, (arg6.view.loc (c : Thread nD τ) ↦[arg6.view.set]{fullShare} f) ∗ ⌜Cast arg5 arg6 X k f⌝))
  step k acc := by
    iintro ⟨HR, ⟨%f, HW, %hf⟩⟩
    iapply (wp_wand_r Idealize.ShloMosaic.frame (wpE (defs₀ (F := F)) Variants.none (c : Thread nD τ) none) E)
    isplitl [HR HW]
    · iapply (trip_run c i arg2 harg2 arg3 harg3 arg4 harg4 arg5 harg5 arg6 harg6 arg7 h2 X k E f)
      isplitl [HR]; · iexact HR
      iexact HW
    · iintro %_ ⟨HR, HW⟩
      isplitl [HR]; · iexact HR
      iexists _; isplitl [HW]; · iexact HW
      ipureintro; exact cast_step i arg5 arg6 h2 X k f hf

end Cert.InProjIdeal.Gen
-- ==== Proof.InProjRun.lean ====
/- The projection kernel's body, run. A point of the grid either starts a new weight tile (the first of the eight row
   blocks of its column block) or goes on with the one already rounded. Starting one: the tile in flight is awaited,
   rounded, and the next one issued into the buffer just read. Either way the product of the hidden-state block and the
   rounded tile is stored. -/
module

public import proofs.«01_k».proof.Proof.InProjCast
public import Idealize.ShloMosaic.Lib.VecWindow

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's tokens beside the counters of the kernel's own copies. -/
local notation "𝕄" => MT nD τ sig Unit (Elt F) ℕ (Pipeline.UD sig nD τ) ℕ

/-! ## The weight's column tiles, and the names the body gives them -/

/-- The weight operand, the staging buffer and the rounded copy, as the body is passed them. -/
abbrev wM : Memref sig .tc .hbm S4x4096x12288 .f32 := Memref.whole main_arg1
abbrev stM : Memref sig .tc .vmem S4096x1024 .f32 := Memref.whole cc0_scratch0
abbrev wbM : Memref sig .tc .vmem S4096x1024 .bf16 := Memref.whole cc0_scratch1

abbrev tileOff (j : Fin 12) : Fin 3 → Nat := ![0, 0, 1024 * j.val]
theorem tileOff_inb (j : Fin 12) : ∀ a, tileOff j a + S1x4096x1024.size a ≤ S4x4096x12288.size a := by
  have := j.isLt
  intro a; fin_cases a
  · show 0 + 1 ≤ 4; omega
  · show 0 + 4096 ≤ 4096; omega
  · show 1024 * j.val + 1024 ≤ 12288; omega

/-- Column tile `j` of the first layer's weight, as the body slices and squeezes it. -/
def tile (j : Fin 12) : Memref sig .tc .hbm S4096x1024 .f32 :=
  (wM.slice (Rect.unit (s := S4x4096x12288) (tileOff j) S1x4096x1024.size (tileOff_inb j)) (fun _ => rfl)).squeeze S4096x1024 squeezes_S1x4096x1024_S4096x1024

theorem tile_congr {off : Fin 3 → Nat} {j : Fin 12} (e : off = tileOff j) (hh hs) :
    (wM.slice (Rect.unit (s := S4x4096x12288) off S1x4096x1024.size hh) hs).squeeze S4096x1024 squeezes_S1x4096x1024_S4096x1024 = tile j :=
  congrArg (fun M : Memref sig .tc .hbm S1x4096x1024 .f32 => M.squeeze S4096x1024 squeezes_S1x4096x1024_S4096x1024) (Memref.slice_unit_congr _ e _ _ _ _)

/-- The column block of a point, and the next one. -/
abbrev col (i : grid0.Coords) : Fin 12 := ⟨(i 0).val, (i 0).isLt⟩
def nextCol (i : grid0.Coords) : Fin 12 := Fin.ofNat 12 ((i 0).val + 1)

theorem cond3_iff : ∀ i : grid0.Coords, k0_cond3 i = 1#1 ↔ (i 0).val + 1 < 12 := by decide +kernel
theorem cond2_iff : ∀ i : grid0.Coords, k0_cond2 i = 1#1 ↔ (i 1).val = 0 := by decide +kernel
theorem cond1_iff : ∀ i : grid0.Coords, k0_cond1 i = 1#1 ↔ (i 0).val = 0 ∧ (i 1).val = 0 := by decide +kernel

theorem nextCol_val (i : grid0.Coords) (h3 : k0_cond3 i = 1#1) : (nextCol i).val = (i 0).val + 1 :=
  Nat.mod_eq_of_lt ((cond3_iff i).mp h3)

@[sl_canon] theorem tile_issue (i : grid0.Coords) (hh hs) :
    (wM.slice (Rect.unit (s := S4x4096x12288) (k0_off1 i) S1x4096x1024.size hh) hs).squeeze S4096x1024 squeezes_S1x4096x1024_S4096x1024 = tile (col i) :=
  tile_congr (k0_off1_eq i) _ _
@[sl_canon] theorem tile_wait (i : grid0.Coords) (hh hs) :
    (wM.slice (Rect.unit (s := S4x4096x12288) (k0_off2 i) S1x4096x1024.size hh) hs).squeeze S4096x1024 squeezes_S1x4096x1024_S4096x1024 = tile (col i) :=
  tile_congr (k0_off2_eq i) _ _
@[sl_canon] theorem tile_next (i : grid0.Coords) (h3 : k0_cond3 i = 1#1) (hh hs) :
    (wM.slice (Rect.unit (s := S4x4096x12288) (k0_off4 i) S1x4096x1024.size hh) hs).squeeze S4096x1024 squeezes_S1x4096x1024_S4096x1024 = tile (nextCol i) :=
  tile_congr (by rw [k0_off4_eq, tileOff, nextCol_val i h3, Nat.mul_add]) _ _

/-! ## The pieces the invariant is made of -/

section Pieces
variable (c : Dev nD) (fw : Buf (Elt F) (wM.view.loc (c : Thread nD τ)))

/-- What tile `j`'s copy leaves in the staging buffer over `f`. -/
abbrev landed (j : Fin 12) (f : Buf (Elt F) (stM.view.loc (c : Thread nD τ))) : Buf (Elt F) (stM.view.loc (c : Thread nD τ)) :=
  stM.view.writes (Elt F) f [⟨Rect.whole S4096x1024, ReadAs.same.apply ((tile j).view.read (Elt F) fw)⟩]

/-- Tile `j` in flight into the staging buffer, issued over `f`. -/
abbrev flight (j : Fin 12) (f : Buf (Elt F) (stM.view.loc (c : Thread nD τ))) : sProp 𝕄 :=
  Transfers.Flight countersEmb (c : Thread nD τ) (SemLoc.dma cc0_scratch2.sem) () 524288
    iprop((stM.view.loc (c : Thread nD τ) ↦[stM.view.set]{fullShare} landed c fw j f)
      ∗ ((tile j).view.loc (c : Thread nD τ) ↦[(tile j).view.set]{fullShare} fw))

/-- Tile `j` and the rest of the weight are the weight. -/
theorem joined (j : Fin 12) :
    iprop(((tile j).view.loc (c : Thread nD τ) ↦[(tile j).view.set]{fullShare} fw)
      ∗ (wM.view.loc (c : Thread nD τ) ↦[Finset.univ \ (tile j).view.set]{fullShare} fw))
      ⊢ (wM.view.loc (c : Thread nD τ) ↦{fullShare} fw : sProp 𝕄) :=
  (pointsTo_split_subset (Finset.subset_univ (tile j).view.set)).2

/-- A copy issued over a tile landed before, as `flight` states it. -/
theorem flight_over (j j' : Fin 12) :
    (Transfers.Flight countersEmb (c : Thread nD τ) (SemLoc.dma cc0_scratch2.sem) () 524288
      iprop((stM.view.loc (c : Thread nD τ) ↦[stM.view.set]{fullShare}
          stM.view.writes (Elt F) stM.view.junk [⟨Rect.whole S4096x1024, ReadAs.same.apply ((tile j).view.read (Elt F) fw)⟩,
            ⟨Rect.whole S4096x1024, ReadAs.same.apply ((tile j').view.read (Elt F) fw)⟩])
        ∗ ((tile j).view.loc (c : Thread nD τ) ↦[(tile j).view.set]{fullShare} fw)) : sProp 𝕄)
      ⊢ flight c fw j (landed c fw j' stM.view.junk) := by
  simp only [flight, landed, View.writes]
  exact .rfl

end Pieces

/-! ## What the body leaves, read back -/

section Read

/-- The output block after the body's store of the whole of it. -/
theorem stored_read (arg2 : Memref sig .tc .vmem S1024x4096 .bf16) (arg4 : Memref sig .tc .vmem S1024x1024 .bf16)
    (f2 : BufTy.Contents (Elt F) arg2.view.ty) (f4 : BufTy.Contents (Elt F) arg4.view.ty) (f6 : BufTy.Contents (Elt F) wbM.view.ty) :
    arg4.view.read (Elt F) (arg4.view.writes (Elt F) f4
        [⟨Rect.unit (s := S1024x1024) ![0, 0] S1024x1024.size inb_S1024x1024_S1024x1024_0_0,
          k0_pay2 (arg2.view.readAt (Elt F) (Rect.unit (s := S1024x4096) ![0, 0] S1024x4096.size inb_S1024x4096_S1024x4096_0_0).toLoadRect f2)
            (wbM.view.readAt (Elt F) (Rect.unit (s := S4096x1024) ![0, 0] S4096x1024.size inb_S4096x1024_S4096x1024_0_0).toLoadRect f6)⟩])
      = k0_pay2 (arg2.view.read (Elt F) f2) (wbM.view.read (Elt F) f6) := by
  rw [View.read_writes_full, View.readAt_full, View.readAt_full]

/-- The staging buffer after tile `j` has landed. -/
theorem landed_read (c : Dev nD) (fw : Buf (Elt F) (wM.view.loc (c : Thread nD τ))) (j : Fin 12)
    (f : Buf (Elt F) (stM.view.loc (c : Thread nD τ))) :
    stM.view.read (Elt F) (landed c fw j f) = (tile j).view.read (Elt F) fw := by
  exact View.read_writes_whole _ _ _

/-- The rounded copy after the last trip of the loop. -/
theorem cast_done (c : Dev nD) (fw : Buf (Elt F) (wM.view.loc (c : Thread nD τ))) (j : Fin 12)
    (f : Buf (Elt F) (stM.view.loc (c : Thread nD τ))) (n : ℕ) (hn : n = 64) (g : BufTy.Contents (Elt F) wbM.view.ty)
    (h : Cast stM wbM (landed c fw j f) n g) :
    wbM.view.read (Elt F) g = castTile ((tile j).view.read (Elt F) fw) := by
  funext y
  have hy : (y 0).val < 4096 := (y 0).isLt
  rw [h y (by omega), landed_read]

end Read

/-! ## The runs -/

section Runs
variable (c : Dev nD) (i : grid0.Coords) (fw : Buf (Elt F) (wM.view.loc (c : Thread nD τ)))
  (arg2 : Memref sig .tc .vmem S1024x4096 .bf16) (harg2 : arg2.IsWhole)
  (arg4 : Memref sig .tc .vmem S1024x1024 .bf16) (harg4 : arg4.IsWhole)

/-- The body at these operands. -/
abbrev body : Prog (TpuEff nD τ sig (Elt F) Λ₀ .tc) PUnit :=
  cc0_in_proj i arg2 harg2 wM (Memref.isWhole_whole _) arg4 harg4 stM (Memref.isWhole_whole _) wbM (Memref.isWhole_whole _) cc0_scratch2

/-- A point that goes on with the rounded tile. -/
theorem run_go (h1 : ¬ k0_cond1 i = 1#1) (h2 : ¬ k0_cond2 i = 1#1) (b : Vec F S1024x4096 .bf16) (w : Vec F S4096x1024 .bf16)
    (K : PUnit → sProp 𝕄) :
    iprop(owns (c : Thread nD τ) arg2 fullShare b ∗ (∃ d, owns (c : Thread nD τ) arg4 fullShare d)
        ∗ owns (c : Thread nD τ) wbM fullShare w
        ∗ (iprop(owns (c : Thread nD τ) arg2 fullShare b ∗ owns (c : Thread nD τ) arg4 fullShare (k0_pay2 b w)
            ∗ owns (c : Thread nD τ) wbM fullShare w) -∗ K ⟨⟩))
      ⊢ wp frame (wpE (defs₀ (F := F)) Variants.none (c : Thread nD τ) none) Set.univ (body i arg2 harg2 arg4 harg4) K := by
  unfold body
  rw [cc0_in_proj_eq_skeleton]; unfold cc0_in_proj_skel
  unfold owns
  iintro ⟨⟨%f2, %e2, H2⟩, ⟨%d4, %f4, %e4, H4⟩, ⟨%f6, %e6, H6⟩, Hk⟩
  sl_exec
  sl_step
  iapply Hk
  isplitl [H2]
  · iexists f2; isplitr; swap; · iexact H2
    ipureintro; exact e2
  isplitl [H4]
  · iexists _; isplitr; swap; · iexact H4
    ipureintro
    rw [stored_read, e2, e6]
  iexists f6; isplitr; swap; · iexact H6
  ipureintro; exact e6

/-- A point that starts a tile already in flight, with another to come. -/
theorem run_next (h1 : ¬ k0_cond1 i = 1#1) (h2 : k0_cond2 i = 1#1) (h3 : k0_cond3 i = 1#1) (b : Vec F S1024x4096 .bf16)
    (f : Buf (Elt F) (stM.view.loc (c : Thread nD τ))) (W : Waits sig Unit) (K : PUnit → sProp 𝕄) :
    iprop(owns (c : Thread nD τ) arg2 fullShare b ∗ (∃ d, owns (c : Thread nD τ) arg4 fullShare d)
        ∗ (∃ d, owns (c : Thread nD τ) wbM fullShare d)
        ∗ flight c fw (col i) f ∗ (wM.view.loc (c : Thread nD τ) ↦[Finset.univ \ (tile (col i)).view.set]{fullShare} fw)
        ∗ owes (c : Thread nD τ) 0 W
        ∗ (iprop(owns (c : Thread nD τ) arg2 fullShare b
            ∗ owns (c : Thread nD τ) arg4 fullShare (k0_pay2 b (castTile ((tile (col i)).view.read (Elt F) fw)))
            ∗ owns (c : Thread nD τ) wbM fullShare (castTile ((tile (col i)).view.read (Elt F) fw))
            ∗ (∃ f, flight c fw (nextCol i) f) ∗ (wM.view.loc (c : Thread nD τ) ↦[Finset.univ \ (tile (nextCol i)).view.set]{fullShare} fw)
            ∗ (∃ W', owes (c : Thread nD τ) 0 W')) -∗ K ⟨⟩))
      ⊢ wp frame (wpE (defs₀ (F := F)) Variants.none (c : Thread nD τ) none) Set.univ (body i arg2 harg2 arg4 harg4) K := by
  unfold body
  rw [cc0_in_proj_eq_skeleton]; unfold cc0_in_proj_skel
  unfold owns
  iintro ⟨⟨%f2, %e2, H2⟩, ⟨%d4, %f4, %e4, H4⟩, ⟨%d6, %f6, %e6, H6⟩, Hf, Hr, HW, Hk⟩
  have hC := cast_zero stM wbM (landed c fw (col i) stM.view.junk) f6
  sl_exec
  ihave Hw := (joined c fw (col i)) $$ [Hf_src Hr]
  · isplitl [Hf_src]; · iexact Hf_src
    iexact Hr
  sl_exec
  have hR := cast_done c fw (col i) stM.view.junk _ trips_eq fL0 hL2
  sl_step
  iapply Hk
  isplitl [H2]
  · iexists f2; isplitr; swap; · iexact H2
    ipureintro; exact e2
  isplitl [H4]
  · iexists _; isplitr; swap; · iexact H4
    ipureintro
    rw [stored_read, e2, hR]
  isplitl [H6]
  · iexists _; isplitr; swap; · iexact H6
    ipureintro; exact hR
  isplitl [Hf]
  · iexists landed c fw (col i) stM.view.junk
    iapply (flight_over c fw (nextCol i) (col i))
    iexact Hf
  isplitl [Hw]; · iexact Hw
  iexists _; iexact HW

/-- The point that starts the last tile. -/
theorem run_last (h1 : ¬ k0_cond1 i = 1#1) (h2 : k0_cond2 i = 1#1) (h3 : ¬ k0_cond3 i = 1#1) (b : Vec F S1024x4096 .bf16)
    (f : Buf (Elt F) (stM.view.loc (c : Thread nD τ))) (W : Waits sig Unit) (K : PUnit → sProp 𝕄) :
    iprop(owns (c : Thread nD τ) arg2 fullShare b ∗ (∃ d, owns (c : Thread nD τ) arg4 fullShare d)
        ∗ (∃ d, owns (c : Thread nD τ) wbM fullShare d)
        ∗ flight c fw (col i) f ∗ (wM.view.loc (c : Thread nD τ) ↦[Finset.univ \ (tile (col i)).view.set]{fullShare} fw)
        ∗ owes (c : Thread nD τ) 0 W
        ∗ (iprop(owns (c : Thread nD τ) arg2 fullShare b
            ∗ owns (c : Thread nD τ) arg4 fullShare (k0_pay2 b (castTile ((tile (col i)).view.read (Elt F) fw)))
            ∗ owns (c : Thread nD τ) wbM fullShare (castTile ((tile (col i)).view.read (Elt F) fw))
            ∗ (∃ f, stM.view.loc (c : Thread nD τ) ↦[stM.view.set]{fullShare} f) ∗ semVal ((c : Thread nD τ), SemLoc.dma cc0_scratch2.sem) 0 ∗ (wM.view.loc (c : Thread nD τ) ↦{fullShare} fw)
            ∗ (∃ W', owes (c : Thread nD τ) 0 W')) -∗ K ⟨⟩))
      ⊢ wp frame (wpE (defs₀ (F := F)) Variants.none (c : Thread nD τ) none) Set.univ (body i arg2 harg2 arg4 harg4) K := by
  unfold body
  rw [cc0_in_proj_eq_skeleton]; unfold cc0_in_proj_skel
  unfold owns
  iintro ⟨⟨%f2, %e2, H2⟩, ⟨%d4, %f4, %e4, H4⟩, ⟨%d6, %f6, %e6, H6⟩, Hf, Hr, HW, Hk⟩
  have hC := cast_zero stM wbM (landed c fw (col i) stM.view.junk) f6
  sl_exec
  have hR := cast_done c fw (col i) stM.view.junk _ trips_eq fL0 hL2
  sl_step
  iapply Hk
  isplitl [H2]
  · iexists f2; isplitr; swap; · iexact H2
    ipureintro; exact e2
  isplitl [H4]
  · iexists _; isplitr; swap; · iexact H4
    ipureintro
    rw [stored_read, e2, hR]
  isplitl [H6]
  · iexists _; isplitr; swap; · iexact H6
    ipureintro; exact hR
  isplitl [Hf_dst]; · iexists _; iexact Hf_dst
  isplitl [Hf]; · iexact Hf
  isplitl [Hf_src Hr]
  · iapply (joined c fw (col i))
    isplitl [Hf_src]; · iexact Hf_src
    iexact Hr
  iexists _; iexact HW

/-- The first point: it issues the first tile itself. -/
theorem run_first (h1 : k0_cond1 i = 1#1) (h2 : k0_cond2 i = 1#1) (h3 : k0_cond3 i = 1#1) (b : Vec F S1024x4096 .bf16)
    (f : Buf (Elt F) (stM.view.loc (c : Thread nD τ))) (W : Waits sig Unit) (K : PUnit → sProp 𝕄) :
    iprop(owns (c : Thread nD τ) arg2 fullShare b ∗ (∃ d, owns (c : Thread nD τ) arg4 fullShare d)
        ∗ (∃ d, owns (c : Thread nD τ) wbM fullShare d)
        ∗ (stM.view.loc (c : Thread nD τ) ↦[stM.view.set]{fullShare} f) ∗ semVal ((c : Thread nD τ), SemLoc.dma cc0_scratch2.sem) 0 ∗ (wM.view.loc (c : Thread nD τ) ↦{fullShare} fw)
        ∗ owes (c : Thread nD τ) 0 W
        ∗ (iprop(owns (c : Thread nD τ) arg2 fullShare b
            ∗ owns (c : Thread nD τ) arg4 fullShare (k0_pay2 b (castTile ((tile (col i)).view.read (Elt F) fw)))
            ∗ owns (c : Thread nD τ) wbM fullShare (castTile ((tile (col i)).view.read (Elt F) fw))
            ∗ (∃ f, flight c fw (nextCol i) f) ∗ (wM.view.loc (c : Thread nD τ) ↦[Finset.univ \ (tile (nextCol i)).view.set]{fullShare} fw)
            ∗ (∃ W', owes (c : Thread nD τ) 0 W')) -∗ K ⟨⟩))
      ⊢ wp frame (wpE (defs₀ (F := F)) Variants.none (c : Thread nD τ) none) Set.univ (body i arg2 harg2 arg4 harg4) K := by
  unfold body
  rw [cc0_in_proj_eq_skeleton]; unfold cc0_in_proj_skel
  unfold owns
  iintro ⟨⟨%f2, %e2, H2⟩, ⟨%d4, %f4, %e4, H4⟩, ⟨%d6, %f6, %e6, H6⟩, H5, Hq, Hw, HW, Hk⟩
  have hC := cast_zero stM wbM (landed c fw (col i) stM.view.junk) f6
  sl_exec
  have hR := cast_done c fw (col i) stM.view.junk _ trips_eq fL0 hL2
  sl_step
  iapply Hk
  isplitl [H2]
  · iexists f2; isplitr; swap; · iexact H2
    ipureintro; exact e2
  isplitl [H4]
  · iexists _; isplitr; swap; · iexact H4
    ipureintro
    rw [stored_read, e2, hR]
  isplitl [H6]
  · iexists _; isplitr; swap; · iexact H6
    ipureintro; exact hR
  isplitl [Hq]
  · iexists landed c fw (col i) stM.view.junk
    iapply (flight_over c fw (nextCol i) (col i))
    iexact Hq
  isplitl [Hw]; · iexact Hw
  iexists _; iexact HW

end Runs

end Cert.InProjIdeal.Gen
-- ==== Proof.InProjRegion.lean ====
/- The projection kernel's launch. Between points the core holds the rounded tile of the points just done and, unless the
   last tile has been started, the next tile in flight; at every point the body leaves the product of its hidden-state
   block and its column block's rounded tile, so the program ends with its output array filled block by block and its
   arguments as they were. -/
module

public import proofs.«01_k».proof.Proof.InProjRun

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's tokens beside the counters of the kernel's own copies. -/
local notation "𝕄" => MT nD τ sig Unit (Elt F) ℕ (Pipeline.UD sig nD τ) ℕ

variable (m : (ℓ : Loc nD τ sig) → Buf (Elt F) ℓ) (ρ : Dev nD → PrngReg)

/-! ## What the core holds between points -/

/-- The weight as the region finds it, and its tile `j`, rounded. -/
abbrev wArr (c : Dev nD) : Buf (Elt F) (wM.view.loc (c : Thread nD τ)) := V m c main_arg1
abbrev rounded (c : Dev nD) (j : Fin 12) : Vec F S4096x1024 .bf16 := castTile ((tile j).view.read (Elt F) (wArr m c))

/-- No copy in flight: the staging buffer at some contents, the counter at zero, the weight whole. -/
def idle (c : Dev nD) : sProp 𝕄 :=
  iprop((∃ f, stM.view.loc (c : Thread nD τ) ↦[stM.view.set]{fullShare} f)
    ∗ semVal ((c : Thread nD τ), SemLoc.dma cc0_scratch2.sem) 0 ∗ (wM.view.loc (c : Thread nD τ) ↦{fullShare} wArr m c))

/-- Tile `j` in flight, the rest of the weight held. -/
def inFlight (c : Dev nD) (j : Fin 12) : sProp 𝕄 :=
  iprop((∃ f, flight c (wArr m c) j f) ∗ (wM.view.loc (c : Thread nD τ) ↦[Finset.univ \ (tile j).view.set]{fullShare} wArr m c))

/-- Before point `n` the next tile to start is `⌈n / 8⌉`: in flight once the first point has run, while there is one. -/
def carried (c : Dev nD) (n : ℕ) : sProp 𝕄 :=
  if 0 < n ∧ (n + 7) / 8 < 12 then inFlight m c (Fin.ofNat 12 ((n + 7) / 8)) else idle m c

/-- The rounded copy before point `n`: the tile of point `n - 1`. -/
def kept (c : Dev nD) (n : ℕ) : sProp 𝕄 :=
  if n = 0 then iprop(∃ d, owns (c : Thread nD τ) wbM fullShare d)
  else owns (c : Thread nD τ) wbM fullShare (rounded m c (Fin.ofNat 12 ((n - 1) / 8)))

/-- The invariant between points. -/
def between (c : Dev nD) (n : ℕ) : sProp 𝕄 := iprop(kept m c n ∗ carried m c n ∗ (∃ r, prngReg c r))

/-! ## The pipeline's proof data -/

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)

/-- What the pipeline on core `c` holds at each point: the hidden-state block, and its product with the point's tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => k0_pay2 (iblk m c 0 t) (rounded m c (col (grid0.coords t)))
  Φ p := between m c p.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) :
    (dats m 0 c).after 1 t = k0_pay2 (iblk m c 0 t) (rounded m c (col (grid0.coords t))) := by dsimp only [dats]

/-- The hidden-state block is in its staging buffer at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The body obligation -/

theorem coord0 : ∀ t : Fin cfg0.N, (grid0.coords t 0).val = t.val / 8 :=
  (by decide +kernel : ∀ t : Fin grid0.N, (grid0.coords t 0).val = t.val / 8)
theorem coord1 : ∀ t : Fin cfg0.N, (grid0.coords t 1).val = t.val % 8 :=
  (by decide +kernel : ∀ t : Fin grid0.N, (grid0.coords t 1).val = t.val % 8)
theorem col_eq (t : Fin cfg0.N) (n : ℕ) (h : n = t.val / 8) : Fin.ofNat 12 n = col (grid0.coords t) :=
  Fin.ext (by
    have h0 : (grid0.coords t 0).val < 12 := (grid0.coords t 0).isLt
    have h1 := coord0 t
    show n % 12 = (grid0.coords t 0).val
    omega)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- After any point the rounded copy is that point's tile. -/
theorem kept_succ (c : Dev nD) (t : Fin cfg0.N) :
    kept m c (t.val + 1) = owns (c : Thread nD τ) wbM fullShare (rounded m c (col (grid0.coords t))) := by
  unfold kept
  rw [if_neg (Nat.succ_ne_zero _), col_eq t _ (by rw [Nat.add_sub_cancel])]
/-- Before a point within a column block it is already. -/
theorem kept_within (c : Dev nD) (t : Fin cfg0.N) (h : t.val % 8 ≠ 0) :
    kept m c t.val = owns (c : Thread nD τ) wbM fullShare (rounded m c (col (grid0.coords t))) := by
  unfold kept
  rw [if_neg (by omega), col_eq t _ (by omega)]
/-- Whatever it is, it is held. -/
theorem kept_some (c : Dev nD) (n : ℕ) : kept m c n ⊢ (iprop(∃ d, owns (c : Thread nD τ) wbM fullShare d) : sProp 𝕄) := by
  unfold kept
  split
  · exact .rfl
  · iintro H; iexists _; iexact H
/-- Within a column block nothing is issued or awaited. -/
theorem carried_within (c : Dev nD) (t : Fin cfg0.N) (h : t.val % 8 ≠ 0) : carried m c (t.val + 1) = carried m c t.val := by
  unfold carried
  have e : (t.val + 1 + 7) / 8 = (t.val + 7) / 8 := by omega
  rw [e]
  congr 1
  exact propext ⟨fun h' => ⟨by omega, h'.2⟩, fun h' => ⟨by omega, h'.2⟩⟩
/-- Before a point that starts a tile, that tile is in flight; -/
theorem carried_start (c : Dev nD) (t : Fin cfg0.N) (h : t.val % 8 = 0) (h0 : t.val ≠ 0) :
    carried m c t.val = inFlight m c (col (grid0.coords t)) := by
  have ht : t.val < 96 := t.isLt
  unfold carried
  rw [if_pos ⟨by omega, by omega⟩, col_eq t _ (by omega)]
/-- after it the next one, -/
theorem carried_next (c : Dev nD) (t : Fin cfg0.N) (h : t.val % 8 = 0) (h3 : t.val / 8 + 1 < 12) :
    carried m c (t.val + 1) = inFlight m c (nextCol (grid0.coords t)) := by
  unfold carried
  rw [if_pos ⟨by omega, by omega⟩, nextCol, coord0, show (t.val + 1 + 7) / 8 = t.val / 8 + 1 by omega]
/-- if there is one. -/
theorem carried_last (c : Dev nD) (n : ℕ) (h3 : ¬ (n + 7) / 8 < 12) : carried m c n = idle m c := by
  unfold carried
  rw [if_neg fun h' => h3 h'.2]
theorem carried_zero (c : Dev nD) : carried m c 0 = idle m c := by
  unfold carried
  rw [if_neg fun h' => absurd h'.1 (Nat.lt_irrefl 0)]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = between m c (t.val + 1) from rfl, show (dats m 0 c).Φ t.castSucc = between m c t.val from rfl,
    after0_0, after0_1]
  unfold Dat.owesAt Pipeline.owesWithin
  rw [show (dats m 0 c).owed t.castSucc = 0 from rfl, show (dats m 0 c).owed t.succ = 0 from rfl]
  unfold between
  rw [kept_succ]
  have q0 := coord0 t
  have q1 := coord1 t
  have c1 := cond1_iff (grid0.coords t)
  have c2 := cond2_iff (grid0.coords t)
  have c3 := cond3_iff (grid0.coords t)
  have ht : t.val < 96 := t.isLt
  by_cases h : t.val % 8 = 0
  · have h2 : k0_cond2 (grid0.coords t) = 1#1 := c2.mpr (by omega)
    by_cases h0 : t.val = 0
    · have h1 : k0_cond1 (grid0.coords t) = 1#1 := c1.mpr ⟨by omega, by omega⟩
      have h3 : k0_cond3 (grid0.coords t) = 1#1 := c3.mpr (by omega)
      rw [carried_next m c t h (by omega), show carried m c t.val = idle m c by rw [h0]; exact carried_zero m c]
      unfold idle inFlight
      iintro ⟨⟨Hb, ⟨⟨%f, H5⟩, Hq, Hw⟩, Hg⟩, ⟨%W, -, HW⟩, ⟨%d0, H0⟩, ⟨%d1, H1⟩⟩
      ihave Hb := (kept_some m c t.val) $$ Hb
      iapply (run_first c (grid0.coords t) (wArr m c) (ms0_0 t) (hs0_0 t) (ms0_1 t) (hs0_1 t) h1 h2 h3 (iblk m c 0 t) f W _)
      isplitl [H0]; · iexact H0
      isplitl [H1]; · iexists _; iexact H1
      isplitl [Hb]; · iexact Hb
      isplitl [H5]; · iexact H5
      isplitl [Hq]; · iexact Hq
      isplitl [Hw]; · iexact Hw
      isplitl [HW]; · iexact HW
      iintro ⟨H0, H1, Hb, Hf, Hr, ⟨%W', HW⟩⟩
      isplitl [Hb Hf Hr Hg]
      · isplitl [Hb]; · iexact Hb
        isplitl [Hf Hr]
        · isplitl [Hf]; · iexact Hf
          iexact Hr
        iexact Hg
      isplitl [HW]
      · iexists W'; isplitr; · ipureintro; exact fun _ _ => Or.inl trivial
        iexact HW
      isplitl [H0]; · iexact H0
      iexact H1
    · have h1 : ¬ k0_cond1 (grid0.coords t) = 1#1 := fun e => h0 (by have := c1.mp e; omega)
      rw [carried_start m c t h h0]
      by_cases hl : t.val / 8 + 1 < 12
      · have h3 : k0_cond3 (grid0.coords t) = 1#1 := c3.mpr (by omega)
        rw [carried_next m c t h hl]
        unfold inFlight
        iintro ⟨⟨Hb, ⟨⟨%f, Hf⟩, Hr⟩, Hg⟩, ⟨%W, -, HW⟩, ⟨%d0, H0⟩, ⟨%d1, H1⟩⟩
        ihave Hb := (kept_some m c t.val) $$ Hb
        iapply (run_next c (grid0.coords t) (wArr m c) (ms0_0 t) (hs0_0 t) (ms0_1 t) (hs0_1 t) h1 h2 h3 (iblk m c 0 t) f W _)
        isplitl [H0]; · iexact H0
        isplitl [H1]; · iexists _; iexact H1
        isplitl [Hb]; · iexact Hb
        isplitl [Hf]; · iexact Hf
        isplitl [Hr]; · iexact Hr
        isplitl [HW]; · iexact HW
        iintro ⟨H0, H1, Hb, Hf, Hr, ⟨%W', HW⟩⟩
        isplitl [Hb Hf Hr Hg]
        · isplitl [Hb]; · iexact Hb
          isplitl [Hf Hr]
          · isplitl [Hf]; · iexact Hf
            iexact Hr
          iexact Hg
        isplitl [HW]
        · iexists W'; isplitr; · ipureintro; exact fun _ _ => Or.inl trivial
          iexact HW
        isplitl [H0]; · iexact H0
        iexact H1
      · have h3 : ¬ k0_cond3 (grid0.coords t) = 1#1 := fun e => hl (by have := c3.mp e; omega)
        rw [carried_last m c (t.val + 1) (by omega)]
        unfold inFlight idle
        iintro ⟨⟨Hb, ⟨⟨%f, Hf⟩, Hr⟩, Hg⟩, ⟨%W, -, HW⟩, ⟨%d0, H0⟩, ⟨%d1, H1⟩⟩
        ihave Hb := (kept_some m c t.val) $$ Hb
        iapply (run_last c (grid0.coords t) (wArr m c) (ms0_0 t) (hs0_0 t) (ms0_1 t) (hs0_1 t) h1 h2 h3 (iblk m c 0 t) f W _)
        isplitl [H0]; · iexact H0
        isplitl [H1]; · iexists _; iexact H1
        isplitl [Hb]; · iexact Hb
        isplitl [Hf]; · iexact Hf
        isplitl [Hr]; · iexact Hr
        isplitl [HW]; · iexact HW
        iintro ⟨H0, H1, Hb, H5, Hq, Hw, ⟨%W', HW⟩⟩
        isplitl [Hb H5 Hq Hw Hg]
        · isplitl [Hb]; · iexact Hb
          isplitl [H5 Hq Hw]
          · isplitl [H5]; · iexact H5
            isplitl [Hq]; · iexact Hq
            iexact Hw
          iexact Hg
        isplitl [HW]
        · iexists W'; isplitr; · ipureintro; exact fun _ _ => Or.inl trivial
          iexact HW
        isplitl [H0]; · iexact H0
        iexact H1
  · have h1 : ¬ k0_cond1 (grid0.coords t) = 1#1 := fun e => h (by have := c1.mp e; omega)
    have h2 : ¬ k0_cond2 (grid0.coords t) = 1#1 := fun e => h (by have := c2.mp e; omega)
    rw [carried_within m c t h, kept_within m c t h]
    iintro ⟨⟨Hb, Hc, Hg⟩, ⟨%W, -, HW⟩, ⟨%d0, H0⟩, ⟨%d1, H1⟩⟩
    iapply (run_go c (grid0.coords t) (ms0_0 t) (hs0_0 t) (ms0_1 t) (hs0_1 t) h1 h2 (iblk m c 0 t) (rounded m c (col (grid0.coords t))) _)
    isplitl [H0]; · iexact H0
    isplitl [H1]; · iexists _; iexact H1
    isplitl [Hb]; · iexact Hb
    iintro ⟨H0, H1, Hb⟩
    isplitl [Hb Hc Hg]
    · isplitl [Hb]; · iexact Hb
      isplitl [Hc]; · iexact Hc
      iexact Hg
    isplitl [HW]
    · iexists W; isplitr; · ipureintro; exact fun _ _ => Or.inl trivial
      iexact HW
    isplitl [H0]; · iexact H0
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The kernel's one counter of its own, and the array its copies read. -/
abbrev osem0 : Fin 1 → SemLoc sig := fun j => (![SemLoc.dma 4] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 4) 0 := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (wM.view.loc (c : Thread nD τ) ↦{fullShare} wArr m c) := by
  rw [BI.bigSep_eq_bigSepL_of_eq [main_arg1] (by decide) (by decide)]; rfl

/-- What the launch hands the first point, and takes back from the last. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ d, owns (c : Thread nD τ) wbM fullShare d))
          ∗ (∃ r, prngReg c r) ∗ semVal ((c : Thread nD τ), SemLoc.dma 4) 0 ∗ (wM.view.loc (c : Thread nD τ) ↦{fullShare} wArr m c)) := by
  rw [Pipeline.ΦD_eq, scopedRest0_eq, ownSems00_eq, hbmPts0_eq]
  simp only [wbM, owns_whole]; try rfl

theorem stage_set : (stM.view.set : Finset _) = Finset.univ := View.set_whole _

theorem enter (c : Dev nD) : Pipeline.ΦD osem0 spec0 H0 (V m) c ⊢ (between m c 0 : sProp 𝕄) := by
  rw [PhiD0_eq]
  unfold between
  rw [carried_zero]
  unfold kept idle
  rw [if_pos rfl, stage_set]
  iintro ⟨⟨H5, Hb⟩, Hg, Hq, Hw⟩
  isplitl [Hb]; · iexact Hb
  isplitl [H5 Hq Hw]
  · isplitl [H5]; · iexact H5
    isplitl [Hq]; · iexact Hq
    iexact Hw
  iexact Hg

theorem leave (c : Dev nD) : between m c 96 ⊢ (Pipeline.ΦD osem0 spec0 H0 (V m) c : sProp 𝕄) := by
  rw [PhiD0_eq]
  unfold between
  rw [carried_last m c 96 (by decide)]
  unfold idle
  rw [stage_set]
  iintro ⟨Hb, ⟨H5, Hq, Hw⟩, Hg⟩
  ihave Hb := (kept_some m c 96) $$ Hb
  isplitl [H5 Hb]
  · isplitl [H5]; · iexact H5
    iexact Hb
  isplitl [Hg]; · iexact Hg
  isplitl [Hq]; · iexact Hq
  iexact Hw

set_option maxHeartbeats 800000 in
/-- @main around the region, at this proof's algebra. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host line after the region touches no operand of the kernel's own copies. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  obtain rfl := List.mem_singleton.mp hops
  refine Pipeline.sub_tailRefsBut _ _ H0 op ((List.forall_iff_forall_mem.mp hostOps1_sub) op hop) (fun k => k.elim0) fun b hb => ?_
  obtain rfl := Finset.mem_singleton.mp hb
  obtain rfl := List.mem_singleton.mp hop
  rw [StableHlo.reshape_bufs, Finset.mem_insert, Finset.mem_singleton, not_or]
  exact ⟨StableHlo.devRef_ne_of_ne (by decide), StableHlo.devRef_ne_of_ne (by decide)⟩

set_option backward.isDefEq.respectTransparency.types false in
set_option maxHeartbeats 800000 in
/-- The launch: every run ends with the arrays the pipeline leaves and every semaphore counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := enter m) (hout := leave m)

/-! ## The arguments at the end -/

theorem W_arg0 (c : Dev nD) :
    Pipeline.afterTail₀ cfgs (dats m) 0 (V0 m) [hostOps1] c main_arg0 = m ((c.tc : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (c : Dev nD) :
    Pipeline.afterTail₀ cfgs (dats m) 0 (V0 m) [hostOps1] c main_arg1 = m ((c.tc : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The frame: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun _ h => ⟨fun c => ⟨?_, ?_⟩, h.2⟩) (run_main m ρ)
  · exact ((h.1 c).2 main_arg0 (Pipeline.mem_restRefs_of main_arg0 (by decide) (by decide))).trans (W_arg0 m c)
  · exact ((h.1 c).2 main_arg1 (Pipeline.mem_restRefs_of main_arg1 (by decide) (by decide))).trans (W_arg1 m c)

end Cert.InProjIdeal.Gen
-- ==== Proof.InProjValue.lean ====
/- The projection's value: every element of the kernel's output array is its token's hidden state times its weight
   column, which is what the reference computes. -/
module

public import proofs.«01_k».proof.Proof.InProjRegion
public import proofs.«01_k».proof.Proof.Gen.InProjReferenceIdeal.Read
public import Idealize.ShloMosaic.Lib.Pipeline.ValueKit
public import Idealize.ShloMosaic.Lib.StableHlo.RunRead
public import Idealize.ShloMosaic.Lib.Pointwise
public import Idealize.ShloMosaic.Lib.Claim

@[expose] public section

set_option maxRecDepth 100000

noncomputable section

namespace Cert.InProjection

open Cert.InProjIdeal Cert.InProjIdeal.Gen Idealize.ShloMosaic Idealize.ShloMosaic.TcCoe Idealize.SL.Sem Idealize.ShloMosaic.StableHlo
open Idealize.ShloMosaic.Pipeline (Dat Cfg Window)

/-! ## The mathematics -/

/-- The hidden state `x` times the first layer's weight `w`, at a token and a column. -/
def project (x : S2x4096x4096.Idx → EReal) (w : S4x4096x12288.Idx → EReal) (b : Fin 2) (t : Fin 4096) (n : Fin 12288) : EReal :=
  ∑ k : Fin 4096, x (ix3 b t k) * w (ix3 0 k n)

/-- The result, and the same with its two batches joined. -/
def result (x : S2x4096x4096.Idx → EReal) (w : S4x4096x12288.Idx → EReal) : S2x4096x12288.Idx → EReal :=
  fun i => project x w (i 0) (i 1) (i 2)
def joinedResult (x : S2x4096x4096.Idx → EReal) (w : S4x4096x12288.Idx → EReal) : S8192x12288.Idx → EReal := fun i =>
  project x w ⟨(i 0).val / 4096, by have h : (i 0).val < 8192 := (i 0).isLt; omega⟩ ⟨(i 0).val % 4096, by omega⟩ (i 1)

/-! ## The reference -/

theorem reference_eq (x : S2x4096x4096.Idx → EReal) (w : S4x4096x12288.Idx → EReal) :
    Cert.InProjReferenceIdeal.Read.val_main_v4 (F := Ideal) x w = result x w := by
  funext i
  rw [Cert.InProjReferenceIdeal.Read.val_main_v4_apply]
  refine (Cert.InProjReferenceIdeal.Read.val_main_v3_apply x w i).trans ?_
  unfold result project
  refine Finset.sum_congr rfl fun k _ => ?_
  refine congrArg₂ (· * ·) (congrArg x (funext fun a => ?_)) ?_
  · match a with
    | ⟨0, _⟩ => rfl
    | ⟨1, _⟩ => rfl
    | ⟨2, _⟩ => rfl
  · have hk := k.isLt
    have hn : (i 2).val < 12288 := (i 2).isLt
    unfold Cert.InProjReferenceIdeal.Read.val_main_v2 Cert.InProjReferenceIdeal.Read.val_main_v1
    rw [shapeCast_apply _ _ _ (ix3 (0 : Fin 1) k (⟨(i 2).val, hn⟩ : Fin 12288)) (by
      rw [Shape.rowMajor_val_three, Shape.rowMajor_val_two]
      show (0 * 4096 + k.val) * 12288 + (i 2).val = k.val * 12288 + (i 2).val
      omega)]
    refine congrArg w (funext fun a => Fin.ext ?_)
    match a with
    | ⟨0, _⟩ => rfl
    | ⟨1, _⟩ => show 0 + k.val = k.val; omega
    | ⟨2, _⟩ => show 0 + (i 2).val = (i 2).val; omega

/-! ## The kernel's block -/

/-- A point's payload at a row and a column. -/
theorem product_apply (x : S1024x4096.Idx → EReal) (w : S4096x1024.Idx → EReal) (r q : Fin 1024) :
    k0_pay2 (F := Ideal) x w (ix2 r q) = ∑ k : Fin 4096, x (ix2 r k) * w (ix2 k q) := by
  unfold k0_pay2
  pointwise

variable (m : (ℓ : Loc nD τ sig) → Buf (Elt Ideal) ℓ) (c : Dev nD)

/-- The two arguments. -/
abbrev hidden : S2x4096x4096.Idx → EReal := m ((c.tc : Thread nD τ).loc main_arg0)
abbrev weight : S4x4096x12288.Idx → EReal := m ((c.tc : Thread nD τ).loc main_arg1)

theorem V_hidden : V m c main_v0 = shapeCast S8192x4096 (hidden m c) shapeCasts_S2x4096x4096_S8192x4096 := by
  unfold_abbrev_sides
  simp only [hostOps0, List.flatten_cons, List.flatten_nil, List.append_nil, List.cons_append, List.nil_append]
  after_reads_simp
  rfl

theorem index_maps : ∀ t : Fin cfg0.N, win0_0.index t = ![t.val % 8, 0] ∧ win0_1.index t = ![t.val % 8, t.val / 8] := by
  decide +kernel

theorem points (t : Fin cfg0.N) : t.val < 96 := t.isLt

/-- The hidden-state block of a point. -/
theorem block_hidden (t : Fin cfg0.N) (r : Fin 1024) (k : Fin 4096) :
    iblk m c 0 t (ix2 r k) = hidden m c (ix3 (⟨t.val % 8 / 4, by omega⟩ : Fin 2) (⟨1024 * (t.val % 4) + r.val, by omega⟩ : Fin 4096) k) := by
  have hr := r.isLt; have hk := k.isLt
  refine Eq.trans ?_ (shapeCast_apply (hidden m c) shapeCasts_S2x4096x4096_S8192x4096
    (ix2 (⟨1024 * (t.val % 8) + r.val, by omega⟩ : Fin 8192) k) _ (by
      rw [Shape.rowMajor_val_three, Shape.rowMajor_val_two]
      show (t.val % 8 / 4 * 4096 + (1024 * (t.val % 4) + r.val)) * 4096 + k.val = (1024 * (t.val % 8) + r.val) * 4096 + k.val
      omega))
  rw [← V_hidden]
  blk_ext [iblk, (index_maps t).1]

/-- A column tile of the weight. -/
theorem tile_weight (j : Fin 12) (k : Fin 4096) (q : Fin 1024) :
    castTile ((tile j).view.read (Elt Ideal) (wArr m c)) (ix2 k q) = weight m c (ix3 (0 : Fin 4) k (⟨1024 * j.val + q.val, by omega⟩ : Fin 12288)) := by
  refine Eq.trans ?_ (congrFun (V_main_arg1 m c) _)
  have e : Shape.reshapeEquiv squeezes_S1x4096x1024_S4096x1024.numel_eq (ix2 k q) = ix3 (0 : Fin 1) k q :=
    Shape.reshapeEquiv_eq_of_rowMajor _ (by
      rw [Shape.rowMajor_val_three, Shape.rowMajor_val_two]
      show (0 * 4096 + k.val) * 1024 + q.val = k.val * 1024 + q.val
      omega)
  refine congrArg (wArr m c) (funext fun a => Fin.ext ?_)
  refine (congrArg (fun y => ((Rect.unit (s := S4x4096x12288) (tileOff j) S1x4096x1024.size (tileOff_inb j)).emb y a).val) e).trans ?_
  match a with
  | ⟨0, _⟩ => rfl
  | ⟨1, _⟩ => show 0 + 1 * k.val = k.val; omega
  | ⟨2, _⟩ => show 1024 * j.val + 1 * q.val = 1024 * j.val + q.val; omega

/-! ## The array -/

theorem array_eq : (dats m 0 c).arrAt 1 cfg0.N = joinedResult (hidden m c) (weight m c) := by
  refine (dats m 0 c).arrAt_eq_of_covers 1 _ (by decide +kernel) fun t hf y => ?_
  blk_simp
  rw [after0_1]
  have hy0 : (y 0).val < 1024 := (y 0).isLt
  have hy1 : (y 1).val < 1024 := (y 1).isLt
  have ht := points t
  have h0 : (((win0_1.blk t).view.emb y) 0).val = t.val % 8 * 1024 + (y 0).val := by blk_simp [(index_maps t).2]
  have h1 : (((win0_1.blk t).view.emb y) 1).val = t.val / 8 * 1024 + (y 1).val := by blk_simp [(index_maps t).2]
  refine Eq.trans (congrArg _ (?_ : y = ix2 (⟨(y 0).val, hy0⟩ : Fin 1024) (⟨(y 1).val, hy1⟩ : Fin 1024))) ((product_apply _ _ _ _).trans ?_)
  · funext a
    match a with
    | ⟨0, _⟩ => rfl
    | ⟨1, _⟩ => rfl
  unfold joinedResult project
  refine Finset.sum_congr rfl fun k _ => congrArg₂ (· * ·) ((block_hidden m c t _ k).trans ?_) ((tile_weight m c _ k _).trans ?_)
  · refine congrArg (hidden m c) (funext fun a => Fin.ext ?_)
    match a with
    | ⟨0, _⟩ => show t.val % 8 / 4 = (((win0_1.blk t).view.emb y) 0).val / 4096; omega
    | ⟨1, _⟩ => show 1024 * (t.val % 4) + (y 0).val = (((win0_1.blk t).view.emb y) 0).val % 4096; omega
    | ⟨2, _⟩ => rfl
  · refine congrArg (weight m c) (funext fun a => Fin.ext ?_)
    match a with
    | ⟨0, _⟩ => rfl
    | ⟨1, _⟩ => rfl
    | ⟨2, _⟩ =>
      have := coord0 t
      show 1024 * (grid0.coords t 0).val + (y 1).val = (((win0_1.blk t).view.emb y) 1).val; omega

/-! ## The result -/

theorem split_joined (x : S2x4096x4096.Idx → EReal) (w : S4x4096x12288.Idx → EReal) :
    shapeCast S2x4096x12288 (joinedResult x w) shapeCasts_S8192x12288_S2x4096x12288 = result x w := by
  funext i
  have h0 : (i 0).val < 2 := (i 0).isLt
  have h1 : (i 1).val < 4096 := (i 1).isLt
  have h2 : (i 2).val < 12288 := (i 2).isLt
  rw [shapeCast_apply _ _ _ (ix2 (⟨4096 * (i 0).val + (i 1).val, by omega⟩ : Fin 8192) (⟨(i 2).val, h2⟩ : Fin 12288)) (by
    rw [Shape.rowMajor_val_three, Shape.rowMajor_val_two]
    show (4096 * (i 0).val + (i 1).val) * 12288 + (i 2).val = ((i 0).val * 4096 + (i 1).val) * 12288 + (i 2).val
    omega)]
  show project x w _ _ _ = project x w _ _ _
  have e0 : (⟨(4096 * (i 0).val + (i 1).val) / 4096, by omega⟩ : Fin 2) = i 0 := Fin.ext (by show _ / 4096 = _; omega)
  have e1 : (⟨(4096 * (i 0).val + (i 1).val) % 4096, by omega⟩ : Fin 4096) = i 1 := Fin.ext (by show _ % 4096 = _; omega)
  exact congrArg₂ (fun b t => project x w b t (i 2)) e0 e1

/-- What the program leaves in its result. -/
theorem W_result : Pipeline.afterTail₀ cfgs (dats m) 0 (V0 m) [hostOps1] c main_v2 = result (hidden m c) (weight m c) := by
  have harr : Pipeline.withArrays spec0 c (V0 m c) (fun k => (dats m 0 c).arrAt k cfg0.N) (Proc.devRef .tc main_v1)
      = joinedResult (hidden m c) (weight m c) :=
    (Pipeline.withArrays_arr_shared spec0 c (V0 m c) (fun k => (dats m 0 c).arrAt k cfg0.N)
      (fun k k' hne e => ((dats m 0 c).arrAt_in k ((by decide : ∀ k k' : Fin 2, k ≠ k' → Pipeline.arrRef spec0 k = Pipeline.arrRef spec0 k' → (cfg0.win k).isOut = false) k k' hne e) _).trans (A_eq m c k)) 1).trans
      (array_eq m c)
  rw [← split_joined, ← harr]
  unfold Pipeline.afterTail₀
  simp only [hostOps1, List.flatten_cons, List.flatten_nil, List.append_nil]
  after_reads_simp
  rfl

end Cert.InProjection
-- ==== Proof.InProjKernel.lean ====
/- The projection kernel and its idealized form are one text: the same body table and the same `@main`, so the run proved
   over any float values is also the kernel's. -/
module

public import proofs.«01_k».proof.Proof.InProjRegion
public import proofs.«01_k».proof.Proof.Gen.InProj

@[expose] public section

set_option maxRecDepth 65536

noncomputable section

namespace Cert.InProj.Gen

open Idealize.ShloMosaic Idealize.SL.Sem

attribute [local instance] Cert.InProj.Gen.facts Cert.InProjIdeal.Gen.facts

variable {F : FTy → Type} [FloatOps F]

theorem defs₀_same : Cert.InProj.defs₀ (F := F) = Cert.InProjIdeal.defs₀ := by
  unfold Cert.InProj.defs₀ Cert.InProjIdeal.defs₀
  refine congrArg _ (funext fun l => funext fun a => ?_)
  match l, a with
  | ⟨0, _⟩, (t, s) => rfl
  | ⟨_ + 1, h⟩, _ => exact absurd h (Nat.not_lt.2 (Nat.le_add_left _ _))

theorem defs_same : Cert.InProj.defs (F := F) = Cert.InProjIdeal.defs := by
  unfold Cert.InProj.defs Cert.InProjIdeal.defs
  exact congrArg (Pipeline.defs Cert.InProj.pcfgs) defs₀_same

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.InProjIdeal.Gen.frame m ρ

end Cert.InProj.Gen
-- ==== Proof.OutProjCast.lean ====
/- The output projection's counted loop: sixty-four trips, each rounding sixty-four rows of the staged weight tile to
   half precision. Before trip `k` the rows above `64 k` hold the rounded tile; after the last trip all of them do. -/
module

public import proofs.«01_k».proof.Proof.Gen.OutProjIdeal.Frame
public import proofs.«01_k».proof.Proof.Gen.OutProjIdeal.Loops
public import Idealize.ShloMosaic.Lib.Pipeline.Value

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's tokens beside the counters of the kernel's own copies. -/
local notation "𝕄" => MT nD τ sig Unit (Elt F) ℕ (Pipeline.UD sig nD τ) ℕ

/-- A weight tile rounded to half precision, element by element. -/
def castTile (x : Vec F S4096x1024 .f32) : Vec F S4096x1024 .bf16 := truncf .bf16 x bitsLt_bf16_f32

variable (c : Dev nD) (i : grid0.Coords)
  (arg2 : Memref sig .tc .vmem S512x4096 .bf16) (harg2 : arg2.IsWhole)
  (arg3 : Memref sig .tc .hbm S4x4096x4096 .f32) (harg3 : arg3.IsWhole)
  (arg4 : Memref sig .tc .vmem S512x1024 .f32) (harg4 : arg4.IsWhole)
  (arg5 : Memref sig .tc .vmem S1x1x1x1024 .f32) (harg5 : arg5.IsWhole)
  (arg6 : Memref sig .tc .vmem S512x1024 .f32) (harg6 : arg6.IsWhole)
  (arg7 : Memref sig .tc .vmem S4096x1024 .f32) (harg7 : arg7.IsWhole)
  (arg8 : Memref sig .tc .vmem S4096x1024 .bf16) (harg8 : arg8.IsWhole)
  (arg9 : DmaSems sig S_) (h2 : k0_cond2 i = 1#1)

/-- The rows of trip `k`. -/
abbrev rowsAt (k : Fin k0_t1_loop.trips) : Rect S4096x1024 :=
  Rect.unit (s := S4096x1024) (k0_off3 k) S64x1024.size (k0_off3_inb i k h2)

/-- The rounded copy is right on the rows of the trips before `k`. -/
def Cast (X : BufTy.Contents (Elt F) arg7.view.ty) (k : ℕ) (f : BufTy.Contents (Elt F) arg8.view.ty) : Prop :=
  ∀ y : S4096x1024.Idx, (y 0).val < 64 * k → arg8.view.read (Elt F) f y = castTile (arg7.view.read (Elt F) X) y

/-- Before the first trip nothing is asked of the copy. -/
theorem cast_zero (X : BufTy.Contents (Elt F) arg7.view.ty) (f : BufTy.Contents (Elt F) arg8.view.ty) :
    Cast arg7 arg8 X 0 f := fun y hy => absurd hy (by omega)

omit [FloatOps F] in
theorem trips_eq : k0_t1_loop.trips = 64 := by decide

/-- One trip's store extends the rounded rows by the next sixty-four. -/
theorem cast_step (X : BufTy.Contents (Elt F) arg7.view.ty) (k : Fin k0_t1_loop.trips) (f : BufTy.Contents (Elt F) arg8.view.ty)
    (h : Cast arg7 arg8 X k.val f) :
    Cast arg7 arg8 X (k.val + 1)
      (arg8.view.writes (Elt F) f [⟨rowsAt i h2 k, k0_pay1 (arg7.view.readAt (Elt F) (rowsAt i h2 k).toLoadRect X)⟩]) := by
  intro y hy
  have e0 : (rowsAt i h2 k).off 0 = 64 * k.val := by
    show k0_off3 k 0 = _
    rw [k0_off3_eq]; rfl
  have e1 : (rowsAt i h2 k).off 1 = 0 := by
    show k0_off3 k 1 = _
    rw [k0_off3_eq]; rfl
  by_cases hlo : (y 0).val < 64 * k.val
  · rw [View.read_writes_cons_miss]
    · exact h y hlo
    · intro hm
      have hb := ((Rect.mem_set_unit (inb := k0_off3_inb i k h2)).mp hm 0).1
      have : k0_off3 k 0 = 64 * k.val := e0
      omega
  · have hx0 : (y 0).val - 64 * k.val < 64 := by omega
    have hx1 : (y 1).val < 1024 := (y 1).isLt
    have ey : (rowsAt i h2 k).emb ((fun a => match a with
        | 0 => ⟨(y 0).val - 64 * k.val, hx0⟩
        | 1 => ⟨(y 1).val, hx1⟩ : (rowsAt i h2 k).shape.Idx)) = y := by
      funext a
      refine Fin.ext ?_
      fin_cases a
      · show (rowsAt i h2 k).off 0 + 1 * ((y 0).val - 64 * k.val) = (y 0).val
        omega
      · show (rowsAt i h2 k).off 1 + 1 * (y 1).val = (y 1).val
        omega
    rw [View.read_writes_cons_hit _ _ _ _ _ _ _ ey]
    unfold k0_pay1
    dsimp only
    rw [shapeCast_self]
    exact congrArg (castTile (arg7.view.read (Elt F) X)) ey

/-- One trip, run: it loads its rows of the staged tile and stores them rounded. -/
theorem trip_run (X : BufTy.Contents (Elt F) arg7.view.ty) (k : Fin k0_t1_loop.trips) (E : Set ℕ)
    (f : BufTy.Contents (Elt F) arg8.view.ty) :
    (iprop((arg7.view.loc (c : Thread nD τ) ↦[arg7.view.set]{fullShare} X) ∗ (arg8.view.loc (c : Thread nD τ) ↦[arg8.view.set]{fullShare} f)) : sProp 𝕄)
      ⊢ wp frame (wpE (defs₀ (F := F)) Variants.none (c : Thread nD τ) none) E
          (k0_t1_body (F := F) i arg2 harg2 arg3 harg3 arg4 harg4 arg5 harg5 arg6 harg6 arg7 harg7 arg8 harg8 arg9 h2 k PUnit.unit)
          (fun _ => iprop((arg7.view.loc (c : Thread nD τ) ↦[arg7.view.set]{fullShare} X)
            ∗ (arg8.view.loc (c : Thread nD τ) ↦[arg8.view.set]{fullShare}
                arg8.view.writes (Elt F) f [⟨rowsAt i h2 k, k0_pay1 (arg7.view.readAt (Elt F) (rowsAt i h2 k).toLoadRect X)⟩]))) := by
  have hk : k.val < 64 := Nat.lt_of_lt_of_le k.isLt k0_t1_abs.2.1
  unfold k0_t1_body
  iintro ⟨HR, HW⟩
  sl_exec
  sl_step
  isplitl [HR]; · iexact HR
  iexact HW

set_option warn.classDefReducibility false in
/-- The loop by its invariant: the staged tile untouched, the rounded copy right on the rows already done. -/
@[sl_loop] def castLoop (E : Set ℕ) (X : BufTy.Contents (Elt F) arg7.view.ty) :
    LoopInvTy_k0_t1 (F := F) Unit ℕ (Pipeline.UD sig nD τ) ℕ Variants.none c none E i arg2 harg2 arg3 harg3 arg4 harg4 arg5 harg5 arg6 harg6 arg7 harg7 arg8 harg8 arg9 h2 where
  inv k _ := iprop((arg7.view.loc (c : Thread nD τ) ↦[arg7.view.set]{fullShare} X)
    ∗ (∃ f, (arg8.view.loc (c : Thread nD τ) ↦[arg8.view.set]{fullShare} f) ∗ ⌜Cast arg7 arg8 X k f⌝))
  step k acc := by
    iintro ⟨HR, ⟨%f, HW, %hf⟩⟩
    iapply (wp_wand_r Idealize.ShloMosaic.frame (wpE (defs₀ (F := F)) Variants.none (c : Thread nD τ) none) E)
    isplitl [HR HW]
    · iapply (trip_run c i arg2 harg2 arg3 harg3 arg4 harg4 arg5 harg5 arg6 harg6 arg7 harg7 arg8 harg8 arg9 h2 X k E f)
      isplitl [HR]; · iexact HR
      iexact HW
    · iintro %_ ⟨HR, HW⟩
      isplitl [HR]; · iexact HR
      iexists _; isplitl [HW]; · iexact HW
      ipureintro; exact cast_step i arg7 arg8 h2 X k f hf

end Cert.OutProjIdeal.Gen
-- ==== Proof.OutProjRun.lean ====
/- The output projection's body, run. A point of the grid either starts a new weight tile (the first of the sixteen row
   blocks of its column block) or goes on with the one already rounded. Starting one: the tile in flight is awaited,
   rounded, and the next one issued into the buffer just read. Either way the residual block plus
   the gated product of the input block and the rounded tile is stored. -/
module

public import proofs.«01_k».proof.Proof.OutProjCast
public import Idealize.ShloMosaic.Lib.VecWindow

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's tokens beside the counters of the kernel's own copies. -/
local notation "𝕄" => MT nD τ sig Unit (Elt F) ℕ (Pipeline.UD sig nD τ) ℕ

/-! ## The weight's column tiles, and the names the body gives them -/

/-- The weight operand, the staging buffer and the rounded copy, as the body is passed them. -/
abbrev wM : Memref sig .tc .hbm S4x4096x4096 .f32 := Memref.whole main_arg1
abbrev stM : Memref sig .tc .vmem S4096x1024 .f32 := Memref.whole cc0_scratch0
abbrev wbM : Memref sig .tc .vmem S4096x1024 .bf16 := Memref.whole cc0_scratch1

abbrev tileOff (j : Fin 4) : Fin 3 → Nat := ![0, 0, 1024 * j.val]
theorem tileOff_inb (j : Fin 4) : ∀ a, tileOff j a + S1x4096x1024.size a ≤ S4x4096x4096.size a := by
  have := j.isLt
  intro a; fin_cases a
  · show 0 + 1 ≤ 4; omega
  · show 0 + 4096 ≤ 4096; omega
  · show 1024 * j.val + 1024 ≤ 4096; omega

/-- Column tile `j` of the first layer's weight, as the body slices and squeezes it. -/
def tile (j : Fin 4) : Memref sig .tc .hbm S4096x1024 .f32 :=
  (wM.slice (Rect.unit (s := S4x4096x4096) (tileOff j) S1x4096x1024.size (tileOff_inb j)) (fun _ => rfl)).squeeze S4096x1024 squeezes_S1x4096x1024_S4096x1024

theorem tile_congr {off : Fin 3 → Nat} {j : Fin 4} (e : off = tileOff j) (hh hs) :
    (wM.slice (Rect.unit (s := S4x4096x4096) off S1x4096x1024.size hh) hs).squeeze S4096x1024 squeezes_S1x4096x1024_S4096x1024 = tile j :=
  congrArg (fun M : Memref sig .tc .hbm S1x4096x1024 .f32 => M.squeeze S4096x1024 squeezes_S1x4096x1024_S4096x1024) (Memref.slice_unit_congr _ e _ _ _ _)

/-- The column block of a point, and the next one. -/
abbrev col (i : grid0.Coords) : Fin 4 := ⟨(i 0).val, (i 0).isLt⟩
def nextCol (i : grid0.Coords) : Fin 4 := Fin.ofNat 4 ((i 0).val + 1)

theorem cond3_iff : ∀ i : grid0.Coords, k0_cond3 i = 1#1 ↔ (i 0).val + 1 < 4 := by decide +kernel
theorem cond2_iff : ∀ i : grid0.Coords, k0_cond2 i = 1#1 ↔ (i 1).val = 0 := by decide +kernel
theorem cond1_iff : ∀ i : grid0.Coords, k0_cond1 i = 1#1 ↔ (i 0).val = 0 ∧ (i 1).val = 0 := by decide +kernel

theorem nextCol_val (i : grid0.Coords) (h3 : k0_cond3 i = 1#1) : (nextCol i).val = (i 0).val + 1 :=
  Nat.mod_eq_of_lt ((cond3_iff i).mp h3)

@[sl_canon] theorem tile_issue (i : grid0.Coords) (hh hs) :
    (wM.slice (Rect.unit (s := S4x4096x4096) (k0_off1 i) S1x4096x1024.size hh) hs).squeeze S4096x1024 squeezes_S1x4096x1024_S4096x1024 = tile (col i) :=
  tile_congr (k0_off1_eq i) _ _
@[sl_canon] theorem tile_wait (i : grid0.Coords) (hh hs) :
    (wM.slice (Rect.unit (s := S4x4096x4096) (k0_off2 i) S1x4096x1024.size hh) hs).squeeze S4096x1024 squeezes_S1x4096x1024_S4096x1024 = tile (col i) :=
  tile_congr (k0_off2_eq i) _ _
@[sl_canon] theorem tile_next (i : grid0.Coords) (h3 : k0_cond3 i = 1#1) (hh hs) :
    (wM.slice (Rect.unit (s := S4x4096x4096) (k0_off4 i) S1x4096x1024.size hh) hs).squeeze S4096x1024 squeezes_S1x4096x1024_S4096x1024 = tile (nextCol i) :=
  tile_congr (by rw [k0_off4_eq, tileOff, nextCol_val i h3, Nat.mul_add]) _ _

/-! ## The pieces the invariant is made of -/

section Pieces
variable (c : Dev nD) (fw : Buf (Elt F) (wM.view.loc (c : Thread nD τ)))

/-- What tile `j`'s copy leaves in the staging buffer over `f`. -/
abbrev landed (j : Fin 4) (f : Buf (Elt F) (stM.view.loc (c : Thread nD τ))) : Buf (Elt F) (stM.view.loc (c : Thread nD τ)) :=
  stM.view.writes (Elt F) f [⟨Rect.whole S4096x1024, ReadAs.same.apply ((tile j).view.read (Elt F) fw)⟩]

/-- Tile `j` in flight into the staging buffer, issued over `f`. -/
abbrev flight (j : Fin 4) (f : Buf (Elt F) (stM.view.loc (c : Thread nD τ))) : sProp 𝕄 :=
  Transfers.Flight countersEmb (c : Thread nD τ) (SemLoc.dma cc0_scratch2.sem) () 524288
    iprop((stM.view.loc (c : Thread nD τ) ↦[stM.view.set]{fullShare} landed c fw j f)
      ∗ ((tile j).view.loc (c : Thread nD τ) ↦[(tile j).view.set]{fullShare} fw))

/-- Tile `j` and the rest of the weight are the weight. -/
theorem joined (j : Fin 4) :
    iprop(((tile j).view.loc (c : Thread nD τ) ↦[(tile j).view.set]{fullShare} fw)
      ∗ (wM.view.loc (c : Thread nD τ) ↦[Finset.univ \ (tile j).view.set]{fullShare} fw))
      ⊢ (wM.view.loc (c : Thread nD τ) ↦{fullShare} fw : sProp 𝕄) :=
  (pointsTo_split_subset (Finset.subset_univ (tile j).view.set)).2

/-- A copy issued over a tile landed before, as `flight` states it. -/
theorem flight_over (j j' : Fin 4) :
    (Transfers.Flight countersEmb (c : Thread nD τ) (SemLoc.dma cc0_scratch2.sem) () 524288
      iprop((stM.view.loc (c : Thread nD τ) ↦[stM.view.set]{fullShare}
          stM.view.writes (Elt F) stM.view.junk [⟨Rect.whole S4096x1024, ReadAs.same.apply ((tile j).view.read (Elt F) fw)⟩,
            ⟨Rect.whole S4096x1024, ReadAs.same.apply ((tile j').view.read (Elt F) fw)⟩])
        ∗ ((tile j).view.loc (c : Thread nD τ) ↦[(tile j).view.set]{fullShare} fw)) : sProp 𝕄)
      ⊢ flight c fw j (landed c fw j' stM.view.junk) := by
  simp only [flight, landed, View.writes]
  exact .rfl

end Pieces

/-! ## What the body leaves, read back -/

section Read

/-- The output block after the body's store of the whole of it. -/
theorem stored_read (arg2 : Memref sig .tc .vmem S512x4096 .bf16) (arg4 : Memref sig .tc .vmem S512x1024 .f32)
    (arg5 : Memref sig .tc .vmem S1x1x1x1024 .f32) (arg6 : Memref sig .tc .vmem S512x1024 .f32)
    (f2 : BufTy.Contents (Elt F) arg2.view.ty) (f4 : BufTy.Contents (Elt F) arg4.view.ty) (f5 : BufTy.Contents (Elt F) arg5.view.ty)
    (fo : BufTy.Contents (Elt F) arg6.view.ty) (f8 : BufTy.Contents (Elt F) wbM.view.ty) :
    arg6.view.read (Elt F) (arg6.view.writes (Elt F) fo
        [⟨Rect.unit (s := S512x1024) ![0, 0] S512x1024.size inb_S512x1024_S512x1024_0_0,
          k0_pay2 (arg2.view.readAt (Elt F) (Rect.unit (s := S512x4096) ![0, 0] S512x4096.size inb_S512x4096_S512x4096_0_0).toLoadRect f2)
            (wbM.view.readAt (Elt F) (Rect.unit (s := S4096x1024) ![0, 0] S4096x1024.size inb_S4096x1024_S4096x1024_0_0).toLoadRect f8)
            (arg4.view.readAt (Elt F) (Rect.unit (s := S512x1024) ![0, 0] S512x1024.size inb_S512x1024_S512x1024_0_0).toLoadRect f4)
            (arg5.view.readAt (Elt F) (Rect.unit (s := S1x1x1x1024) ![0, 0, 0, 0] S1x1x1x1024.size inb_S1x1x1x1024_S1x1x1x1024_0_0_0_0).toLoadRect f5)⟩])
      = k0_pay2 (arg2.view.read (Elt F) f2) (wbM.view.read (Elt F) f8) (arg4.view.read (Elt F) f4) (arg5.view.read (Elt F) f5) := by
  rw [View.read_writes_full, View.readAt_full, View.readAt_full, View.readAt_full, View.readAt_full]

/-- The staging buffer after tile `j` has landed. -/
theorem landed_read (c : Dev nD) (fw : Buf (Elt F) (wM.view.loc (c : Thread nD τ))) (j : Fin 4)
    (f : Buf (Elt F) (stM.view.loc (c : Thread nD τ))) :
    stM.view.read (Elt F) (landed c fw j f) = (tile j).view.read (Elt F) fw := by
  exact View.read_writes_whole _ _ _

/-- The rounded copy after the last trip of the loop. -/
theorem cast_done (c : Dev nD) (fw : Buf (Elt F) (wM.view.loc (c : Thread nD τ))) (j : Fin 4)
    (f : Buf (Elt F) (stM.view.loc (c : Thread nD τ))) (n : ℕ) (hn : n = 64) (g : BufTy.Contents (Elt F) wbM.view.ty)
    (h : Cast stM wbM (landed c fw j f) n g) :
    wbM.view.read (Elt F) g = castTile ((tile j).view.read (Elt F) fw) := by
  funext y
  have hy : (y 0).val < 4096 := (y 0).isLt
  rw [h y (by omega), landed_read]

end Read

/-! ## The runs -/

section Runs
variable (c : Dev nD) (i : grid0.Coords) (fw : Buf (Elt F) (wM.view.loc (c : Thread nD τ)))
  (arg2 : Memref sig .tc .vmem S512x4096 .bf16) (harg2 : arg2.IsWhole)
  (arg4 : Memref sig .tc .vmem S512x1024 .f32) (harg4 : arg4.IsWhole)
  (arg5 : Memref sig .tc .vmem S1x1x1x1024 .f32) (harg5 : arg5.IsWhole)
  (arg6 : Memref sig .tc .vmem S512x1024 .f32) (harg6 : arg6.IsWhole)

/-- The body at these operands. -/
abbrev body : Prog (TpuEff nD τ sig (Elt F) Λ₀ .tc) PUnit :=
  cc0_out_proj i arg2 harg2 wM (Memref.isWhole_whole _) arg4 harg4 arg5 harg5 arg6 harg6 stM (Memref.isWhole_whole _) wbM (Memref.isWhole_whole _) cc0_scratch2

/-- A point that goes on with the rounded tile. -/
theorem run_go (h1 : ¬ k0_cond1 i = 1#1) (h2 : ¬ k0_cond2 i = 1#1) (b : Vec F S512x4096 .bf16) (x : Vec F S512x1024 .f32) (g : Vec F S1x1x1x1024 .f32) (w : Vec F S4096x1024 .bf16)
    (K : PUnit → sProp 𝕄) :
    iprop(owns (c : Thread nD τ) arg2 fullShare b ∗ owns (c : Thread nD τ) arg4 fullShare x ∗ owns (c : Thread nD τ) arg5 fullShare g ∗ (∃ d, owns (c : Thread nD τ) arg6 fullShare d)
        ∗ owns (c : Thread nD τ) wbM fullShare w
        ∗ (iprop(owns (c : Thread nD τ) arg2 fullShare b ∗ owns (c : Thread nD τ) arg4 fullShare x ∗ owns (c : Thread nD τ) arg5 fullShare g ∗ owns (c : Thread nD τ) arg6 fullShare (k0_pay2 b w x g)
            ∗ owns (c : Thread nD τ) wbM fullShare w) -∗ K ⟨⟩))
      ⊢ wp frame (wpE (defs₀ (F := F)) Variants.none (c : Thread nD τ) none) Set.univ (body i arg2 harg2 arg4 harg4 arg5 harg5 arg6 harg6) K := by
  unfold body
  rw [cc0_out_proj_eq_skeleton]; unfold cc0_out_proj_skel
  unfold owns
  iintro ⟨⟨%f2, %e2, H2⟩, ⟨%f4, %e4, H4⟩, ⟨%f5, %e5, H5⟩, ⟨%dd, %fo, %eo, Ho⟩, ⟨%f6, %e6, H6⟩, Hk⟩
  sl_exec
  sl_step
  iapply Hk
  isplitl [H2]
  · iexists f2; isplitr; swap; · iexact H2
    ipureintro; exact e2
  isplitl [H4]
  · iexists f4; isplitr; swap; · iexact H4
    ipureintro; exact e4
  isplitl [H5]
  · iexists f5; isplitr; swap; · iexact H5
    ipureintro; exact e5
  isplitl [Ho]
  · iexists _; isplitr; swap; · iexact Ho
    ipureintro
    rw [stored_read, e2, e6, e4, e5]
  iexists f6; isplitr; swap; · iexact H6
  ipureintro; exact e6

/-- A point that starts a tile already in flight, with another to come. -/
theorem run_next (h1 : ¬ k0_cond1 i = 1#1) (h2 : k0_cond2 i = 1#1) (h3 : k0_cond3 i = 1#1) (b : Vec F S512x4096 .bf16) (x : Vec F S512x1024 .f32) (g : Vec F S1x1x1x1024 .f32)
    (f : Buf (Elt F) (stM.view.loc (c : Thread nD τ))) (W : Waits sig Unit) (K : PUnit → sProp 𝕄) :
    iprop(owns (c : Thread nD τ) arg2 fullShare b ∗ owns (c : Thread nD τ) arg4 fullShare x ∗ owns (c : Thread nD τ) arg5 fullShare g ∗ (∃ d, owns (c : Thread nD τ) arg6 fullShare d)
        ∗ (∃ d, owns (c : Thread nD τ) wbM fullShare d)
        ∗ flight c fw (col i) f ∗ (wM.view.loc (c : Thread nD τ) ↦[Finset.univ \ (tile (col i)).view.set]{fullShare} fw)
        ∗ owes (c : Thread nD τ) 0 W
        ∗ (iprop(owns (c : Thread nD τ) arg2 fullShare b ∗ owns (c : Thread nD τ) arg4 fullShare x ∗ owns (c : Thread nD τ) arg5 fullShare g
            ∗ owns (c : Thread nD τ) arg6 fullShare (k0_pay2 b (castTile ((tile (col i)).view.read (Elt F) fw)) x g)
            ∗ owns (c : Thread nD τ) wbM fullShare (castTile ((tile (col i)).view.read (Elt F) fw))
            ∗ (∃ f, flight c fw (nextCol i) f) ∗ (wM.view.loc (c : Thread nD τ) ↦[Finset.univ \ (tile (nextCol i)).view.set]{fullShare} fw)
            ∗ (∃ W', owes (c : Thread nD τ) 0 W')) -∗ K ⟨⟩))
      ⊢ wp frame (wpE (defs₀ (F := F)) Variants.none (c : Thread nD τ) none) Set.univ (body i arg2 harg2 arg4 harg4 arg5 harg5 arg6 harg6) K := by
  unfold body
  rw [cc0_out_proj_eq_skeleton]; unfold cc0_out_proj_skel
  unfold owns
  iintro ⟨⟨%f2, %e2, H2⟩, ⟨%f4, %e4, H4⟩, ⟨%f5, %e5, H5⟩, ⟨%dd, %fo, %eo, Ho⟩, ⟨%d6, %f6, %e6, H6⟩, Hf, Hr, HW, Hk⟩
  have hC := cast_zero stM wbM (landed c fw (col i) stM.view.junk) f6
  sl_exec
  ihave Hw := (joined c fw (col i)) $$ [Hf_src Hr]
  · isplitl [Hf_src]; · iexact Hf_src
    iexact Hr
  sl_exec
  have hR := cast_done c fw (col i) stM.view.junk _ trips_eq fL0 hL2
  sl_step
  iapply Hk
  isplitl [H2]
  · iexists f2; isplitr; swap; · iexact H2
    ipureintro; exact e2
  isplitl [H4]
  · iexists f4; isplitr; swap; · iexact H4
    ipureintro; exact e4
  isplitl [H5]
  · iexists f5; isplitr; swap; · iexact H5
    ipureintro; exact e5
  isplitl [Ho]
  · iexists _; isplitr; swap; · iexact Ho
    ipureintro
    rw [stored_read, e2, hR, e4, e5]
  isplitl [H6]
  · iexists _; isplitr; swap; · iexact H6
    ipureintro; exact hR
  isplitl [Hf]
  · iexists landed c fw (col i) stM.view.junk
    iapply (flight_over c fw (nextCol i) (col i))
    iexact Hf
  isplitl [Hw]; · iexact Hw
  iexists _; iexact HW

/-- The point that starts the last tile. -/
theorem run_last (h1 : ¬ k0_cond1 i = 1#1) (h2 : k0_cond2 i = 1#1) (h3 : ¬ k0_cond3 i = 1#1) (b : Vec F S512x4096 .bf16) (x : Vec F S512x1024 .f32) (g : Vec F S1x1x1x1024 .f32)
    (f : Buf (Elt F) (stM.view.loc (c : Thread nD τ))) (W : Waits sig Unit) (K : PUnit → sProp 𝕄) :
    iprop(owns (c : Thread nD τ) arg2 fullShare b ∗ owns (c : Thread nD τ) arg4 fullShare x ∗ owns (c : Thread nD τ) arg5 fullShare g ∗ (∃ d, owns (c : Thread nD τ) arg6 fullShare d)
        ∗ (∃ d, owns (c : Thread nD τ) wbM fullShare d)
        ∗ flight c fw (col i) f ∗ (wM.view.loc (c : Thread nD τ) ↦[Finset.univ \ (tile (col i)).view.set]{fullShare} fw)
        ∗ owes (c : Thread nD τ) 0 W
        ∗ (iprop(owns (c : Thread nD τ) arg2 fullShare b ∗ owns (c : Thread nD τ) arg4 fullShare x ∗ owns (c : Thread nD τ) arg5 fullShare g
            ∗ owns (c : Thread nD τ) arg6 fullShare (k0_pay2 b (castTile ((tile (col i)).view.read (Elt F) fw)) x g)
            ∗ owns (c : Thread nD τ) wbM fullShare (castTile ((tile (col i)).view.read (Elt F) fw))
            ∗ (∃ f, stM.view.loc (c : Thread nD τ) ↦[stM.view.set]{fullShare} f) ∗ semVal ((c : Thread nD τ), SemLoc.dma cc0_scratch2.sem) 0 ∗ (wM.view.loc (c : Thread nD τ) ↦{fullShare} fw)
            ∗ (∃ W', owes (c : Thread nD τ) 0 W')) -∗ K ⟨⟩))
      ⊢ wp frame (wpE (defs₀ (F := F)) Variants.none (c : Thread nD τ) none) Set.univ (body i arg2 harg2 arg4 harg4 arg5 harg5 arg6 harg6) K := by
  unfold body
  rw [cc0_out_proj_eq_skeleton]; unfold cc0_out_proj_skel
  unfold owns
  iintro ⟨⟨%f2, %e2, H2⟩, ⟨%f4, %e4, H4⟩, ⟨%f5, %e5, H5⟩, ⟨%dd, %fo, %eo, Ho⟩, ⟨%d6, %f6, %e6, H6⟩, Hf, Hr, HW, Hk⟩
  have hC := cast_zero stM wbM (landed c fw (col i) stM.view.junk) f6
  sl_exec
  have hR := cast_done c fw (col i) stM.view.junk _ trips_eq fL0 hL2
  sl_step
  iapply Hk
  isplitl [H2]
  · iexists f2; isplitr; swap; · iexact H2
    ipureintro; exact e2
  isplitl [H4]
  · iexists f4; isplitr; swap; · iexact H4
    ipureintro; exact e4
  isplitl [H5]
  · iexists f5; isplitr; swap; · iexact H5
    ipureintro; exact e5
  isplitl [Ho]
  · iexists _; isplitr; swap; · iexact Ho
    ipureintro
    rw [stored_read, e2, hR, e4, e5]
  isplitl [H6]
  · iexists _; isplitr; swap; · iexact H6
    ipureintro; exact hR
  isplitl [Hf_dst]; · iexists _; iexact Hf_dst
  isplitl [Hf]; · iexact Hf
  isplitl [Hf_src Hr]
  · iapply (joined c fw (col i))
    isplitl [Hf_src]; · iexact Hf_src
    iexact Hr
  iexists _; iexact HW

/-- The first point: it issues the first tile itself. -/
theorem run_first (h1 : k0_cond1 i = 1#1) (h2 : k0_cond2 i = 1#1) (h3 : k0_cond3 i = 1#1) (b : Vec F S512x4096 .bf16) (x : Vec F S512x1024 .f32) (g : Vec F S1x1x1x1024 .f32)
    (f : Buf (Elt F) (stM.view.loc (c : Thread nD τ))) (W : Waits sig Unit) (K : PUnit → sProp 𝕄) :
    iprop(owns (c : Thread nD τ) arg2 fullShare b ∗ owns (c : Thread nD τ) arg4 fullShare x ∗ owns (c : Thread nD τ) arg5 fullShare g ∗ (∃ d, owns (c : Thread nD τ) arg6 fullShare d)
        ∗ (∃ d, owns (c : Thread nD τ) wbM fullShare d)
        ∗ (stM.view.loc (c : Thread nD τ) ↦[stM.view.set]{fullShare} f) ∗ semVal ((c : Thread nD τ), SemLoc.dma cc0_scratch2.sem) 0 ∗ (wM.view.loc (c : Thread nD τ) ↦{fullShare} fw)
        ∗ owes (c : Thread nD τ) 0 W
        ∗ (iprop(owns (c : Thread nD τ) arg2 fullShare b ∗ owns (c : Thread nD τ) arg4 fullShare x ∗ owns (c : Thread nD τ) arg5 fullShare g
            ∗ owns (c : Thread nD τ) arg6 fullShare (k0_pay2 b (castTile ((tile (col i)).view.read (Elt F) fw)) x g)
            ∗ owns (c : Thread nD τ) wbM fullShare (castTile ((tile (col i)).view.read (Elt F) fw))
            ∗ (∃ f, flight c fw (nextCol i) f) ∗ (wM.view.loc (c : Thread nD τ) ↦[Finset.univ \ (tile (nextCol i)).view.set]{fullShare} fw)
            ∗ (∃ W', owes (c : Thread nD τ) 0 W')) -∗ K ⟨⟩))
      ⊢ wp frame (wpE (defs₀ (F := F)) Variants.none (c : Thread nD τ) none) Set.univ (body i arg2 harg2 arg4 harg4 arg5 harg5 arg6 harg6) K := by
  unfold body
  rw [cc0_out_proj_eq_skeleton]; unfold cc0_out_proj_skel
  unfold owns
  iintro ⟨⟨%f2, %e2, H2⟩, ⟨%f4, %e4, H4⟩, ⟨%f5, %e5, H5⟩, ⟨%dd, %fo, %eo, Ho⟩, ⟨%d6, %f6, %e6, H6⟩, Hs, Hq, Hw, HW, Hk⟩
  have hC := cast_zero stM wbM (landed c fw (col i) stM.view.junk) f6
  sl_exec
  have hR := cast_done c fw (col i) stM.view.junk _ trips_eq fL0 hL2
  sl_step
  iapply Hk
  isplitl [H2]
  · iexists f2; isplitr; swap; · iexact H2
    ipureintro; exact e2
  isplitl [H4]
  · iexists f4; isplitr; swap; · iexact H4
    ipureintro; exact e4
  isplitl [H5]
  · iexists f5; isplitr; swap; · iexact H5
    ipureintro; exact e5
  isplitl [Ho]
  · iexists _; isplitr; swap; · iexact Ho
    ipureintro
    rw [stored_read, e2, hR, e4, e5]
  isplitl [H6]
  · iexists _; isplitr; swap; · iexact H6
    ipureintro; exact hR
  isplitl [Hq]
  · iexists landed c fw (col i) stM.view.junk
    iapply (flight_over c fw (nextCol i) (col i))
    iexact Hq
  isplitl [Hw]; · iexact Hw
  iexists _; iexact HW

end Runs

end Cert.OutProjIdeal.Gen
-- ==== Proof.OutProjRegion.lean ====
/- The output projection's launch. Between points the core holds the rounded tile of the points just done and, unless the
   last tile has been started, the next tile in flight; at every point the body leaves the residual block plus the gated
   product of its input block and its column block's rounded tile, so the program ends with its output array filled block
   by block and its arguments as they were. -/
module

public import proofs.«01_k».proof.Proof.OutProjRun

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's tokens beside the counters of the kernel's own copies. -/
local notation "𝕄" => MT nD τ sig Unit (Elt F) ℕ (Pipeline.UD sig nD τ) ℕ

variable (m : (ℓ : Loc nD τ sig) → Buf (Elt F) ℓ) (ρ : Dev nD → PrngReg)

/-! ## What the core holds between points -/

/-- The weight as the region finds it, and its tile `j`, rounded. -/
abbrev wArr (c : Dev nD) : Buf (Elt F) (wM.view.loc (c : Thread nD τ)) := V m c main_arg1
abbrev rounded (c : Dev nD) (j : Fin 4) : Vec F S4096x1024 .bf16 := castTile ((tile j).view.read (Elt F) (wArr m c))

/-- No copy in flight: the staging buffer at some contents, the counter at zero, the weight whole. -/
def idle (c : Dev nD) : sProp 𝕄 :=
  iprop((∃ f, stM.view.loc (c : Thread nD τ) ↦[stM.view.set]{fullShare} f)
    ∗ semVal ((c : Thread nD τ), SemLoc.dma cc0_scratch2.sem) 0 ∗ (wM.view.loc (c : Thread nD τ) ↦{fullShare} wArr m c))

/-- Tile `j` in flight, the rest of the weight held. -/
def inFlight (c : Dev nD) (j : Fin 4) : sProp 𝕄 :=
  iprop((∃ f, flight c (wArr m c) j f) ∗ (wM.view.loc (c : Thread nD τ) ↦[Finset.univ \ (tile j).view.set]{fullShare} wArr m c))

/-- Before point `n` the next tile to start is `⌈n / 16⌉`: in flight once the first point has run, while there is one. -/
def carried (c : Dev nD) (n : ℕ) : sProp 𝕄 :=
  if 0 < n ∧ (n + 15) / 16 < 4 then inFlight m c (Fin.ofNat 4 ((n + 15) / 16)) else idle m c

/-- The rounded copy before point `n`: the tile of point `n - 1`. -/
def kept (c : Dev nD) (n : ℕ) : sProp 𝕄 :=
  if n = 0 then iprop(∃ d, owns (c : Thread nD τ) wbM fullShare d)
  else owns (c : Thread nD τ) wbM fullShare (rounded m c (Fin.ofNat 4 ((n - 1) / 16)))

/-- The invariant between points. -/
def between (c : Dev nD) (n : ℕ) : sProp 𝕄 := iprop(kept m c n ∗ carried m c n ∗ (∃ r, prngReg c r))

/-! ## The pipeline's proof data -/

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)

/-- What the pipeline on core `c` holds at each point: the input, residual and gate blocks, and the residual block plus
   the gated product of the input block and the point's tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (rounded m c (col (grid0.coords t))) (iblk m c 1 t) (iblk m c 2 t)
  Φ p := between m c p.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay2 (iblk m c 0 t) (rounded m c (col (grid0.coords t))) (iblk m c 1 t) (iblk m c 2 t) := by dsimp only [dats]

/-- The three input blocks are in their staging buffers at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

theorem coord0 : ∀ t : Fin cfg0.N, (grid0.coords t 0).val = t.val / 16 :=
  (by decide +kernel : ∀ t : Fin grid0.N, (grid0.coords t 0).val = t.val / 16)
theorem coord1 : ∀ t : Fin cfg0.N, (grid0.coords t 1).val = t.val % 16 :=
  (by decide +kernel : ∀ t : Fin grid0.N, (grid0.coords t 1).val = t.val % 16)
theorem col_eq (t : Fin cfg0.N) (n : ℕ) (h : n = t.val / 16) : Fin.ofNat 4 n = col (grid0.coords t) :=
  Fin.ext (by
    have h0 : (grid0.coords t 0).val < 4 := (grid0.coords t 0).isLt
    have h1 := coord0 t
    show n % 4 = (grid0.coords t 0).val
    omega)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- After any point the rounded copy is that point's tile. -/
theorem kept_succ (c : Dev nD) (t : Fin cfg0.N) :
    kept m c (t.val + 1) = owns (c : Thread nD τ) wbM fullShare (rounded m c (col (grid0.coords t))) := by
  unfold kept
  rw [if_neg (Nat.succ_ne_zero _), col_eq t _ (by rw [Nat.add_sub_cancel])]
/-- Before a point within a column block it is already. -/
theorem kept_within (c : Dev nD) (t : Fin cfg0.N) (h : t.val % 16 ≠ 0) :
    kept m c t.val = owns (c : Thread nD τ) wbM fullShare (rounded m c (col (grid0.coords t))) := by
  unfold kept
  rw [if_neg (by omega), col_eq t _ (by omega)]
/-- Whatever it is, it is held. -/
theorem kept_some (c : Dev nD) (n : ℕ) : kept m c n ⊢ (iprop(∃ d, owns (c : Thread nD τ) wbM fullShare d) : sProp 𝕄) := by
  unfold kept
  split
  · exact .rfl
  · iintro H; iexists _; iexact H
/-- Within a column block nothing is issued or awaited. -/
theorem carried_within (c : Dev nD) (t : Fin cfg0.N) (h : t.val % 16 ≠ 0) : carried m c (t.val + 1) = carried m c t.val := by
  unfold carried
  have e : (t.val + 1 + 15) / 16 = (t.val + 15) / 16 := by omega
  rw [e]
  congr 1
  exact propext ⟨fun h' => ⟨by omega, h'.2⟩, fun h' => ⟨by omega, h'.2⟩⟩
/-- Before a point that starts a tile, that tile is in flight; -/
theorem carried_start (c : Dev nD) (t : Fin cfg0.N) (h : t.val % 16 = 0) (h0 : t.val ≠ 0) :
    carried m c t.val = inFlight m c (col (grid0.coords t)) := by
  have ht : t.val < 64 := t.isLt
  unfold carried
  rw [if_pos ⟨by omega, by omega⟩, col_eq t _ (by omega)]
/-- after it the next one, -/
theorem carried_next (c : Dev nD) (t : Fin cfg0.N) (h : t.val % 16 = 0) (h3 : t.val / 16 + 1 < 4) :
    carried m c (t.val + 1) = inFlight m c (nextCol (grid0.coords t)) := by
  unfold carried
  rw [if_pos ⟨by omega, by omega⟩, nextCol, coord0, show (t.val + 1 + 15) / 16 = t.val / 16 + 1 by omega]
/-- if there is one. -/
theorem carried_last (c : Dev nD) (n : ℕ) (h3 : ¬ (n + 15) / 16 < 4) : carried m c n = idle m c := by
  unfold carried
  rw [if_neg fun h' => h3 h'.2]
theorem carried_zero (c : Dev nD) : carried m c 0 = idle m c := by
  unfold carried
  rw [if_neg fun h' => absurd h'.1 (Nat.lt_irrefl 0)]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = between m c (t.val + 1) from rfl, show (dats m 0 c).Φ t.castSucc = between m c t.val from rfl,
    after0_0, after0_1, after0_2, after0_3]
  unfold Dat.owesAt Pipeline.owesWithin
  rw [show (dats m 0 c).owed t.castSucc = 0 from rfl, show (dats m 0 c).owed t.succ = 0 from rfl]
  unfold between
  rw [kept_succ]
  have q0 := coord0 t
  have q1 := coord1 t
  have c1 := cond1_iff (grid0.coords t)
  have c2 := cond2_iff (grid0.coords t)
  have c3 := cond3_iff (grid0.coords t)
  have ht : t.val < 64 := t.isLt
  by_cases h : t.val % 16 = 0
  · have h2 : k0_cond2 (grid0.coords t) = 1#1 := c2.mpr (by omega)
    by_cases h0 : t.val = 0
    · have h1 : k0_cond1 (grid0.coords t) = 1#1 := c1.mpr ⟨by omega, by omega⟩
      have h3 : k0_cond3 (grid0.coords t) = 1#1 := c3.mpr (by omega)
      rw [carried_next m c t h (by omega), show carried m c t.val = idle m c by rw [h0]; exact carried_zero m c]
      unfold idle inFlight
      iintro ⟨⟨Hb, ⟨⟨%f, H5⟩, Hq, Hw⟩, Hg⟩, ⟨%W, -, HW⟩, ⟨%d0, H0⟩, ⟨%d1, H1⟩, ⟨%d2, H2⟩, ⟨%d3, H3⟩⟩
      ihave Hb := (kept_some m c t.val) $$ Hb
      iapply (run_first c (grid0.coords t) (wArr m c) (ms0_0 t) (hs0_0 t) (ms0_1 t) (hs0_1 t) (ms0_2 t) (hs0_2 t) (ms0_3 t) (hs0_3 t) h1 h2 h3 (iblk m c 0 t) (iblk m c 1 t) (iblk m c 2 t) f W _)
      isplitl [H0]; · iexact H0
      isplitl [H1]; · iexact H1
      isplitl [H2]; · iexact H2
      isplitl [H3]; · iexists _; iexact H3
      isplitl [Hb]; · iexact Hb
      isplitl [H5]; · iexact H5
      isplitl [Hq]; · iexact Hq
      isplitl [Hw]; · iexact Hw
      isplitl [HW]; · iexact HW
      iintro ⟨H0, H1, H2, H3, Hb, Hf, Hr, ⟨%W', HW⟩⟩
      isplitl [Hb Hf Hr Hg]
      · isplitl [Hb]; · iexact Hb
        isplitl [Hf Hr]
        · isplitl [Hf]; · iexact Hf
          iexact Hr
        iexact Hg
      isplitl [HW]
      · iexists W'; isplitr; · ipureintro; exact fun _ _ => Or.inl trivial
        iexact HW
      isplitl [H0]; · iexact H0
      isplitl [H1]; · iexact H1
      isplitl [H2]; · iexact H2
      iexact H3
    · have h1 : ¬ k0_cond1 (grid0.coords t) = 1#1 := fun e => h0 (by have := c1.mp e; omega)
      rw [carried_start m c t h h0]
      by_cases hl : t.val / 16 + 1 < 4
      · have h3 : k0_cond3 (grid0.coords t) = 1#1 := c3.mpr (by omega)
        rw [carried_next m c t h hl]
        unfold inFlight
        iintro ⟨⟨Hb, ⟨⟨%f, Hf⟩, Hr⟩, Hg⟩, ⟨%W, -, HW⟩, ⟨%d0, H0⟩, ⟨%d1, H1⟩, ⟨%d2, H2⟩, ⟨%d3, H3⟩⟩
        ihave Hb := (kept_some m c t.val) $$ Hb
        iapply (run_next c (grid0.coords t) (wArr m c) (ms0_0 t) (hs0_0 t) (ms0_1 t) (hs0_1 t) (ms0_2 t) (hs0_2 t) (ms0_3 t) (hs0_3 t) h1 h2 h3 (iblk m c 0 t) (iblk m c 1 t) (iblk m c 2 t) f W _)
        isplitl [H0]; · iexact H0
        isplitl [H1]; · iexact H1
        isplitl [H2]; · iexact H2
        isplitl [H3]; · iexists _; iexact H3
        isplitl [Hb]; · iexact Hb
        isplitl [Hf]; · iexact Hf
        isplitl [Hr]; · iexact Hr
        isplitl [HW]; · iexact HW
        iintro ⟨H0, H1, H2, H3, Hb, Hf, Hr, ⟨%W', HW⟩⟩
        isplitl [Hb Hf Hr Hg]
        · isplitl [Hb]; · iexact Hb
          isplitl [Hf Hr]
          · isplitl [Hf]; · iexact Hf
            iexact Hr
          iexact Hg
        isplitl [HW]
        · iexists W'; isplitr; · ipureintro; exact fun _ _ => Or.inl trivial
          iexact HW
        isplitl [H0]; · iexact H0
        isplitl [H1]; · iexact H1
        isplitl [H2]; · iexact H2
        iexact H3
      · have h3 : ¬ k0_cond3 (grid0.coords t) = 1#1 := fun e => hl (by have := c3.mp e; omega)
        rw [carried_last m c (t.val + 1) (by omega)]
        unfold inFlight idle
        iintro ⟨⟨Hb, ⟨⟨%f, Hf⟩, Hr⟩, Hg⟩, ⟨%W, -, HW⟩, ⟨%d0, H0⟩, ⟨%d1, H1⟩, ⟨%d2, H2⟩, ⟨%d3, H3⟩⟩
        ihave Hb := (kept_some m c t.val) $$ Hb
        iapply (run_last c (grid0.coords t) (wArr m c) (ms0_0 t) (hs0_0 t) (ms0_1 t) (hs0_1 t) (ms0_2 t) (hs0_2 t) (ms0_3 t) (hs0_3 t) h1 h2 h3 (iblk m c 0 t) (iblk m c 1 t) (iblk m c 2 t) f W _)
        isplitl [H0]; · iexact H0
        isplitl [H1]; · iexact H1
        isplitl [H2]; · iexact H2
        isplitl [H3]; · iexists _; iexact H3
        isplitl [Hb]; · iexact Hb
        isplitl [Hf]; · iexact Hf
        isplitl [Hr]; · iexact Hr
        isplitl [HW]; · iexact HW
        iintro ⟨H0, H1, H2, H3, Hb, H5, Hq, Hw, ⟨%W', HW⟩⟩
        isplitl [Hb H5 Hq Hw Hg]
        · isplitl [Hb]; · iexact Hb
          isplitl [H5 Hq Hw]
          · isplitl [H5]; · iexact H5
            isplitl [Hq]; · iexact Hq
            iexact Hw
          iexact Hg
        isplitl [HW]
        · iexists W'; isplitr; · ipureintro; exact fun _ _ => Or.inl trivial
          iexact HW
        isplitl [H0]; · iexact H0
        isplitl [H1]; · iexact H1
        isplitl [H2]; · iexact H2
        iexact H3
  · have h1 : ¬ k0_cond1 (grid0.coords t) = 1#1 := fun e => h (by have := c1.mp e; omega)
    have h2 : ¬ k0_cond2 (grid0.coords t) = 1#1 := fun e => h (by have := c2.mp e; omega)
    rw [carried_within m c t h, kept_within m c t h]
    iintro ⟨⟨Hb, Hc, Hg⟩, ⟨%W, -, HW⟩, ⟨%d0, H0⟩, ⟨%d1, H1⟩, ⟨%d2, H2⟩, ⟨%d3, H3⟩⟩
    iapply (run_go c (grid0.coords t) (ms0_0 t) (hs0_0 t) (ms0_1 t) (hs0_1 t) (ms0_2 t) (hs0_2 t) (ms0_3 t) (hs0_3 t) h1 h2 (iblk m c 0 t) (iblk m c 1 t) (iblk m c 2 t) (rounded m c (col (grid0.coords t))) _)
    isplitl [H0]; · iexact H0
    isplitl [H1]; · iexact H1
    isplitl [H2]; · iexact H2
    isplitl [H3]; · iexists _; iexact H3
    isplitl [Hb]; · iexact Hb
    iintro ⟨H0, H1, H2, H3, Hb⟩
    isplitl [Hb Hc Hg]
    · isplitl [Hb]; · iexact Hb
      isplitl [Hc]; · iexact Hc
      iexact Hg
    isplitl [HW]
    · iexists W; isplitr; · ipureintro; exact fun _ _ => Or.inl trivial
      iexact HW
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The kernel's one counter of its own, and the array its copies read. -/
abbrev osem0 : Fin 1 → SemLoc sig := fun j => (![SemLoc.dma 8] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 8) 0 := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (wM.view.loc (c : Thread nD τ) ↦{fullShare} wArr m c) := by
  rw [BI.bigSep_eq_bigSepL_of_eq [main_arg1] (by decide) (by decide)]; rfl

/-- What the launch hands the first point, and takes back from the last. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ d, owns (c : Thread nD τ) wbM fullShare d))
          ∗ (∃ r, prngReg c r) ∗ semVal ((c : Thread nD τ), SemLoc.dma 8) 0 ∗ (wM.view.loc (c : Thread nD τ) ↦{fullShare} wArr m c)) := by
  rw [Pipeline.ΦD_eq, scopedRest0_eq, ownSems00_eq, hbmPts0_eq]
  simp only [wbM, owns_whole]; try rfl

theorem stage_set : (stM.view.set : Finset _) = Finset.univ := View.set_whole _

theorem enter (c : Dev nD) : Pipeline.ΦD osem0 spec0 H0 (V m) c ⊢ (between m c 0 : sProp 𝕄) := by
  rw [PhiD0_eq]
  unfold between
  rw [carried_zero]
  unfold kept idle
  rw [if_pos rfl, stage_set]
  iintro ⟨⟨H5, Hb⟩, Hg, Hq, Hw⟩
  isplitl [Hb]; · iexact Hb
  isplitl [H5 Hq Hw]
  · isplitl [H5]; · iexact H5
    isplitl [Hq]; · iexact Hq
    iexact Hw
  iexact Hg

theorem leave (c : Dev nD) : between m c 64 ⊢ (Pipeline.ΦD osem0 spec0 H0 (V m) c : sProp 𝕄) := by
  rw [PhiD0_eq]
  unfold between
  rw [carried_last m c 64 (by decide)]
  unfold idle
  rw [stage_set]
  iintro ⟨Hb, ⟨H5, Hq, Hw⟩, Hg⟩
  ihave Hb := (kept_some m c 64) $$ Hb
  isplitl [H5 Hb]
  · isplitl [H5]; · iexact H5
    iexact Hb
  isplitl [Hg]; · iexact Hg
  isplitl [Hq]; · iexact Hq
  iexact Hw

set_option maxHeartbeats 800000 in
/-- @main around the region, at this proof's algebra. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host line after the region touches no operand of the kernel's own copies. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  obtain rfl := List.mem_singleton.mp hops
  refine Pipeline.sub_tailRefsBut _ _ H0 op ((List.forall_iff_forall_mem.mp hostOps1_sub) op hop) (fun k => k.elim0) fun b hb => ?_
  obtain rfl := Finset.mem_singleton.mp hb
  obtain rfl := List.mem_singleton.mp hop
  rw [StableHlo.reshape_bufs, Finset.mem_insert, Finset.mem_singleton, not_or]
  exact ⟨StableHlo.devRef_ne_of_ne (by decide), StableHlo.devRef_ne_of_ne (by decide)⟩

set_option backward.isDefEq.respectTransparency.types false in
set_option maxHeartbeats 800000 in
/-- The launch: every run ends with the arrays the pipeline leaves and every semaphore counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := enter m) (hout := leave m)

/-! ## The arguments at the end -/

theorem W_arg0 (c : Dev nD) :
    Pipeline.afterTail₀ cfgs (dats m) 0 (V0 m) [hostOps1] c main_arg0 = m ((c.tc : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (c : Dev nD) :
    Pipeline.afterTail₀ cfgs (dats m) 0 (V0 m) [hostOps1] c main_arg1 = m ((c.tc : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_arg2 (c : Dev nD) :
    Pipeline.afterTail₀ cfgs (dats m) 0 (V0 m) [hostOps1] c main_arg2 = m ((c.tc : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_arg3 (c : Dev nD) :
    Pipeline.afterTail₀ cfgs (dats m) 0 (V0 m) [hostOps1] c main_arg3 = m ((c.tc : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The frame: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun _ h => ⟨fun c => ⟨?_, ?_, ?_, ?_⟩, h.2⟩) (run_main m ρ)
  · exact ((h.1 c).2 main_arg0 (Pipeline.mem_restRefs_of main_arg0 (by decide) (by decide))).trans (W_arg0 m c)
  · exact ((h.1 c).2 main_arg1 (Pipeline.mem_restRefs_of main_arg1 (by decide) (by decide))).trans (W_arg1 m c)
  · exact ((h.1 c).2 main_arg2 (Pipeline.mem_restRefs_of main_arg2 (by decide) (by decide))).trans (W_arg2 m c)
  · exact ((h.1 c).2 main_arg3 (Pipeline.mem_restRefs_of main_arg3 (by decide) (by decide))).trans (W_arg3 m c)

end Cert.OutProjIdeal.Gen
-- ==== Proof.OutProjValue.lean ====
/- The output projection's value: every element of the kernel's output array is its residual plus the gate times the
   token's row times its weight column, which is what the reference computes. -/
module

public import proofs.«01_k».proof.Proof.OutProjRegion
public import proofs.«01_k».proof.Proof.Gen.OutProjReferenceIdeal.Read
public import Idealize.ShloMosaic.Lib.Pipeline.ValueKit
public import Idealize.ShloMosaic.Lib.StableHlo.RunRead
public import Idealize.ShloMosaic.Lib.Pointwise
public import Idealize.ShloMosaic.Lib.Claim

@[expose] public section

set_option maxRecDepth 100000

noncomputable section

namespace Cert.OutProjection

open Cert.OutProjIdeal Cert.OutProjIdeal.Gen Idealize.ShloMosaic Idealize.ShloMosaic.TcCoe Idealize.SL.Sem Idealize.ShloMosaic.StableHlo
open Idealize.ShloMosaic.Pipeline (Dat Cfg Window)

/-! ## The mathematics -/

/-- The residual `x` plus the gate, the last third of the modulation `g`, times the row of `y` times the column of the
    first layer's weight `w`, at a token and a column. -/
def project (y : S2x4096x4096.Idx → EReal) (w : S4x4096x4096.Idx → EReal) (x : S2x4096x4096.Idx → EReal) (g : S2x12288.Idx → EReal)
    (b : Fin 2) (t n : Fin 4096) : EReal :=
  x (ix3 b t n) + g (ix2 b (⟨8192 + n.val, by omega⟩ : Fin 12288)) * ∑ k : Fin 4096, y (ix3 b t k) * w (ix3 0 k n)

/-- The result, and the same with its two batches joined. -/
def result (y : S2x4096x4096.Idx → EReal) (w : S4x4096x4096.Idx → EReal) (x : S2x4096x4096.Idx → EReal) (g : S2x12288.Idx → EReal) :
    S2x4096x4096.Idx → EReal :=
  fun i => project y w x g (i 0) (i 1) (i 2)
def joinedResult (y : S2x4096x4096.Idx → EReal) (w : S4x4096x4096.Idx → EReal) (x : S2x4096x4096.Idx → EReal) (g : S2x12288.Idx → EReal) :
    S8192x4096.Idx → EReal := fun i =>
  project y w x g ⟨(i 0).val / 4096, by have h : (i 0).val < 8192 := (i 0).isLt; omega⟩ ⟨(i 0).val % 4096, by omega⟩ (i 1)

/-! ## The reference -/

theorem reference_eq (y : S2x4096x4096.Idx → EReal) (w : S4x4096x4096.Idx → EReal) (x : S2x4096x4096.Idx → EReal) (g : S2x12288.Idx → EReal) :
    Cert.OutProjReferenceIdeal.Read.val_main_v10 (F := Ideal) y w x g = result y w x g := by
  funext i
  have hn : (i 2).val < 4096 := (i 2).isLt
  rw [Cert.OutProjReferenceIdeal.Read.val_main_v10_apply, Cert.OutProjReferenceIdeal.Read.val_main_v9_apply,
    Cert.OutProjReferenceIdeal.Read.val_main_v8_apply, Cert.OutProjReferenceIdeal.Read.val_main_v7_apply,
    Cert.OutProjReferenceIdeal.Read.val_main_v2_apply, Cert.OutProjReferenceIdeal.Read.val_main_v6_apply]
  unfold result project
  refine congrArg₂ (· + ·) (congrArg x (funext fun a => ?_)) (congrArg₂ (· * ·) (congrArg g (funext fun a => ?_))
    (Finset.sum_congr rfl fun k _ => congrArg₂ (· * ·) (congrArg y (funext fun a => ?_)) ?_))
  · match a with
    | ⟨0, _⟩ => rfl
    | ⟨1, _⟩ => rfl
    | ⟨2, _⟩ => rfl
  · match a with
    | ⟨0, _⟩ => rfl
    | ⟨1, _⟩ => rfl
  · match a with
    | ⟨0, _⟩ => rfl
    | ⟨1, _⟩ => rfl
    | ⟨2, _⟩ => rfl
  · have hk := k.isLt
    unfold Cert.OutProjReferenceIdeal.Read.val_main_v5 Cert.OutProjReferenceIdeal.Read.val_main_v4
    rw [shapeCast_apply _ _ _ (ix3 (0 : Fin 1) k (⟨(i 2).val, hn⟩ : Fin 4096)) (by
      rw [Shape.rowMajor_val_three, Shape.rowMajor_val_two]
      show (0 * 4096 + k.val) * 4096 + (i 2).val = k.val * 4096 + (i 2).val
      omega)]
    refine congrArg w (funext fun a => Fin.ext ?_)
    match a with
    | ⟨0, _⟩ => rfl
    | ⟨1, _⟩ => show 0 + k.val = k.val; omega
    | ⟨2, _⟩ => show 0 + (i 2).val = (i 2).val; omega

/-! ## The kernel's block -/

/-- A point's payload at a row and a column. -/
theorem product_apply (y : S512x4096.Idx → EReal) (w : S4096x1024.Idx → EReal) (x : S512x1024.Idx → EReal) (g : S1x1x1x1024.Idx → EReal)
    (r : Fin 512) (q : Fin 1024) :
    k0_pay2 (F := Ideal) y w x g (ix2 r q) = x (ix2 r q) + g (ix4 0 0 0 q) * ∑ k : Fin 4096, y (ix2 r k) * w (ix2 k q) := by
  unfold k0_pay2
  pointwise

variable (m : (ℓ : Loc nD τ sig) → Buf (Elt Ideal) ℓ) (c : Dev nD)

/-- The four arguments. -/
abbrev input : S2x4096x4096.Idx → EReal := m ((c.tc : Thread nD τ).loc main_arg0)
abbrev weight : S4x4096x4096.Idx → EReal := m ((c.tc : Thread nD τ).loc main_arg1)
abbrev residual : S2x4096x4096.Idx → EReal := m ((c.tc : Thread nD τ).loc main_arg2)
abbrev modulation : S2x12288.Idx → EReal := m ((c.tc : Thread nD τ).loc main_arg3)

theorem V_input : V m c main_v0 = shapeCast S8192x4096 (input m c) shapeCasts_S2x4096x4096_S8192x4096 := by
  unfold_abbrev_sides
  simp only [hostOps0, List.flatten_cons, List.flatten_nil, List.append_nil, List.cons_append, List.nil_append]
  after_reads_simp
  rfl
theorem V_residual : V m c main_v1 = shapeCast S8192x4096 (residual m c) shapeCasts_S2x4096x4096_S8192x4096 := by
  unfold_abbrev_sides
  simp only [hostOps0, List.flatten_cons, List.flatten_nil, List.append_nil, List.cons_append, List.nil_append]
  after_reads_simp
  rfl
theorem V_modulation : V m c main_v2 = shapeCast S2x3x1x4096 (modulation m c) shapeCasts_S2x12288_S2x3x1x4096 := by
  unfold_abbrev_sides
  simp only [hostOps0, List.flatten_cons, List.flatten_nil, List.append_nil, List.cons_append, List.nil_append]
  after_reads_simp
  rfl

theorem index_maps : ∀ t : Fin cfg0.N, win0_0.index t = ![t.val % 16, 0] ∧ win0_1.index t = ![t.val % 16, t.val / 16]
    ∧ win0_2.index t = ![t.val % 16 / 8, 2, 0, t.val / 16] ∧ win0_3.index t = ![t.val % 16, t.val / 16] := by
  decide +kernel

theorem points (t : Fin cfg0.N) : t.val < 64 := t.isLt

/-- The input block of a point, -/
theorem block_input (t : Fin cfg0.N) (r : Fin 512) (k : Fin 4096) :
    iblk m c 0 t (ix2 r k) = input m c (ix3 (⟨t.val % 16 / 8, by omega⟩ : Fin 2) (⟨512 * (t.val % 8) + r.val, by omega⟩ : Fin 4096) k) := by
  have hr := r.isLt; have hk := k.isLt
  refine Eq.trans ?_ (shapeCast_apply (input m c) shapeCasts_S2x4096x4096_S8192x4096
    (ix2 (⟨512 * (t.val % 16) + r.val, by omega⟩ : Fin 8192) k) _ (by
      rw [Shape.rowMajor_val_three, Shape.rowMajor_val_two]
      show (t.val % 16 / 8 * 4096 + (512 * (t.val % 8) + r.val)) * 4096 + k.val = (512 * (t.val % 16) + r.val) * 4096 + k.val
      omega))
  rw [← V_input]
  blk_ext [iblk, (index_maps t).1]
/-- its residual block, -/
theorem block_residual (t : Fin cfg0.N) (r : Fin 512) (q : Fin 1024) :
    iblk m c 1 t (ix2 r q) = residual m c (ix3 (⟨t.val % 16 / 8, by omega⟩ : Fin 2) (⟨512 * (t.val % 8) + r.val, by omega⟩ : Fin 4096)
      (⟨1024 * (t.val / 16) + q.val, by have := points t; omega⟩ : Fin 4096)) := by
  have hr := r.isLt; have hq := q.isLt; have ht := points t
  refine Eq.trans ?_ (shapeCast_apply (residual m c) shapeCasts_S2x4096x4096_S8192x4096
    (ix2 (⟨512 * (t.val % 16) + r.val, by omega⟩ : Fin 8192) (⟨1024 * (t.val / 16) + q.val, by omega⟩ : Fin 4096)) _ (by
      rw [Shape.rowMajor_val_three, Shape.rowMajor_val_two]
      show (t.val % 16 / 8 * 4096 + (512 * (t.val % 8) + r.val)) * 4096 + (1024 * (t.val / 16) + q.val)
        = (512 * (t.val % 16) + r.val) * 4096 + (1024 * (t.val / 16) + q.val)
      omega))
  rw [← V_residual]
  blk_ext [iblk, (index_maps t).2.1]
/-- and its gate block: columns of the modulation's last third. -/
theorem block_gate (t : Fin cfg0.N) (q : Fin 1024) :
    iblk m c 2 t (ix4 (0 : Fin 1) (0 : Fin 1) (0 : Fin 1) q) = modulation m c (ix2 (⟨t.val % 16 / 8, by omega⟩ : Fin 2)
      (⟨8192 + (1024 * (t.val / 16) + q.val), by have := points t; omega⟩ : Fin 12288)) := by
  have hq := q.isLt; have ht := points t
  refine Eq.trans ?_ (shapeCast_apply (modulation m c) shapeCasts_S2x12288_S2x3x1x4096
    (ix4 (⟨t.val % 16 / 8, by omega⟩ : Fin 2) (2 : Fin 3) (0 : Fin 1) (⟨1024 * (t.val / 16) + q.val, by omega⟩ : Fin 4096)) _ (by
      rw [Shape.rowMajor_val_four, Shape.rowMajor_val_two]
      show t.val % 16 / 8 * 12288 + (8192 + (1024 * (t.val / 16) + q.val))
        = ((t.val % 16 / 8 * 3 + 2) * 1 + 0) * 4096 + (1024 * (t.val / 16) + q.val)
      omega))
  rw [← V_modulation]
  blk_ext [iblk, (index_maps t).2.2.1]

/-- A column tile of the weight. -/
theorem tile_weight (j : Fin 4) (k : Fin 4096) (q : Fin 1024) :
    castTile ((tile j).view.read (Elt Ideal) (wArr m c)) (ix2 k q) = weight m c (ix3 (0 : Fin 4) k (⟨1024 * j.val + q.val, by omega⟩ : Fin 4096)) := by
  refine Eq.trans ?_ (congrFun (V_main_arg1 m c) _)
  have e : Shape.reshapeEquiv squeezes_S1x4096x1024_S4096x1024.numel_eq (ix2 k q) = ix3 (0 : Fin 1) k q :=
    Shape.reshapeEquiv_eq_of_rowMajor _ (by
      rw [Shape.rowMajor_val_three, Shape.rowMajor_val_two]
      show (0 * 4096 + k.val) * 1024 + q.val = k.val * 1024 + q.val
      omega)
  refine congrArg (wArr m c) (funext fun a => Fin.ext ?_)
  refine (congrArg (fun y => ((Rect.unit (s := S4x4096x4096) (tileOff j) S1x4096x1024.size (tileOff_inb j)).emb y a).val) e).trans ?_
  match a with
  | ⟨0, _⟩ => rfl
  | ⟨1, _⟩ => show 0 + 1 * k.val = k.val; omega
  | ⟨2, _⟩ => show 1024 * j.val + 1 * q.val = 1024 * j.val + q.val; omega

/-! ## The array -/

theorem array_eq : (dats m 0 c).arrAt 3 cfg0.N = joinedResult (input m c) (weight m c) (residual m c) (modulation m c) := by
  refine (dats m 0 c).arrAt_eq_of_covers 3 _ (by decide +kernel) fun t hf y => ?_
  blk_simp
  rw [after0_3]
  have hy0 : (y 0).val < 512 := (y 0).isLt
  have hy1 : (y 1).val < 1024 := (y 1).isLt
  have ht := points t
  have h0 : (((win0_3.blk t).view.emb y) 0).val = t.val % 16 * 512 + (y 0).val := by blk_simp [(index_maps t).2.2.2]
  have h1 : (((win0_3.blk t).view.emb y) 1).val = t.val / 16 * 1024 + (y 1).val := by blk_simp [(index_maps t).2.2.2]
  refine Eq.trans (congrArg _ (?_ : y = ix2 (⟨(y 0).val, hy0⟩ : Fin 512) (⟨(y 1).val, hy1⟩ : Fin 1024))) ((product_apply _ _ _ _ _ _).trans ?_)
  · funext a
    match a with
    | ⟨0, _⟩ => rfl
    | ⟨1, _⟩ => rfl
  unfold joinedResult project
  refine congrArg₂ (· + ·) ((block_residual m c t _ _).trans ?_) (congrArg₂ (· * ·) ((block_gate m c t _).trans ?_)
    (Finset.sum_congr rfl fun k _ => congrArg₂ (· * ·) ((block_input m c t _ k).trans ?_) ((tile_weight m c _ k _).trans ?_)))
  · refine congrArg (residual m c) (funext fun a => Fin.ext ?_)
    match a with
    | ⟨0, _⟩ => show t.val % 16 / 8 = (((win0_3.blk t).view.emb y) 0).val / 4096; omega
    | ⟨1, _⟩ => show 512 * (t.val % 8) + (y 0).val = (((win0_3.blk t).view.emb y) 0).val % 4096; omega
    | ⟨2, _⟩ => show 1024 * (t.val / 16) + (y 1).val = (((win0_3.blk t).view.emb y) 1).val; omega
  · refine congrArg (modulation m c) (funext fun a => Fin.ext ?_)
    match a with
    | ⟨0, _⟩ => show t.val % 16 / 8 = (((win0_3.blk t).view.emb y) 0).val / 4096; omega
    | ⟨1, _⟩ => show 8192 + (1024 * (t.val / 16) + (y 1).val) = 8192 + (((win0_3.blk t).view.emb y) 1).val; omega
  · refine congrArg (input m c) (funext fun a => Fin.ext ?_)
    match a with
    | ⟨0, _⟩ => show t.val % 16 / 8 = (((win0_3.blk t).view.emb y) 0).val / 4096; omega
    | ⟨1, _⟩ => show 512 * (t.val % 8) + (y 0).val = (((win0_3.blk t).view.emb y) 0).val % 4096; omega
    | ⟨2, _⟩ => rfl
  · refine congrArg (weight m c) (funext fun a => Fin.ext ?_)
    match a with
    | ⟨0, _⟩ => rfl
    | ⟨1, _⟩ => rfl
    | ⟨2, _⟩ =>
      have := coord0 t
      show 1024 * (grid0.coords t 0).val + (y 1).val = (((win0_3.blk t).view.emb y) 1).val; omega

/-! ## The result -/

theorem split_joined (y : S2x4096x4096.Idx → EReal) (w : S4x4096x4096.Idx → EReal) (x : S2x4096x4096.Idx → EReal) (g : S2x12288.Idx → EReal) :
    shapeCast S2x4096x4096 (joinedResult y w x g) shapeCasts_S8192x4096_S2x4096x4096 = result y w x g := by
  funext i
  have h0 : (i 0).val < 2 := (i 0).isLt
  have h1 : (i 1).val < 4096 := (i 1).isLt
  have h2 : (i 2).val < 4096 := (i 2).isLt
  rw [shapeCast_apply _ _ _ (ix2 (⟨4096 * (i 0).val + (i 1).val, by omega⟩ : Fin 8192) (⟨(i 2).val, h2⟩ : Fin 4096)) (by
    rw [Shape.rowMajor_val_three, Shape.rowMajor_val_two]
    show (4096 * (i 0).val + (i 1).val) * 4096 + (i 2).val = ((i 0).val * 4096 + (i 1).val) * 4096 + (i 2).val
    omega)]
  show project y w x g _ _ _ = project y w x g _ _ _
  have e0 : (⟨(4096 * (i 0).val + (i 1).val) / 4096, by omega⟩ : Fin 2) = i 0 := Fin.ext (by show _ / 4096 = _; omega)
  have e1 : (⟨(4096 * (i 0).val + (i 1).val) % 4096, by omega⟩ : Fin 4096) = i 1 := Fin.ext (by show _ % 4096 = _; omega)
  exact congrArg₂ (fun b t => project y w x g b t (i 2)) e0 e1

/-- What the program leaves in its result. -/
theorem W_result : Pipeline.afterTail₀ cfgs (dats m) 0 (V0 m) [hostOps1] c main_v4
    = result (input m c) (weight m c) (residual m c) (modulation m c) := by
  have harr : Pipeline.withArrays spec0 c (V0 m c) (fun k => (dats m 0 c).arrAt k cfg0.N) (Proc.devRef .tc main_v3)
      = joinedResult (input m c) (weight m c) (residual m c) (modulation m c) :=
    (Pipeline.withArrays_arr_shared spec0 c (V0 m c) (fun k => (dats m 0 c).arrAt k cfg0.N)
      (fun k k' hne e => ((dats m 0 c).arrAt_in k ((by decide : ∀ k k' : Fin 4, k ≠ k' → Pipeline.arrRef spec0 k = Pipeline.arrRef spec0 k' → (cfg0.win k).isOut = false) k k' hne e) _).trans (A_eq m c k)) 3).trans
      (array_eq m c)
  rw [← split_joined, ← harr]
  unfold Pipeline.afterTail₀
  simp only [hostOps1, List.flatten_cons, List.flatten_nil, List.append_nil]
  after_reads_simp
  rfl

end Cert.OutProjection
-- ==== Proof.OutProjKernel.lean ====
/- The output projection and its idealized form are one text: the same body table and the same `@main`, so the run proved
   over any float values is also the kernel's. -/
module

public import proofs.«01_k».proof.Proof.OutProjRegion
public import proofs.«01_k».proof.Proof.Gen.OutProj

@[expose] public section

set_option maxRecDepth 65536

noncomputable section

namespace Cert.OutProj.Gen

open Idealize.ShloMosaic Idealize.SL.Sem

attribute [local instance] Cert.OutProj.Gen.facts Cert.OutProjIdeal.Gen.facts

variable {F : FTy → Type} [FloatOps F]

theorem defs₀_same : Cert.OutProj.defs₀ (F := F) = Cert.OutProjIdeal.defs₀ := by
  unfold Cert.OutProj.defs₀ Cert.OutProjIdeal.defs₀
  refine congrArg _ (funext fun l => funext fun a => ?_)
  match l, a with
  | ⟨0, _⟩, (t, s) => rfl
  | ⟨_ + 1, h⟩, _ => exact absurd h (Nat.not_lt.2 (Nat.le_add_left _ _))

theorem defs_same : Cert.OutProj.defs (F := F) = Cert.OutProjIdeal.defs := by
  unfold Cert.OutProj.defs Cert.OutProjIdeal.defs
  exact congrArg (Pipeline.defs Cert.OutProj.pcfgs) defs₀_same

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same]
  exact Cert.OutProjIdeal.Gen.frame m ρ

end Cert.OutProj.Gen
-- ==== Proof.NormModValue.lean ====
/- The modulated RMS norm's value: every element of the kernel's output array is its token's row, normalized, scaled by
   the norm's weight and by one plus the modulation's scale, and shifted, which is what the reference computes. -/
module

public import proofs.«01_k».proof.Proof.Gen.NormModIdeal.Frame
public import proofs.«01_k».proof.Proof.Gen.NormModReferenceIdeal.Read
public import Idealize.ShloMosaic.Lib.Pipeline.ValueKit
public import Idealize.ShloMosaic.Lib.StableHlo.RunRead
public import Idealize.ShloMosaic.Lib.Pointwise
public import Idealize.ShloMosaic.Lib.WholeRead
public import Idealize.ShloMosaic.Lib.VecWindow
public import Idealize.ShloMosaic.Lib.Claim

@[expose] public section

set_option maxRecDepth 100000

noncomputable section

namespace Cert.NormModulate

open Cert.NormModIdeal Cert.NormModIdeal.Gen Idealize.ShloMosaic Idealize.ShloMosaic.TcCoe Idealize.SL.Sem Idealize.ShloMosaic.StableHlo
open Idealize.ShloMosaic.Pipeline (Dat Cfg Window)

/-! ## The mathematics -/

/-- A row's reciprocal root mean square: its squares' sum over 4096, plus the small constant, under the reciprocal root. -/
def invRms (row : Fin 4096 → EReal) : EReal :=
  Ideal.rsqrt (Ideal.div (∑ k, row k * row k) (Ideal.ofBits .f32 0x45800000#32) + Ideal.ofBits .f32 0x358637BD#32)

/-- An element of a row, normalized, times its weight, times one plus its scale, plus its shift. -/
def modulated (row : Fin 4096 → EReal) (weight scale shift : EReal) (n : Fin 4096) : EReal :=
  row n * invRms row * weight * (1 + scale) + shift

/-- The result at a token and a column: the weight is the first layer's, the shift the modulation's first third and the
    scale its second. -/
def norm (x : S2x4096x4096.Idx → EReal) (w : S4x4096.Idx → EReal) (g : S2x12288.Idx → EReal) (b : Fin 2) (t n : Fin 4096) : EReal :=
  modulated (fun k => x (ix3 b t k)) (w (ix2 0 n)) (g (ix2 b (⟨4096 + n.val, by omega⟩ : Fin 12288)))
    (g (ix2 b (⟨n.val, by omega⟩ : Fin 12288))) n

/-- The result, and the same with its two batches joined. -/
def result (x : S2x4096x4096.Idx → EReal) (w : S4x4096.Idx → EReal) (g : S2x12288.Idx → EReal) : S2x4096x4096.Idx → EReal :=
  fun i => norm x w g (i 0) (i 1) (i 2)
def joinedResult (x : S2x4096x4096.Idx → EReal) (w : S4x4096.Idx → EReal) (g : S2x12288.Idx → EReal) : S8192x4096.Idx → EReal := fun i =>
  norm x w g ⟨(i 0).val / 4096, by have h : (i 0).val < 8192 := (i 0).isLt; omega⟩ ⟨(i 0).val % 4096, by omega⟩ (i 1)

/-! ## The reference -/

section Reference
open Cert.NormModReferenceIdeal.Read

theorem reference_eq (x : S2x4096x4096.Idx → EReal) (w : S4x4096.Idx → EReal) (g : S2x12288.Idx → EReal) :
    val_main_v26 (F := Ideal) x w g = result x w g := by
  funext i
  have hn : (i 2).val < 4096 := (i 2).isLt
  rw [val_main_v26_apply, val_main_v25_apply, val_main_v24_apply, val_main_v23_apply, val_main_v0_apply, val_main_v22_apply,
    val_main_v21_apply, val_main_v20_apply, val_main_v19_apply, val_main_v18_apply, val_main_v1_apply, val_main_v17_apply,
    val_main_v16_apply, val_main_v15_apply, val_main_v4_apply, val_main_v3_apply, val_main_v14_apply, val_main_v13_apply,
    val_main_v12_apply, val_main_v11_apply, val_main_v10_apply, val_main_v9_apply, val_main_v8_apply, val_main_v7_apply,
    val_main_v6_apply, val_main_cst_apply, val_main_cst_0_apply, val_main_cst_1_apply, val_main_cst_2_apply]
  simp only [val_main_v5_apply]
  unfold result norm modulated invRms
  have one : (FloatOps.ofBits .f32 0x3F800000#32 : Ideal .f32) = (1 : EReal) := by pointwise
  have zero : (FloatOps.ofBits .f32 0x00000000#32 : Ideal .f32) = (0 : EReal) := by pointwise
  refine congrArg₂ (· + ·) (congrArg₂ (· * ·) (congrArg₂ (· * ·) (congrArg₂ (· * ·) (congrArg x (funext fun a => ?_)) ?_)
    (congrArg w (funext fun a => Fin.ext ?_))) (congrArg₂ (· + ·) one (congrArg g (funext fun a => Fin.ext ?_))))
    (congrArg g (funext fun a => Fin.ext ?_))
  · match a with
    | ⟨0, _⟩ => rfl
    | ⟨1, _⟩ => rfl
    | ⟨2, _⟩ => rfl
  · refine congrArg (fun s => Ideal.rsqrt (Ideal.div s (Ideal.ofBits .f32 0x45800000#32) + Ideal.ofBits .f32 0x358637BD#32))
      ((congrArg₂ (· + ·) zero (Finset.sum_congr rfl fun k _ => ?_)).trans (zero_add _))
    refine congrArg (fun j => x j * x j) (funext fun a => ?_)
    match a with
    | ⟨0, _⟩ => rfl
    | ⟨1, _⟩ => rfl
    | ⟨2, _⟩ => rfl
  · match a with
    | ⟨0, _⟩ => rfl
    | ⟨1, _⟩ => exact Nat.mod_eq_of_lt hn
  · match a with
    | ⟨0, _⟩ => rfl
    | ⟨1, _⟩ => rfl
  · match a with
    | ⟨0, _⟩ => rfl
    | ⟨1, _⟩ => rfl

end Reference

/-! ## The kernel's block -/

/-- A trip's payload at a row and a column. -/
theorem payload_apply (w : S1x4096.Idx → EReal) (sc sh : S1x1x1x4096.Idx → EReal) (x : S16x4096.Idx → EReal) (r : Fin 16) (q : Fin 4096) :
    k0_pay1 (F := Ideal) w sc sh x (ix2 r q)
      = modulated (fun k => x (ix2 r k)) (w (ix2 0 q)) (sc (ix4 0 0 0 q)) (sh (ix4 0 0 0 q)) q := by
  unfold k0_pay1 modulated invRms
  pointwise
  rw [mul_assoc (x (ix2 r q) * _)]

/-- What a point leaves in its output block, from its four input blocks. -/
def block (x : S512x4096.Idx → EReal) (w : S1x4096.Idx → EReal) (sc sh : S1x1x1x4096.Idx → EReal) : S512x4096.Idx → EReal := fun y =>
  modulated (fun k => x (ix2 (⟨(y 0).val, (y 0).isLt⟩ : Fin 512) k)) (w (ix2 0 (⟨(y 1).val, (y 1).isLt⟩ : Fin 4096)))
    (sc (ix4 0 0 0 (⟨(y 1).val, (y 1).isLt⟩ : Fin 4096))) (sh (ix4 0 0 0 (⟨(y 1).val, (y 1).isLt⟩ : Fin 4096))) ⟨(y 1).val, (y 1).isLt⟩

section Pieces
variable (c : Dev nD) (i : grid0.Coords) (arg1 : Memref sig .tc .vmem S512x4096 .f32) (harg1 : arg1.IsWhole)
  (arg2 : Memref sig .tc .vmem S1x4096 .f32) (harg2 : arg2.IsWhole) (arg3 : Memref sig .tc .vmem S1x1x1x4096 .f32) (harg3 : arg3.IsWhole)
  (arg4 : Memref sig .tc .vmem S1x1x1x4096 .f32) (harg4 : arg4.IsWhole) (arg5 : Memref sig .tc .vmem S512x4096 .bf16) (harg5 : arg5.IsWhole)

/-- The rows of a trip. -/
abbrev rowsAt (k : Fin k0_t1_loop.trips) : Rect S512x4096 := Rect.unit (s := S512x4096) (k0_off1 k) S16x4096.size (k0_off1_inb k)

/-- A trip stores one piece: the payload of its rows, at its rows. -/
theorem trip_pieces {F : FTy → Type} [FloatOps F] (w : Vec F S1x4096 .f32) (sc sh : Vec F S1x1x1x4096 .f32)
    (X : BufTy.Contents (Elt F) arg1.view.ty) (k : Fin k0_t1_loop.trips) :
    tripL_k0_t1 Variants.none c none i arg1 harg1 arg2 harg2 arg3 harg3 arg4 harg4 arg5 harg5 w sc sh X k
      = [⟨rowsAt k, k0_pay1 w sc sh (arg1.view.readAt (Elt F) (rowsAt k).toLoadRect X)⟩] := by
  unfold tripL_k0_t1 trip_k0_t1
  rfl

variable (x : S512x4096.Idx → EReal) (w : S1x4096.Idx → EReal) (sc sh : S1x1x1x4096.Idx → EReal)

/-- A trip's piece puts the block's own rows where they belong, -/
theorem piece_eq (k : Fin k0_t1_loop.trips) (z : S16x4096.Idx) :
    k0_pay1 (F := Ideal) w sc sh (arg1.view.readAt (Elt Ideal) (rowsAt k).toLoadRect (harg1.unread x)) z
      = block x w sc sh ((rowsAt k).emb z) := by
  have h0 : (z 0).val < 16 := (z 0).isLt
  have h1 : (z 1).val < 4096 := (z 1).isLt
  have ez : z = ix2 (⟨(z 0).val, h0⟩ : Fin 16) (⟨(z 1).val, h1⟩ : Fin 4096) := by
    funext a
    match a with
    | ⟨0, _⟩ => rfl
    | ⟨1, _⟩ => rfl
  have e1 : (((rowsAt k).emb z) 1).val = (z 1).val := by
    show k0_off1 k 1 + 1 * (z 1).val = _
    rw [k0_off1_eq]; show 0 + 1 * (z 1).val = _; omega
  have q : (⟨(((rowsAt k).emb z) 1).val, (((rowsAt k).emb z) 1).isLt⟩ : Fin 4096) = ⟨(z 1).val, h1⟩ := Fin.ext e1
  refine ((congrArg _ ez).trans (payload_apply w sc sh _ ⟨(z 0).val, h0⟩ ⟨(z 1).val, h1⟩)).trans ?_
  unfold block
  rw [q]
  refine congrArg (fun row => modulated row _ _ _ _) (funext fun n => ?_)
  rw [harg1.readAt_unread]
  refine congrArg x (funext fun a => Fin.ext ?_)
  match a with
  | ⟨0, _⟩ => rfl
  | ⟨1, _⟩ => show k0_off1 k 1 + 1 * n.val = n.val; rw [k0_off1_eq]; show 0 + 1 * n.val = _; omega

/-- so the pieces of the trips before any count do, -/
theorem pieces_eq : ∀ k : ℕ, k ≤ k0_t1_loop.trips → ∀ p ∈ pb_k0_t1 (F := Ideal) Variants.none c none i arg1 harg1 arg2 harg2 arg3 harg3 arg4 harg4
    arg5 harg5 w sc sh (harg1.unread x) k, ∀ z : p.1.shape.Idx, p.2 z = block x w sc sh (p.1.emb z)
  | 0, _ => fun p hp => absurd hp List.not_mem_nil
  | k + 1, hk => by
    intro p hp
    rw [pb_k0_t1_succ (F := Ideal) Variants.none c none i arg1 harg1 arg2 harg2 arg3 harg3 arg4 harg4 arg5 harg5 w sc sh (harg1.unread x) ⟨k, hk⟩,
      trip_pieces] at hp
    rcases List.mem_cons.mp hp with rfl | hp
    · exact piece_eq arg1 harg1 x w sc sh ⟨k, hk⟩
    · exact pieces_eq k (Nat.le_of_lt hk) p hp

/-- and the run's output block is `block`. -/
theorem out_eq : out0_A_4 (F := Ideal) c i arg1 harg1 arg2 harg2 arg3 harg3 arg4 harg4 arg5 harg5 x w sc sh = block x w sc sh := by
  funext y
  refine View.read_writes_apply_of_pieces _ _ (block x w sc sh) _ ?_ y (cover0_A_4 (F := Ideal) c i arg1 harg1 arg2 harg2 arg3 harg3 arg4 harg4 arg5 harg5 x w sc sh y)
  unfold kernelRun0_A
  dsimp only
  sl_unfold_run_names
  rw [View.readAt_full, View.readAt_full, View.readAt_full, harg2.read_unread, harg3.read_unread, harg4.read_unread]
  exact pieces_eq c i arg1 harg1 arg2 harg2 arg3 harg3 arg4 harg4 arg5 harg5 x w sc sh _ (le_refl _)

end Pieces

variable (m : (ℓ : Loc nD τ sig) → Buf (Elt Ideal) ℓ) (c : Dev nD)

/-- The three arguments. -/
abbrev hidden : S2x4096x4096.Idx → EReal := m ((c.tc : Thread nD τ).loc main_arg0)
abbrev weight : S4x4096.Idx → EReal := m ((c.tc : Thread nD τ).loc main_arg1)
abbrev modulation : S2x12288.Idx → EReal := m ((c.tc : Thread nD τ).loc main_arg2)

theorem V_hidden : V m c main_v0 = shapeCast S8192x4096 (hidden m c) shapeCasts_S2x4096x4096_S8192x4096 := by
  unfold_abbrev_sides
  simp only [hostOps0, List.flatten_cons, List.flatten_nil, List.append_nil, List.cons_append, List.nil_append]
  after_reads_simp
  rfl
theorem V_weight : V m c main_v4 = shapeCast S1x4096 (shapeCast S4096 (extractStridedSlice S1x4096 ![0, 0] (weight m c)
    slices_S4x4096_S1x4096_0_0) shapeCasts_S1x4096_S4096) shapeCasts_S4096_S1x4096 := by
  unfold_abbrev_sides
  simp only [hostOps0, List.flatten_cons, List.flatten_nil, List.append_nil, List.cons_append, List.nil_append]
  after_reads_simp
  rfl
theorem V_modulation : V m c main_v3 = shapeCast S2x3x1x4096 (modulation m c) shapeCasts_S2x12288_S2x3x1x4096 := by
  unfold_abbrev_sides
  simp only [hostOps0, List.flatten_cons, List.flatten_nil, List.append_nil, List.cons_append, List.nil_append]
  after_reads_simp
  rfl

theorem index_maps : ∀ t : Fin cfg0.N, win0_0.index t = ![t.val, 0] ∧ win0_1.index t = ![0, 0]
    ∧ win0_2.index t = ![t.val / 8, 1, 0, 0] ∧ win0_3.index t = ![t.val / 8, 0, 0, 0] ∧ win0_4.index t = ![t.val, 0] := by
  decide +kernel

theorem points (t : Fin cfg0.N) : t.val < 16 := t.isLt

/-- The rows of a point, -/
theorem block_hidden (t : Fin cfg0.N) (r : Fin 512) (k : Fin 4096) :
    iblk m c 0 t (ix2 r k) = hidden m c (ix3 (⟨t.val / 8, by have := points t; omega⟩ : Fin 2) (⟨512 * (t.val % 8) + r.val, by omega⟩ : Fin 4096) k) := by
  have hr := r.isLt; have hk := k.isLt; have ht := points t
  refine Eq.trans ?_ (shapeCast_apply (hidden m c) shapeCasts_S2x4096x4096_S8192x4096
    (ix2 (⟨512 * t.val + r.val, by omega⟩ : Fin 8192) k) _ (by
      rw [Shape.rowMajor_val_three, Shape.rowMajor_val_two]
      show (t.val / 8 * 4096 + (512 * (t.val % 8) + r.val)) * 4096 + k.val = (512 * t.val + r.val) * 4096 + k.val
      omega))
  rw [← V_hidden]
  blk_ext [iblk, (index_maps t).1]
/-- its weights, the first layer's, -/
theorem block_weight (t : Fin cfg0.N) (q : Fin 4096) : iblk m c 1 t (ix2 (0 : Fin 1) q) = weight m c (ix2 (0 : Fin 4) q) := by
  have hq := q.isLt
  have e : V m c main_v4 (ix2 (0 : Fin 1) q) = weight m c (ix2 (0 : Fin 4) q) := by
    rw [V_weight, shapeCast_apply _ shapeCasts_S4096_S1x4096 _ (ix1 q) (by
        rw [Shape.rowMajor_val_one, Shape.rowMajor_val_two]; show q.val = 0 * 4096 + q.val; omega),
      shapeCast_apply _ shapeCasts_S1x4096_S4096 _ (ix2 (0 : Fin 1) q) (by
        rw [Shape.rowMajor_val_one, Shape.rowMajor_val_two]; show 0 * 4096 + q.val = q.val; omega)]
    refine congrArg (weight m c) (funext fun a => Fin.ext ?_)
    match a with
    | ⟨0, _⟩ => rfl
    | ⟨1, _⟩ => show 0 + q.val = q.val; omega
  refine Eq.trans ?_ e
  blk_ext [iblk, (index_maps t).2.1]
/-- its scales, the modulation's second third, -/
theorem block_scale (t : Fin cfg0.N) (q : Fin 4096) :
    iblk m c 2 t (ix4 (0 : Fin 1) (0 : Fin 1) (0 : Fin 1) q) = modulation m c (ix2 (⟨t.val / 8, by have := points t; omega⟩ : Fin 2)
      (⟨4096 + q.val, by omega⟩ : Fin 12288)) := by
  have hq := q.isLt; have ht := points t
  refine Eq.trans ?_ (shapeCast_apply (modulation m c) shapeCasts_S2x12288_S2x3x1x4096
    (ix4 (⟨t.val / 8, by omega⟩ : Fin 2) (1 : Fin 3) (0 : Fin 1) q) _ (by
      rw [Shape.rowMajor_val_four, Shape.rowMajor_val_two]
      show t.val / 8 * 12288 + (4096 + q.val) = ((t.val / 8 * 3 + 1) * 1 + 0) * 4096 + q.val
      omega))
  rw [← V_modulation]
  blk_ext [iblk, (index_maps t).2.2.1]
/-- and its shifts, the modulation's first third. -/
theorem block_shift (t : Fin cfg0.N) (q : Fin 4096) :
    iblk m c 3 t (ix4 (0 : Fin 1) (0 : Fin 1) (0 : Fin 1) q) = modulation m c (ix2 (⟨t.val / 8, by have := points t; omega⟩ : Fin 2)
      (⟨q.val, by omega⟩ : Fin 12288)) := by
  have hq := q.isLt; have ht := points t
  refine Eq.trans ?_ (shapeCast_apply (modulation m c) shapeCasts_S2x12288_S2x3x1x4096
    (ix4 (⟨t.val / 8, by omega⟩ : Fin 2) (0 : Fin 3) (0 : Fin 1) q) _ (by
      rw [Shape.rowMajor_val_four, Shape.rowMajor_val_two]
      show t.val / 8 * 12288 + q.val = ((t.val / 8 * 3 + 0) * 1 + 0) * 4096 + q.val
      omega))
  rw [← V_modulation]
  blk_ext [iblk, (index_maps t).2.2.2.1]

/-! ## The array -/

theorem array_eq : (dats m 0 c).arrAt 4 cfg0.N = joinedResult (hidden m c) (weight m c) (modulation m c) := by
  refine (dats m 0 c).arrAt_eq_of_covers 4 _ (by decide +kernel) fun t hf y => ?_
  blk_simp
  rw [after0_4]
  unfold outsAt0
  rw [out_eq]
  have hy0 : (y 0).val < 512 := (y 0).isLt
  have hy1 : (y 1).val < 4096 := (y 1).isLt
  have ht := points t
  have h0 : (((win0_4.blk t).view.emb y) 0).val = t.val * 512 + (y 0).val := by blk_simp [(index_maps t).2.2.2.2]
  have h1 : (((win0_4.blk t).view.emb y) 1).val = (y 1).val := by blk_simp [(index_maps t).2.2.2.2]
  have e0 : (⟨t.val / 8, by omega⟩ : Fin 2) = ⟨(((win0_4.blk t).view.emb y) 0).val / 4096, by omega⟩ := Fin.ext (by
    show t.val / 8 = (((win0_4.blk t).view.emb y) 0).val / 4096; omega)
  have e1 : (⟨512 * (t.val % 8) + (y 0).val, by omega⟩ : Fin 4096) = ⟨(((win0_4.blk t).view.emb y) 0).val % 4096, by omega⟩ :=
    Fin.ext (by show 512 * (t.val % 8) + (y 0).val = (((win0_4.blk t).view.emb y) 0).val % 4096; omega)
  have e2 : (⟨(y 1).val, hy1⟩ : Fin 4096) = ((win0_4.blk t).view.emb y) 1 := Fin.ext h1.symm
  unfold block
  rw [block_weight, block_scale, block_shift, show (fun k => iblk m c 0 t (ix2 (⟨(y 0).val, hy0⟩ : Fin 512) k)) = _ from
    funext fun k => block_hidden m c t _ k]
  unfold joinedResult
  rw [← e0, ← e1, ← e2]
  rfl

/-! ## The result -/

theorem split_joined (x : S2x4096x4096.Idx → EReal) (w : S4x4096.Idx → EReal) (g : S2x12288.Idx → EReal) :
    shapeCast S2x4096x4096 (joinedResult x w g) shapeCasts_S8192x4096_S2x4096x4096 = result x w g := by
  funext i
  have h0 : (i 0).val < 2 := (i 0).isLt
  have h1 : (i 1).val < 4096 := (i 1).isLt
  have h2 : (i 2).val < 4096 := (i 2).isLt
  rw [shapeCast_apply _ _ _ (ix2 (⟨4096 * (i 0).val + (i 1).val, by omega⟩ : Fin 8192) (⟨(i 2).val, h2⟩ : Fin 4096)) (by
    rw [Shape.rowMajor_val_three, Shape.rowMajor_val_two]
    show (4096 * (i 0).val + (i 1).val) * 4096 + (i 2).val = ((i 0).val * 4096 + (i 1).val) * 4096 + (i 2).val
    omega)]
  show norm x w g _ _ _ = norm x w g _ _ _
  have e0 : (⟨(4096 * (i 0).val + (i 1).val) / 4096, by omega⟩ : Fin 2) = i 0 := Fin.ext (by show _ / 4096 = _; omega)
  have e1 : (⟨(4096 * (i 0).val + (i 1).val) % 4096, by omega⟩ : Fin 4096) = i 1 := Fin.ext (by show _ % 4096 = _; omega)
  exact congrArg₂ (fun b t => norm x w g b t (i 2)) e0 e1

/-- What the program leaves in its result. -/
theorem W_result : Pipeline.afterTail₀ cfgs (dats m) 0 (V0 m) [hostOps1] c main_v6
    = result (hidden m c) (weight m c) (modulation m c) := by
  have harr : Pipeline.withArrays spec0 c (V0 m c) (fun k => (dats m 0 c).arrAt k cfg0.N) (Proc.devRef .tc main_v5)
      = joinedResult (hidden m c) (weight m c) (modulation m c) :=
    (Pipeline.withArrays_arr_shared spec0 c (V0 m c) (fun k => (dats m 0 c).arrAt k cfg0.N)
      (fun k k' hne e => ((dats m 0 c).arrAt_in k ((by decide : ∀ k k' : Fin 5, k ≠ k' → Pipeline.arrRef spec0 k = Pipeline.arrRef spec0 k' → (cfg0.win k).isOut = false) k k' hne e) _).trans (A_eq m c k)) 4).trans
      (array_eq m c)
  rw [← split_joined, ← harr]
  unfold Pipeline.afterTail₀
  simp only [hostOps1, List.flatten_cons, List.flatten_nil, List.append_nil]
  after_reads_simp
  rfl

end Cert.NormModulate
-- ==== Proof.NormModKernel.lean ====
/- The modulated RMS norm and its idealized form are one text: the same body table and the same `@main`, so the run proved
   over any float values is also the kernel's. -/
module

public import proofs.«01_k».proof.Proof.Gen.NormModIdeal.Frame
public import proofs.«01_k».proof.Proof.Gen.NormMod

@[expose] public section

set_option maxRecDepth 65536

noncomputable section

namespace Cert.NormMod.Gen

open Idealize.ShloMosaic Idealize.SL.Sem

attribute [local instance] Cert.NormMod.Gen.facts Cert.NormModIdeal.Gen.facts

variable {F : FTy → Type} [FloatOps F]

theorem defs₀_same : Cert.NormMod.defs₀ (F := F) = Cert.NormModIdeal.defs₀ := by
  unfold Cert.NormMod.defs₀ Cert.NormModIdeal.defs₀
  refine congrArg _ (funext fun l => funext fun a => ?_)
  match l, a with
  | ⟨0, _⟩, (t, s) => rfl
  | ⟨_ + 1, h⟩, _ => exact absurd h (Nat.not_lt.2 (Nat.le_add_left _ _))

theorem defs_same : Cert.NormMod.defs (F := F) = Cert.NormModIdeal.defs := by
  unfold Cert.NormMod.defs Cert.NormModIdeal.defs
  exact congrArg (Pipeline.defs Cert.NormMod.pcfgs) defs₀_same

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.NormModIdeal.Gen.frame m ρ

end Cert.NormMod.Gen
-- ==== Proof.GateMath.lean ====
/- The gate call's mathematics: a row's RMS norm times a weight, times a gate's activation, over two halves of the
   columns; and the activation as the kernel computes it, by the hyperbolic tangent, against `x` times its logistic. -/
module

public import proofs.«01_k».proof.GateIdeal
public import proofs.«01_k».proof.Pre_open_gates
public import Idealize.ShloMosaic.Lib.Pointwise

@[expose] public section

set_option maxRecDepth 100000

noncomputable section

namespace Cert.Gating

open Cert.GateIdeal Idealize.ShloMosaic

/-- `x` times its logistic, `1 / (1 + exp (-x))`. -/
def silu (x : EReal) : EReal := x * Ideal.div 1 (1 + Ideal.exp (-x))

/-- The same by the hyperbolic tangent of half of `x`. -/
def tanhSilu (x : EReal) : EReal :=
  Ideal.ofBits .f32 0x3F000000#32 * x * Ideal.tanh (Ideal.ofBits .f32 0x3F000000#32 * x) + Ideal.ofBits .f32 0x3F000000#32 * x

/-- The constant is one half. -/
theorem half_eq : Ideal.ofBits .f32 0x3F000000#32 = ((1 / 2 : ℝ) : EReal) := by
  simp [Ideal.ofBits, Ideal.ieee]
  rw [← EReal.coe_mul]
  norm_num

/-- On real numbers, `x / 2 * tanh (x / 2) + x / 2 = x / (1 + exp (-x))`. -/
theorem real_silu (x : ℝ) : 1 / 2 * x * Real.tanh (1 / 2 * x) + 1 / 2 * x = x * (1 / (1 + Real.exp (-x))) := by
  rw [Real.tanh_eq_sinh_div_cosh, Real.sinh_eq, Real.cosh_eq]
  have e : Real.exp (-x) = Real.exp (-(1 / 2 * x)) * Real.exp (-(1 / 2 * x)) := by rw [← Real.exp_add]; congr 1; ring
  have h : Real.exp (1 / 2 * x) * Real.exp (-(1 / 2 * x)) = 1 := by rw [← Real.exp_add]; simp
  rw [e]
  have hp := Real.exp_pos (1 / 2 * x)
  have hn := Real.exp_pos (-(1 / 2 * x))
  generalize Real.exp (1 / 2 * x) = p at *
  generalize Real.exp (-(1 / 2 * x)) = n at *
  have hd : p + n ≠ 0 := by positivity
  have hd' : 1 + n * n ≠ 0 := by positivity
  field_simp
  linear_combination (2 * n * x) * h

/-- The two activations agree above `-∞`. (At `-∞` the first is `-∞` and the second is `0`.) -/
theorem tanhSilu_eq {x : EReal} (h : x ≠ ⊥) : tanhSilu x = silu x := by
  unfold tanhSilu silu
  rw [half_eq]
  induction x with
  | bot => exact absurd rfl h
  | top =>
    have e : (((1 / 2 : ℝ) : EReal)) * ⊤ = ⊤ := EReal.coe_mul_top_of_pos (by norm_num)
    have o : Ideal.div 1 (1 + Ideal.exp (-⊤)) = 1 := by
      rw [EReal.neg_top, Ideal.exp_bot, add_zero, show (1 : EReal) = ((1 : ℝ) : EReal) from rfl, Ideal.div_coe one_ne_zero]
      norm_num
    rw [e, Ideal.tanh_top, o, mul_one, EReal.top_add_top]
  | coe r =>
    have hd : 1 + Real.exp (-r) ≠ 0 := by positivity
    rw [← EReal.coe_mul, Ideal.tanh_coe, ← EReal.coe_mul, ← EReal.coe_add, ← EReal.coe_neg, Ideal.exp_coe,
      show (1 : EReal) + (Real.exp (-r) : EReal) = ((1 + Real.exp (-r) : ℝ) : EReal) from by rw [EReal.coe_add]; rfl,
      Ideal.div_coe hd, one_mul, ← EReal.coe_mul, real_silu]

/-- A row's reciprocal root mean square: its squares' sum over 2048, plus the small constant, under the reciprocal root. -/
def invRms (row : Fin 2048 → EReal) : EReal :=
  Ideal.rsqrt (Ideal.div (∑ k, row k * row k) (Ideal.ofBits .f32 0x45000000#32) + Ideal.ofBits .f32 0x358637BD#32)

/-- An element of a row, normalized, times its weight, times its gate's activation. -/
def gated (act : EReal → EReal) (row : Fin 2048 → EReal) (weight gate : EReal) (n : Fin 2048) : EReal :=
  row n * invRms row * weight * act gate

/-- The columns of the packed array that gate the recurrence, and those that gate the attention. -/
def recurrenceGate (n : Fin 2048) : Fin 12288 := ⟨2048 + n.val, by omega⟩
def attentionGate (n : Fin 2048) : Fin 12288 := ⟨10240 + n.val, by omega⟩

/-- A column of the result in its half. -/
def halfCol (n : Fin 4096) : Fin 2048 := ⟨n.val % 2048, by omega⟩

/-- The result at a token and a column: the first half from the two directions of the recurrence, summed, the second
    from the attention. The weights are the first layer's. -/
def gate (act : EReal → EReal) (hf hb : S2x4096x2048.Idx → EReal) (p : S2x4096x12288.Idx → EReal) (att : S2x4096x2048.Idx → EReal)
    (wr wa : S4x2048.Idx → EReal) (b : Fin 2) (t n : Fin 4096) : EReal :=
  if n.val < 2048 then
    gated act (fun k => hf (ix3 b t k) + hb (ix3 b t k)) (wr (ix2 0 (halfCol n))) (p (ix3 b t (recurrenceGate (halfCol n)))) (halfCol n)
  else gated act (fun k => att (ix3 b t k)) (wa (ix2 0 (halfCol n))) (p (ix3 b t (attentionGate (halfCol n)))) (halfCol n)

/-- The result, and the same with its two batches joined. -/
def result (act : EReal → EReal) (hf hb : S2x4096x2048.Idx → EReal) (p : S2x4096x12288.Idx → EReal) (att : S2x4096x2048.Idx → EReal)
    (wr wa : S4x2048.Idx → EReal) : S2x4096x4096.Idx → EReal :=
  fun i => gate act hf hb p att wr wa (i 0) (i 1) (i 2)
def joinedResult (act : EReal → EReal) (hf hb : S2x4096x2048.Idx → EReal) (p : S2x4096x12288.Idx → EReal) (att : S2x4096x2048.Idx → EReal)
    (wr wa : S4x2048.Idx → EReal) : S8192x4096.Idx → EReal := fun i =>
  gate act hf hb p att wr wa ⟨(i 0).val / 4096, by have h : (i 0).val < 8192 := (i 0).isLt; omega⟩ ⟨(i 0).val % 4096, by omega⟩ (i 1)

/-! ## The precondition -/

/-- An extended real above `-∞` is not `-∞`. -/
theorem ne_bot_of_gt {x : EReal} (h : Ideal.cmp .ogt x (Ideal.ofBits .f32 0xFF800000#32) = 1#1) : x ≠ ⊥ := by
  rintro rfl
  have e : Ideal.ofBits .f32 0xFF800000#32 = ⊥ := by simp [Ideal.ofBits, Ideal.ieee]
  rw [e] at h
  simp [Ideal.cmp] at h

variable [Cert.Pre_open_gates.Facts] {hf hb : S2x4096x2048.Idx → EReal} {p : S2x4096x12288.Idx → EReal} {att : S2x4096x2048.Idx → EReal}
  {wr wa : S4x2048.Idx → EReal}

theorem recurrenceGate_ne_bot (h : (Cert.Pre_open_gates.fn (F := Ideal) hf hb p att wr wa).1 = fun _ => 1#1) (b : Fin 2) (t : Fin 4096)
    (n : Fin 2048) : p (ix3 b t (recurrenceGate n)) ≠ ⊥ := by
  apply ne_bot_of_gt
  have := congrFun h (ix3 b t n)
  rw [← this]
  refine congrArg (fun x : EReal => Ideal.cmp .ogt x (Ideal.ofBits .f32 0xFF800000#32)) (congrArg p (funext fun a => Fin.ext ?_))
  match a with
  | ⟨0, _⟩ => exact (Nat.zero_add _).symm
  | ⟨1, _⟩ => exact (Nat.zero_add _).symm
  | ⟨2, _⟩ => rfl

theorem attentionGate_ne_bot (h : (Cert.Pre_open_gates.fn (F := Ideal) hf hb p att wr wa).2 = fun _ => 1#1) (b : Fin 2) (t : Fin 4096)
    (n : Fin 2048) : p (ix3 b t (attentionGate n)) ≠ ⊥ := by
  apply ne_bot_of_gt
  have := congrFun h (ix3 b t n)
  rw [← this]
  refine congrArg (fun x : EReal => Ideal.cmp .ogt x (Ideal.ofBits .f32 0xFF800000#32)) (congrArg p (funext fun a => Fin.ext ?_))
  match a with
  | ⟨0, _⟩ => exact (Nat.zero_add _).symm
  | ⟨1, _⟩ => exact (Nat.zero_add _).symm
  | ⟨2, _⟩ => rfl

/-- Where no gate is `-∞` the two activations give the same result. -/
theorem result_tanhSilu (h : (Cert.Pre_open_gates.fn (F := Ideal) hf hb p att wr wa).1 = fun _ => 1#1)
    (h' : (Cert.Pre_open_gates.fn (F := Ideal) hf hb p att wr wa).2 = fun _ => 1#1) :
    result tanhSilu hf hb p att wr wa = result silu hf hb p att wr wa := by
  have e (b : Fin 2) (t n : Fin 4096) : gate tanhSilu hf hb p att wr wa b t n = gate silu hf hb p att wr wa b t n := by
    unfold gate gated
    rw [tanhSilu_eq (recurrenceGate_ne_bot h b t (halfCol n)), tanhSilu_eq (attentionGate_ne_bot h' b t (halfCol n))]
  exact funext fun i => e (i 0) (i 1) (i 2)

end Cert.Gating
-- ==== Proof.GateReference.lean ====
/- The gate call's reference: each element of its result is `gate` at its token and column. -/
module

public import proofs.«01_k».proof.Proof.GateMath
public import proofs.«01_k».proof.Proof.Gen.GateReferenceIdeal.Read
public import Idealize.ShloMosaic.Lib.Pipeline.ValueKit
public import Idealize.ShloMosaic.Lib.Pointwise

@[expose] public section

set_option maxRecDepth 100000

noncomputable section

namespace Cert.Gating

open Cert.GateIdeal Idealize.ShloMosaic Idealize.ShloMosaic.TcCoe
open Cert.GateReferenceIdeal.Read

variable (hf hb : S2x4096x2048.Idx → EReal) (p : S2x4096x12288.Idx → EReal) (att : S2x4096x2048.Idx → EReal) (wr wa : S4x2048.Idx → EReal)
  (j : S2x4096x2048.Idx)

theorem one_eq : (FloatOps.ofBits .f32 0x3F800000#32 : Ideal .f32) = (1 : EReal) := by pointwise
theorem zero_eq : (FloatOps.ofBits .f32 0x00000000#32 : Ideal .f32) = (0 : EReal) := by pointwise

/-- The recurrence's half, -/
theorem recurrence_half : val_main_v26 (F := Ideal) hf hb p wr j
    = gated silu (fun k => hf (ix3 (j 0) (j 1) k) + hb (ix3 (j 0) (j 1) k)) (wr (ix2 0 (j 2))) (p (ix3 (j 0) (j 1) (recurrenceGate (j 2)))) (j 2) := by
  have hn : (j 2).val < 2048 := (j 2).isLt
  rw [val_main_v26_apply, val_main_v25_apply, val_main_call0_v5_apply, val_main_call0_v4_apply, val_main_call0_cst_0_apply,
    val_main_call0_v3_apply, val_main_call0_v2_apply, val_main_call0_cst_apply, val_main_call0_v1_apply, val_main_call0_v0_apply,
    val_main_v2_apply, val_main_v0_apply, val_main_v24_apply, val_main_v23_apply, val_main_v22_apply, val_main_v11_apply,
    val_main_v10_apply, val_main_v21_apply, val_main_v20_apply, val_main_v19_apply, val_main_v18_apply, val_main_v17_apply,
    val_main_cst_1_apply, val_main_v16_apply, val_main_v15_apply, val_main_cst_0_apply, val_main_v14_apply, val_main_v13_apply,
    val_main_cst_apply]
  simp only [val_main_v12_apply, val_main_v9_apply, val_main_v8_apply, val_main_v7_apply]
  unfold gated silu invRms
  have ep : idx_main_v2 j = ix3 (j 0) (j 1) (recurrenceGate (j 2)) := by
    funext a
    match a with
    | ⟨0, _⟩ => rfl
    | ⟨1, _⟩ => rfl
    | ⟨2, _⟩ => rfl
  rw [ep, one_eq]
  refine congrArg₂ (· * ·) (congrArg₂ (· * ·) (congrArg₂ (· * ·) (congrArg (fun i => hf i + hb i) (funext fun a => ?_)) ?_)
    (congrArg wr (funext fun a => Fin.ext ?_))) rfl
  · match a with
    | ⟨0, _⟩ => rfl
    | ⟨1, _⟩ => rfl
    | ⟨2, _⟩ => rfl
  · refine congrArg (fun s => Ideal.rsqrt (Ideal.div s (Ideal.ofBits .f32 0x45000000#32) + Ideal.ofBits .f32 0x358637BD#32))
      ((congrArg₂ (· + ·) zero_eq (Finset.sum_congr rfl fun k _ => ?_)).trans (zero_add _))
    refine congrArg (fun i => (hf i + hb i) * (hf i + hb i)) (funext fun a => ?_)
    match a with
    | ⟨0, _⟩ => rfl
    | ⟨1, _⟩ => rfl
    | ⟨2, _⟩ => rfl
  · match a with
    | ⟨0, _⟩ => rfl
    | ⟨1, _⟩ => exact Nat.mod_eq_of_lt hn

/-- and the attention's. -/
theorem attention_half : val_main_v44 (F := Ideal) p att wa j
    = gated silu (fun k => att (ix3 (j 0) (j 1) k)) (wa (ix2 0 (j 2))) (p (ix3 (j 0) (j 1) (attentionGate (j 2)))) (j 2) := by
  have hn : (j 2).val < 2048 := (j 2).isLt
  rw [val_main_v44_apply, val_main_v43_apply, val_main_call1_v5_apply, val_main_call1_v4_apply, val_main_call1_cst_0_apply,
    val_main_call1_v3_apply, val_main_call1_v2_apply, val_main_call1_cst_apply, val_main_call1_v1_apply, val_main_call1_v0_apply,
    val_main_v6_apply, val_main_v0_apply, val_main_v42_apply, val_main_v41_apply, val_main_v40_apply, val_main_v29_apply,
    val_main_v28_apply, val_main_v39_apply, val_main_v38_apply, val_main_v37_apply, val_main_v36_apply, val_main_v35_apply,
    val_main_cst_4_apply, val_main_v34_apply, val_main_v33_apply, val_main_cst_3_apply, val_main_v32_apply, val_main_v31_apply,
    val_main_cst_2_apply]
  simp only [val_main_v30_apply, val_main_v27_apply]
  unfold gated silu invRms
  have ep : idx_main_v6 j = ix3 (j 0) (j 1) (attentionGate (j 2)) := by
    funext a
    match a with
    | ⟨0, _⟩ => rfl
    | ⟨1, _⟩ => rfl
    | ⟨2, _⟩ => rfl
  rw [ep, one_eq]
  refine congrArg₂ (· * ·) (congrArg₂ (· * ·) (congrArg₂ (· * ·) (congrArg att (funext fun a => ?_)) ?_)
    (congrArg wa (funext fun a => Fin.ext ?_))) rfl
  · match a with
    | ⟨0, _⟩ => rfl
    | ⟨1, _⟩ => rfl
    | ⟨2, _⟩ => rfl
  · refine congrArg (fun s => Ideal.rsqrt (Ideal.div s (Ideal.ofBits .f32 0x45000000#32) + Ideal.ofBits .f32 0x358637BD#32))
      ((congrArg₂ (· + ·) zero_eq (Finset.sum_congr rfl fun k _ => ?_)).trans (zero_add _))
    refine congrArg (fun i => att i * att i) (funext fun a => ?_)
    match a with
    | ⟨0, _⟩ => rfl
    | ⟨1, _⟩ => rfl
    | ⟨2, _⟩ => rfl
  · match a with
    | ⟨0, _⟩ => rfl
    | ⟨1, _⟩ => exact Nat.mod_eq_of_lt hn

/-- The reference joins the two halves along the columns. -/
theorem reference_eq : val_main_v46 (F := Ideal) hf hb p att wr wa = result silu hf hb p att wr wa := by
  funext i
  have h2 : (i 2).val < 4096 := (i 2).isLt
  rw [val_main_v46_apply]
  show val_main_v45 (F := Ideal) hf hb p att wr wa i = gate silu hf hb p att wr wa (i 0) (i 1) (i 2)
  unfold val_main_v45 gate
  have eh : (halfCol (i 2)).val = (i 2).val % 2048 := rfl
  by_cases h : (i 2).val < 2048
  · rw [if_pos h]
    refine (concatenate_pair_apply_left (s₁ := S2x4096x2048) (s₂ := S2x4096x2048) _ _ _ _ i rfl (ix3 (i 0) (i 1) (halfCol (i 2))) fun b => ?_).trans
      (recurrence_half hf hb p wr (ix3 (i 0) (i 1) (halfCol (i 2))))
    match b with
    | ⟨0, _⟩ => rfl
    | ⟨1, _⟩ => rfl
    | ⟨2, _⟩ => exact Nat.mod_eq_of_lt h
  · rw [if_neg h]
    refine (concatenate_pair_apply_right (s₁ := S2x4096x2048) (s₂ := S2x4096x2048) _ _ _ _ i rfl rfl (ix3 (i 0) (i 1) (halfCol (i 2))) (fun b hb => ?_) ?_).trans
      (attention_half p att wa (ix3 (i 0) (i 1) (halfCol (i 2))))
    · match b with
      | ⟨0, _⟩ => rfl
      | ⟨1, _⟩ => rfl
      | ⟨2, _⟩ => exact absurd rfl hb
    · show (i 2).val % 2048 + 2048 = (i 2).val
      omega

end Cert.Gating
-- ==== Proof.GateBlock.lean ====
/- What a point of the gate call leaves in its output block: thirty-two trips, each storing its sixteen rows' two halves. -/
module

public import proofs.«01_k».proof.Proof.GateMath
public import proofs.«01_k».proof.Proof.Gen.GateIdeal.Frame
public import Idealize.ShloMosaic.Lib.Pipeline.ValueKit
public import Idealize.ShloMosaic.Lib.Pointwise
public import Idealize.ShloMosaic.Lib.WholeRead
public import Idealize.ShloMosaic.Lib.VecWindow

@[expose] public section

set_option maxRecDepth 100000

noncomputable section

namespace Cert.Gating

open Cert.GateIdeal Cert.GateIdeal.Gen Idealize.ShloMosaic Idealize.ShloMosaic.TcCoe Idealize.SL.Sem

/-- The payload of a trip's first store at a row and a column, -/
theorem recurrence_apply (a b x : S16x2048.Idx → EReal) (w : S1x2048.Idx → EReal) (r : Fin 16) (q : Fin 2048) :
    k0_pay2 (F := Ideal) a b w x (ix2 r q) = gated tanhSilu (fun k => a (ix2 r k) + b (ix2 r k)) (w (ix2 0 q)) (x (ix2 r q)) q := by
  unfold k0_pay2 gated tanhSilu invRms
  pointwise

/-- and of its second. -/
theorem attention_apply (a x : S16x2048.Idx → EReal) (w : S1x2048.Idx → EReal) (r : Fin 16) (q : Fin 2048) :
    k0_pay1 (F := Ideal) (k0_pay3 a) (k0_pay4 a) w x (ix2 r q) = gated tanhSilu (fun k => a (ix2 r k)) (w (ix2 0 q)) (x (ix2 r q)) q := by
  unfold k0_pay1 k0_pay4 k0_pay3 gated tanhSilu invRms
  pointwise

/-- A point's output block from its seven input blocks: the recurrence's two directions, the two gates, the attention,
    and the two weights. -/
def block (hf hb gr ga att : S512x2048.Idx → EReal) (wr wa : S1x2048.Idx → EReal) : S512x4096.Idx → EReal := fun y =>
  if (y 1).val < 2048 then
    gated tanhSilu (fun k => hf (ix2 (y 0) k) + hb (ix2 (y 0) k)) (wr (ix2 0 (halfCol (y 1)))) (gr (ix2 (y 0) (halfCol (y 1)))) (halfCol (y 1))
  else gated tanhSilu (fun k => att (ix2 (y 0) k)) (wa (ix2 0 (halfCol (y 1)))) (ga (ix2 (y 0) (halfCol (y 1)))) (halfCol (y 1))

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S512x4096 .bf16) (harg8 : arg8.IsWhole)

/-- The rows of a trip in an input block, and its rows in the two halves of the output block. -/
abbrev rowsAt (k : Fin k0_t1_loop.trips) : Rect S512x2048 := Rect.unit (s := S512x2048) (k0_off1 k) S16x2048.size (k0_off1_inb k)
abbrev firstHalf (k : Fin k0_t1_loop.trips) : Rect S512x4096 := Rect.unit (s := S512x4096) (k0_off2 k) S16x2048.size (k0_off2_inb k)
abbrev secondHalf (k : Fin k0_t1_loop.trips) : Rect S512x4096 := Rect.unit (s := S512x4096) (k0_off3 k) S16x2048.size (k0_off3_inb k)

/-- A weight block, read whole. -/
abbrev wholeRow : Rect S1x2048 := Rect.unit (s := S1x2048) ![0, 0] S1x2048.size inb_S1x2048_S1x2048_0_0

/-- A trip stores two pieces, one in each half. -/
theorem trip_pieces {F : FTy → Type} [FloatOps F] (X1 : BufTy.Contents (Elt F) arg1.view.ty) (X2 : BufTy.Contents (Elt F) arg2.view.ty)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (k : Fin k0_t1_loop.trips) :
    tripL_k0_t1 (F := F) Variants.none c none i arg1 harg1 arg2 harg2 arg3 harg3 arg4 harg4 arg5 harg5 arg6 harg6 arg7 harg7 arg8 harg8 X1 X2 X3 X4 X5 X6 X7 k
      = [⟨secondHalf k, k0_pay1 (k0_pay3 (arg5.view.readAt (Elt F) (rowsAt k).toLoadRect X5)) (k0_pay4 (arg5.view.readAt (Elt F) (rowsAt k).toLoadRect X5))
          (arg7.view.readAt (Elt F) wholeRow.toLoadRect X7) (arg4.view.readAt (Elt F) (rowsAt k).toLoadRect X4)⟩,
        ⟨firstHalf k, k0_pay2 (arg1.view.readAt (Elt F) (rowsAt k).toLoadRect X1) (arg2.view.readAt (Elt F) (rowsAt k).toLoadRect X2)
          (arg6.view.readAt (Elt F) wholeRow.toLoadRect X6) (arg3.view.readAt (Elt F) (rowsAt k).toLoadRect X3)⟩] := by
  unfold tripL_k0_t1 trip_k0_t1
  rfl

/-- An input block's rows of a trip, row by row. -/
theorem read_rows {arg : Memref sig .tc .vmem S512x2048 .bf16} (h : arg.IsWhole) (x : S512x2048.Idx → EReal) (k : Fin k0_t1_loop.trips)
    (r : Fin 16) (R : Fin 512) (hR : R.val = 16 * k.val + r.val) (q : Fin 2048) :
    arg.view.readAt (Elt Ideal) (rowsAt k).toLoadRect (h.unread x) (ix2 r q) = x (ix2 R q) := by
  rw [h.readAt_unread]
  refine congrArg x (funext fun a => Fin.ext ?_)
  match a with
  | ⟨0, _⟩ => show k0_off1 k 0 + 1 * r.val = R.val; rw [k0_off1_eq]; show 16 * k.val + 1 * r.val = _; omega
  | ⟨1, _⟩ => show k0_off1 k 1 + 1 * q.val = q.val; rw [k0_off1_eq]; show 0 + 1 * q.val = _; omega

/-- A weight block read whole is itself. -/
theorem read_row {arg : Memref sig .tc .vmem S1x2048 .f32} (h : arg.IsWhole) (w : S1x2048.Idx → EReal) :
    arg.view.readAt (Elt Ideal) wholeRow.toLoadRect (h.unread w) = w := by
  rw [View.readAt_full, h.read_unread]

variable (hf hb gr ga att : S512x2048.Idx → EReal) (wr wa : S1x2048.Idx → EReal)

theorem split_index (z : S16x2048.Idx) : z = ix2 (⟨(z 0).val, (z 0).isLt⟩ : Fin 16) (⟨(z 1).val, (z 1).isLt⟩ : Fin 2048) := by
  funext a
  match a with
  | ⟨0, _⟩ => rfl
  | ⟨1, _⟩ => rfl

/-- A trip's first piece puts the block's own elements where they belong, -/
theorem first_eq (k : Fin k0_t1_loop.trips) (z : S16x2048.Idx) :
    k0_pay2 (F := Ideal) (arg1.view.readAt (Elt Ideal) (rowsAt k).toLoadRect (harg1.unread hf))
      (arg2.view.readAt (Elt Ideal) (rowsAt k).toLoadRect (harg2.unread hb)) (arg6.view.readAt (Elt Ideal) wholeRow.toLoadRect (harg6.unread wr))
      (arg3.view.readAt (Elt Ideal) (rowsAt k).toLoadRect (harg3.unread gr)) z
      = block hf hb gr ga att wr wa ((firstHalf k).emb z) := by
  have h0 : (z 0).val < 16 := (z 0).isLt
  have h1 : (z 1).val < 2048 := (z 1).isLt
  have e0 : (((firstHalf k).emb z) 0).val = 16 * k.val + (z 0).val := by
    show k0_off2 k 0 + 1 * (z 0).val = _
    rw [k0_off2_eq]; show 16 * k.val + 1 * (z 0).val = _; omega
  have e1 : (((firstHalf k).emb z) 1).val = (z 1).val := by
    show k0_off2 k 1 + 1 * (z 1).val = _
    rw [k0_off2_eq]; show 0 + 1 * (z 1).val = _; omega
  have q : halfCol (((firstHalf k).emb z) 1) = ⟨(z 1).val, h1⟩ := Fin.ext (by
    show (((firstHalf k).emb z) 1).val % 2048 = (z 1).val; omega)
  rw [read_row]
  refine ((congrArg _ (split_index z)).trans (recurrence_apply _ _ _ _ ⟨(z 0).val, h0⟩ ⟨(z 1).val, h1⟩)).trans ?_
  unfold block
  rw [if_pos (by omega), q, read_rows harg3 gr k ⟨(z 0).val, h0⟩ (((firstHalf k).emb z) 0) e0]
  refine congrArg (fun row => gated tanhSilu row _ _ _) (funext fun n => ?_)
  rw [read_rows harg1 hf k ⟨(z 0).val, h0⟩ (((firstHalf k).emb z) 0) e0, read_rows harg2 hb k ⟨(z 0).val, h0⟩ (((firstHalf k).emb z) 0) e0]

/-- so does its second, -/
theorem second_eq (k : Fin k0_t1_loop.trips) (z : S16x2048.Idx) :
    k0_pay1 (F := Ideal) (k0_pay3 (arg5.view.readAt (Elt Ideal) (rowsAt k).toLoadRect (harg5.unread att)))
      (k0_pay4 (arg5.view.readAt (Elt Ideal) (rowsAt k).toLoadRect (harg5.unread att))) (arg7.view.readAt (Elt Ideal) wholeRow.toLoadRect (harg7.unread wa))
      (arg4.view.readAt (Elt Ideal) (rowsAt k).toLoadRect (harg4.unread ga)) z
      = block hf hb gr ga att wr wa ((secondHalf k).emb z) := by
  have h0 : (z 0).val < 16 := (z 0).isLt
  have h1 : (z 1).val < 2048 := (z 1).isLt
  have e0 : (((secondHalf k).emb z) 0).val = 16 * k.val + (z 0).val := by
    show k0_off3 k 0 + 1 * (z 0).val = _
    rw [k0_off3_eq]; show 16 * k.val + 1 * (z 0).val = _; omega
  have e1 : (((secondHalf k).emb z) 1).val = 2048 + (z 1).val := by
    show k0_off3 k 1 + 1 * (z 1).val = _
    rw [k0_off3_eq]; show 2048 + 1 * (z 1).val = _; omega
  have q : halfCol (((secondHalf k).emb z) 1) = ⟨(z 1).val, h1⟩ := Fin.ext (by
    show (((secondHalf k).emb z) 1).val % 2048 = (z 1).val; omega)
  rw [read_row]
  refine ((congrArg _ (split_index z)).trans (attention_apply _ _ _ ⟨(z 0).val, h0⟩ ⟨(z 1).val, h1⟩)).trans ?_
  unfold block
  rw [if_neg (by omega), q, read_rows harg4 ga k ⟨(z 0).val, h0⟩ (((secondHalf k).emb z) 0) e0]
  refine congrArg (fun row => gated tanhSilu row _ _ _) (funext fun n => ?_)
  rw [read_rows harg5 att k ⟨(z 0).val, h0⟩ (((secondHalf k).emb z) 0) e0]

/-- so the pieces of the trips before any count do, -/
theorem pieces_eq : ∀ k : ℕ, k ≤ k0_t1_loop.trips → ∀ p ∈ pb_k0_t1 (F := Ideal) Variants.none c none i arg1 harg1 arg2 harg2 arg3 harg3 arg4 harg4 arg5 harg5 arg6 harg6 arg7 harg7 arg8 harg8
    (harg1.unread hf) (harg2.unread hb) (harg3.unread gr) (harg4.unread ga) (harg5.unread att) (harg6.unread wr) (harg7.unread wa) k,
    ∀ z : p.1.shape.Idx, p.2 z = block hf hb gr ga att wr wa (p.1.emb z)
  | 0, _ => fun p hp => absurd hp List.not_mem_nil
  | k + 1, hk => by
    intro p hp
    rw [pb_k0_t1_succ (F := Ideal) Variants.none c none i arg1 harg1 arg2 harg2 arg3 harg3 arg4 harg4 arg5 harg5 arg6 harg6 arg7 harg7 arg8 harg8
      (harg1.unread hf) (harg2.unread hb) (harg3.unread gr) (harg4.unread ga) (harg5.unread att) (harg6.unread wr) (harg7.unread wa) ⟨k, hk⟩,
      trip_pieces] at hp
    rcases List.mem_cons.mp hp with rfl | hp
    · exact second_eq arg4 harg4 arg5 harg5 arg7 harg7 hf hb gr ga att wr wa ⟨k, hk⟩
    rcases List.mem_cons.mp hp with rfl | hp
    · exact first_eq arg1 harg1 arg2 harg2 arg3 harg3 arg6 harg6 hf hb gr ga att wr wa ⟨k, hk⟩
    · exact pieces_eq k (Nat.le_of_lt hk) p hp

/-- and the run's output block is `block`. -/
theorem out_eq : out0_A_7 (F := Ideal) c i arg1 harg1 arg2 harg2 arg3 harg3 arg4 harg4 arg5 harg5 arg6 harg6 arg7 harg7 arg8 harg8 hf hb gr ga att wr wa = block hf hb gr ga att wr wa := by
  funext y
  refine View.read_writes_apply_of_pieces _ _ (block hf hb gr ga att wr wa) _ ?_ y
    (cover0_A_7 (F := Ideal) c i arg1 harg1 arg2 harg2 arg3 harg3 arg4 harg4 arg5 harg5 arg6 harg6 arg7 harg7 arg8 harg8 hf hb gr ga att wr wa y)
  unfold kernelRun0_A
  dsimp only
  sl_unfold_run_names
  exact pieces_eq c i arg1 harg1 arg2 harg2 arg3 harg3 arg4 harg4 arg5 harg5 arg6 harg6 arg7 harg7 arg8 harg8 hf hb gr ga att wr wa _ (le_refl _)

end Cert.Gating
-- ==== Proof.GateValue.lean ====
/- The gate call's value: the kernel's output array, with its activations by the hyperbolic tangent. -/
module

public import proofs.«01_k».proof.Proof.GateBlock
public import Idealize.ShloMosaic.Lib.StableHlo.RunRead
public import Idealize.ShloMosaic.Lib.Claim

@[expose] public section

set_option maxRecDepth 100000

noncomputable section

namespace Cert.Gating

open Cert.GateIdeal Cert.GateIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (c : Dev nD)

/-- The six arguments. -/
abbrev forward : S2x4096x2048.Idx → EReal := m ((c.tc : Thread nD τ).loc main_arg0)
abbrev backward : S2x4096x2048.Idx → EReal := m ((c.tc : Thread nD τ).loc main_arg1)
abbrev packed : S2x4096x12288.Idx → EReal := m ((c.tc : Thread nD τ).loc main_arg2)
abbrev attended : S2x4096x2048.Idx → EReal := m ((c.tc : Thread nD τ).loc main_arg3)
abbrev recurrenceWeight : S4x2048.Idx → EReal := m ((c.tc : Thread nD τ).loc main_arg4)
abbrev attentionWeight : S4x2048.Idx → EReal := m ((c.tc : Thread nD τ).loc main_arg5)

theorem V_forward : V m c main_v0 = shapeCast S8192x2048 (forward m c) shapeCasts_S2x4096x2048_S8192x2048 := by
  unfold_abbrev_sides
  simp only [hostOps0, List.flatten_cons, List.flatten_nil, List.append_nil, List.cons_append, List.nil_append]
  after_reads_simp
  rfl
theorem V_backward : V m c main_v1 = shapeCast S8192x2048 (backward m c) shapeCasts_S2x4096x2048_S8192x2048 := by
  unfold_abbrev_sides
  simp only [hostOps0, List.flatten_cons, List.flatten_nil, List.append_nil, List.cons_append, List.nil_append]
  after_reads_simp
  rfl
theorem V_packed : V m c main_v2 = shapeCast S8192x12288 (packed m c) shapeCasts_S2x4096x12288_S8192x12288 := by
  unfold_abbrev_sides
  simp only [hostOps0, List.flatten_cons, List.flatten_nil, List.append_nil, List.cons_append, List.nil_append]
  after_reads_simp
  rfl
theorem V_attended : V m c main_v3 = shapeCast S8192x2048 (attended m c) shapeCasts_S2x4096x2048_S8192x2048 := by
  unfold_abbrev_sides
  simp only [hostOps0, List.flatten_cons, List.flatten_nil, List.append_nil, List.cons_append, List.nil_append]
  after_reads_simp
  rfl
theorem V_recurrenceWeight : V m c main_v8 = shapeCast S1x2048 (shapeCast S2048 (extractStridedSlice S1x2048 ![0, 0] (recurrenceWeight m c)
    slices_S4x2048_S1x2048_0_0) shapeCasts_S1x2048_S2048) shapeCasts_S2048_S1x2048 := by
  unfold_abbrev_sides
  simp only [hostOps0, List.flatten_cons, List.flatten_nil, List.append_nil, List.cons_append, List.nil_append]
  after_reads_simp
  rfl
theorem V_attentionWeight : V m c main_v9 = shapeCast S1x2048 (shapeCast S2048 (extractStridedSlice S1x2048 ![0, 0] (attentionWeight m c)
    slices_S4x2048_S1x2048_0_0) shapeCasts_S1x2048_S2048) shapeCasts_S2048_S1x2048 := by
  unfold_abbrev_sides
  simp only [hostOps0, List.flatten_cons, List.flatten_nil, List.append_nil, List.cons_append, List.nil_append]
  after_reads_simp
  rfl

theorem index_maps : ∀ t : Fin cfg0.N, win0_0.index t = ![t.val, 0] ∧ win0_1.index t = ![t.val, 0] ∧ win0_2.index t = ![t.val, 1]
    ∧ win0_3.index t = ![t.val, 5] ∧ win0_4.index t = ![t.val, 0] ∧ win0_5.index t = ![0, 0] ∧ win0_6.index t = ![0, 0]
    ∧ win0_7.index t = ![t.val, 0] := by
  decide +kernel

theorem points (t : Fin cfg0.N) : t.val < 16 := t.isLt

/-- A point's rows of the forward recurrence, -/
theorem block_forward (t : Fin cfg0.N) (r : Fin 512) (k : Fin 2048) :
    iblk m c 0 t (ix2 r k) = forward m c (ix3 (⟨t.val / 8, by have := points t; omega⟩ : Fin 2) (⟨512 * (t.val % 8) + r.val, by omega⟩ : Fin 4096) k) := by
  have hr := r.isLt; have hk := k.isLt; have ht := points t
  refine Eq.trans ?_ (shapeCast_apply (forward m c) shapeCasts_S2x4096x2048_S8192x2048
    (ix2 (⟨512 * t.val + r.val, by omega⟩ : Fin 8192) k) _ (by
      rw [Shape.rowMajor_val_three, Shape.rowMajor_val_two]
      show (t.val / 8 * 4096 + (512 * (t.val % 8) + r.val)) * 2048 + k.val = (512 * t.val + r.val) * 2048 + k.val
      omega))
  rw [← V_forward]
  blk_ext [iblk, (index_maps t).1]
/-- of the backward recurrence, -/
theorem block_backward (t : Fin cfg0.N) (r : Fin 512) (k : Fin 2048) :
    iblk m c 1 t (ix2 r k) = backward m c (ix3 (⟨t.val / 8, by have := points t; omega⟩ : Fin 2) (⟨512 * (t.val % 8) + r.val, by omega⟩ : Fin 4096) k) := by
  have hr := r.isLt; have hk := k.isLt; have ht := points t
  refine Eq.trans ?_ (shapeCast_apply (backward m c) shapeCasts_S2x4096x2048_S8192x2048
    (ix2 (⟨512 * t.val + r.val, by omega⟩ : Fin 8192) k) _ (by
      rw [Shape.rowMajor_val_three, Shape.rowMajor_val_two]
      show (t.val / 8 * 4096 + (512 * (t.val % 8) + r.val)) * 2048 + k.val = (512 * t.val + r.val) * 2048 + k.val
      omega))
  rw [← V_backward]
  blk_ext [iblk, (index_maps t).2.1]
/-- of the recurrence's gate, -/
theorem block_recurrenceGate (t : Fin cfg0.N) (r : Fin 512) (k : Fin 2048) :
    iblk m c 2 t (ix2 r k) = packed m c (ix3 (⟨t.val / 8, by have := points t; omega⟩ : Fin 2) (⟨512 * (t.val % 8) + r.val, by omega⟩ : Fin 4096) (recurrenceGate k)) := by
  have hr := r.isLt; have hk := k.isLt; have ht := points t
  refine Eq.trans ?_ (shapeCast_apply (packed m c) shapeCasts_S2x4096x12288_S8192x12288
    (ix2 (⟨512 * t.val + r.val, by omega⟩ : Fin 8192) (recurrenceGate k)) _ (by
      rw [Shape.rowMajor_val_three, Shape.rowMajor_val_two]
      show (t.val / 8 * 4096 + (512 * (t.val % 8) + r.val)) * 12288 + (2048 + k.val) = (512 * t.val + r.val) * 12288 + (2048 + k.val)
      omega))
  rw [← V_packed]
  blk_ext [iblk, (index_maps t).2.2.1]
  show _ = 2048 + k.val
  omega
/-- of the attention's gate, -/
theorem block_attentionGate (t : Fin cfg0.N) (r : Fin 512) (k : Fin 2048) :
    iblk m c 3 t (ix2 r k) = packed m c (ix3 (⟨t.val / 8, by have := points t; omega⟩ : Fin 2) (⟨512 * (t.val % 8) + r.val, by omega⟩ : Fin 4096) (attentionGate k)) := by
  have hr := r.isLt; have hk := k.isLt; have ht := points t
  refine Eq.trans ?_ (shapeCast_apply (packed m c) shapeCasts_S2x4096x12288_S8192x12288
    (ix2 (⟨512 * t.val + r.val, by omega⟩ : Fin 8192) (attentionGate k)) _ (by
      rw [Shape.rowMajor_val_three, Shape.rowMajor_val_two]
      show (t.val / 8 * 4096 + (512 * (t.val % 8) + r.val)) * 12288 + (10240 + k.val) = (512 * t.val + r.val) * 12288 + (10240 + k.val)
      omega))
  rw [← V_packed]
  blk_ext [iblk, (index_maps t).2.2.2.1]
  show _ = 10240 + k.val
  omega
/-- of the attention; -/
theorem block_attended (t : Fin cfg0.N) (r : Fin 512) (k : Fin 2048) :
    iblk m c 4 t (ix2 r k) = attended m c (ix3 (⟨t.val / 8, by have := points t; omega⟩ : Fin 2) (⟨512 * (t.val % 8) + r.val, by omega⟩ : Fin 4096) k) := by
  have hr := r.isLt; have hk := k.isLt; have ht := points t
  refine Eq.trans ?_ (shapeCast_apply (attended m c) shapeCasts_S2x4096x2048_S8192x2048
    (ix2 (⟨512 * t.val + r.val, by omega⟩ : Fin 8192) k) _ (by
      rw [Shape.rowMajor_val_three, Shape.rowMajor_val_two]
      show (t.val / 8 * 4096 + (512 * (t.val % 8) + r.val)) * 2048 + k.val = (512 * t.val + r.val) * 2048 + k.val
      omega))
  rw [← V_attended]
  blk_ext [iblk, (index_maps t).2.2.2.2.1]
/-- the first layer's weights of the recurrence, -/
theorem block_recurrenceWeight (t : Fin cfg0.N) (q : Fin 2048) : iblk m c 5 t (ix2 (0 : Fin 1) q) = recurrenceWeight m c (ix2 (0 : Fin 4) q) := by
  have hq := q.isLt
  have e : V m c main_v8 (ix2 (0 : Fin 1) q) = recurrenceWeight m c (ix2 (0 : Fin 4) q) := by
    rw [V_recurrenceWeight, shapeCast_apply _ shapeCasts_S2048_S1x2048 _ (ix1 q) (by
        rw [Shape.rowMajor_val_one, Shape.rowMajor_val_two]; show q.val = 0 * 2048 + q.val; omega),
      shapeCast_apply _ shapeCasts_S1x2048_S2048 _ (ix2 (0 : Fin 1) q) (by
        rw [Shape.rowMajor_val_one, Shape.rowMajor_val_two]; show 0 * 2048 + q.val = q.val; omega)]
    refine congrArg (recurrenceWeight m c) (funext fun a => Fin.ext ?_)
    match a with
    | ⟨0, _⟩ => rfl
    | ⟨1, _⟩ => show 0 + q.val = q.val; omega
  refine Eq.trans ?_ e
  blk_ext [iblk, (index_maps t).2.2.2.2.2.1]
/-- and of the attention. -/
theorem block_attentionWeight (t : Fin cfg0.N) (q : Fin 2048) : iblk m c 6 t (ix2 (0 : Fin 1) q) = attentionWeight m c (ix2 (0 : Fin 4) q) := by
  have hq := q.isLt
  have e : V m c main_v9 (ix2 (0 : Fin 1) q) = attentionWeight m c (ix2 (0 : Fin 4) q) := by
    rw [V_attentionWeight, shapeCast_apply _ shapeCasts_S2048_S1x2048 _ (ix1 q) (by
        rw [Shape.rowMajor_val_one, Shape.rowMajor_val_two]; show q.val = 0 * 2048 + q.val; omega),
      shapeCast_apply _ shapeCasts_S1x2048_S2048 _ (ix2 (0 : Fin 1) q) (by
        rw [Shape.rowMajor_val_one, Shape.rowMajor_val_two]; show 0 * 2048 + q.val = q.val; omega)]
    refine congrArg (attentionWeight m c) (funext fun a => Fin.ext ?_)
    match a with
    | ⟨0, _⟩ => rfl
    | ⟨1, _⟩ => show 0 + q.val = q.val; omega
  refine Eq.trans ?_ e
  blk_ext [iblk, (index_maps t).2.2.2.2.2.2.1]

/-! ## The array -/

/-- Two rows summed. -/
theorem sum_rows (x x' : S512x2048.Idx → EReal) (r : Fin 512) (f f' : Fin 2048 → EReal) (h : ∀ k, x (ix2 r k) = f k)
    (h' : ∀ k, x' (ix2 r k) = f' k) : (fun k : Fin 2048 => x (ix2 r k) + x' (ix2 r k)) = fun k => f k + f' k :=
  funext fun k => by rw [h, h']

theorem array_eq : (dats m 0 c).arrAt 7 cfg0.N = joinedResult tanhSilu (forward m c) (backward m c) (packed m c) (attended m c) (recurrenceWeight m c) (attentionWeight m c) := by
  refine (dats m 0 c).arrAt_eq_of_covers 7 _ (by decide +kernel) fun t hf y => ?_
  blk_simp
  rw [after0_7]
  unfold outsAt0
  rw [out_eq]
  have hy0 : (y 0).val < 512 := (y 0).isLt
  have hy1 : (y 1).val < 4096 := (y 1).isLt
  have ht := points t
  have h0 : (((win0_7.blk t).view.emb y) 0).val = t.val * 512 + (y 0).val := by blk_simp [(index_maps t).2.2.2.2.2.2.2]
  have h1 : (((win0_7.blk t).view.emb y) 1).val = (y 1).val := by blk_simp [(index_maps t).2.2.2.2.2.2.2]
  have e0 : (⟨t.val / 8, by omega⟩ : Fin 2) = ⟨(((win0_7.blk t).view.emb y) 0).val / 4096, by omega⟩ := Fin.ext (by
    show t.val / 8 = (((win0_7.blk t).view.emb y) 0).val / 4096; omega)
  have e1 : (⟨512 * (t.val % 8) + (y 0).val, by omega⟩ : Fin 4096) = ⟨(((win0_7.blk t).view.emb y) 0).val % 4096, by omega⟩ :=
    Fin.ext (by show 512 * (t.val % 8) + (y 0).val = (((win0_7.blk t).view.emb y) 0).val % 4096; omega)
  have e2 : (⟨(y 1).val, hy1⟩ : Fin 4096) = ((win0_7.blk t).view.emb y) 1 := Fin.ext h1.symm
  unfold block
  rw [block_recurrenceWeight, block_attentionWeight, block_recurrenceGate m c t (y 0), block_attentionGate m c t (y 0),
    sum_rows (iblk m c 0 t) (iblk m c 1 t) (y 0) _ _ (block_forward m c t (y 0)) (block_backward m c t (y 0)),
    show (fun k => iblk m c 4 t (ix2 (y 0) k)) = _ from funext fun k => block_attended m c t (y 0) k]
  unfold joinedResult gate
  rw [← e0, ← e1, ← e2]
  rfl

/-! ## The result -/

theorem split_joined (act : EReal → EReal) (hf hb : S2x4096x2048.Idx → EReal) (p : S2x4096x12288.Idx → EReal) (att : S2x4096x2048.Idx → EReal)
    (wr wa : S4x2048.Idx → EReal) :
    shapeCast S2x4096x4096 (joinedResult act hf hb p att wr wa) shapeCasts_S8192x4096_S2x4096x4096 = result act hf hb p att wr wa := by
  funext i
  have h0 : (i 0).val < 2 := (i 0).isLt
  have h1 : (i 1).val < 4096 := (i 1).isLt
  have h2 : (i 2).val < 4096 := (i 2).isLt
  rw [shapeCast_apply _ _ _ (ix2 (⟨4096 * (i 0).val + (i 1).val, by omega⟩ : Fin 8192) (⟨(i 2).val, h2⟩ : Fin 4096)) (by
    rw [Shape.rowMajor_val_three, Shape.rowMajor_val_two]
    show (4096 * (i 0).val + (i 1).val) * 4096 + (i 2).val = ((i 0).val * 4096 + (i 1).val) * 4096 + (i 2).val
    omega)]
  show gate act hf hb p att wr wa _ _ _ = gate act hf hb p att wr wa _ _ _
  have e0 : (⟨(4096 * (i 0).val + (i 1).val) / 4096, by omega⟩ : Fin 2) = i 0 := Fin.ext (by show _ / 4096 = _; omega)
  have e1 : (⟨(4096 * (i 0).val + (i 1).val) % 4096, by omega⟩ : Fin 4096) = i 1 := Fin.ext (by show _ % 4096 = _; omega)
  exact congrArg₂ (fun b t => gate act hf hb p att wr wa b t (i 2)) e0 e1

/-- What the program leaves in its result. -/
theorem W_result : Pipeline.afterTail₀ cfgs (dats m) 0 (V0 m) [hostOps1] c main_v11
    = result tanhSilu (forward m c) (backward m c) (packed m c) (attended m c) (recurrenceWeight m c) (attentionWeight m c) := by
  have harr : Pipeline.withArrays spec0 c (V0 m c) (fun k => (dats m 0 c).arrAt k cfg0.N) (Proc.devRef .tc main_v10)
      = joinedResult tanhSilu (forward m c) (backward m c) (packed m c) (attended m c) (recurrenceWeight m c) (attentionWeight m c) :=
    (Pipeline.withArrays_arr_shared spec0 c (V0 m c) (fun k => (dats m 0 c).arrAt k cfg0.N)
      (fun k k' hne e => ((dats m 0 c).arrAt_in k ((by decide : ∀ k k' : Fin 8, k ≠ k' → Pipeline.arrRef spec0 k = Pipeline.arrRef spec0 k' → (cfg0.win k).isOut = false) k k' hne e) _).trans (A_eq m c k)) 7).trans
      (array_eq m c)
  rw [← split_joined, ← harr]
  unfold Pipeline.afterTail₀
  simp only [hostOps1, List.flatten_cons, List.flatten_nil, List.append_nil]
  after_reads_simp
  rfl

end Cert.Gating
-- ==== Proof.GateKernel.lean ====
/- The gate call and its idealized form are one text: the same body table and the same `@main`, so the run proved
   over any float values is also the kernel's. -/
module

public import proofs.«01_k».proof.Proof.Gen.GateIdeal.Frame
public import proofs.«01_k».proof.Proof.Gen.Gate

@[expose] public section

set_option maxRecDepth 65536

noncomputable section

namespace Cert.Gate.Gen

open Idealize.ShloMosaic Idealize.SL.Sem

attribute [local instance] Cert.Gate.Gen.facts Cert.GateIdeal.Gen.facts

variable {F : FTy → Type} [FloatOps F]

theorem defs₀_same : Cert.Gate.defs₀ (F := F) = Cert.GateIdeal.defs₀ := by
  unfold Cert.Gate.defs₀ Cert.GateIdeal.defs₀
  refine congrArg _ (funext fun l => funext fun a => ?_)
  match l, a with
  | ⟨0, _⟩, (t, s) => rfl
  | ⟨_ + 1, h⟩, _ => exact absurd h (Nat.not_lt.2 (Nat.le_add_left _ _))

theorem defs_same : Cert.Gate.defs (F := F) = Cert.GateIdeal.defs := by
  unfold Cert.Gate.defs Cert.GateIdeal.defs
  exact congrArg (Pipeline.defs Cert.Gate.pcfgs) defs₀_same

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_same]
  exact Cert.GateIdeal.Gen.frame m ρ

end Cert.Gate.Gen
-- ==== Proof.FinalNormRun.lean ====
/- The last norm's body, run. Its first loop writes the whole scratch, sixteen rows at a time, one lane block after
   another; its second writes the whole of the output block out of that scratch. Both loops cover what they write, so
   neither the output block nor the scratch depends on what was there before. -/
module

public import proofs.«01_k».proof.Proof.Gen.FinalNormIdeal.Frame.Runs
public import proofs.«01_k».proof.Proof.Gen.FinalNormIdeal.Loops
public import Idealize.ShloMosaic.Lib.Pipeline.ValueKit
public import Idealize.ShloMosaic.Lib.Pointwise
public import Idealize.ShloMosaic.Lib.WholeRead
public import Idealize.ShloMosaic.Lib.Pipeline.ValueKit
public import Idealize.ShloMosaic.Lib.Pointwise
public import Idealize.ShloMosaic.Lib.WholeRead
public import Idealize.ShloMosaic.Lib.Pipeline.ValueKit
public import Idealize.ShloMosaic.Lib.Pointwise
public import Idealize.ShloMosaic.Lib.WholeRead
public import Idealize.ShloMosaic.Lib.Pipeline.ValueKit
public import Idealize.ShloMosaic.Lib.Pointwise
public import Idealize.ShloMosaic.Lib.WholeRead
public import Idealize.ShloMosaic.Lib.Pipeline.ValueKit
public import Idealize.ShloMosaic.Lib.Pointwise
public import Idealize.ShloMosaic.Lib.WholeRead
public import Idealize.ShloMosaic.Lib.VecWindow

@[expose] public section

set_option maxRecDepth 16384

noncomputable section

namespace Cert.FinalNormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the two loops compute -/

theorem trips1 : k0_t1_loop.trips = 16 := by decide +kernel
theorem trips2 : k0_t2_loop.trips = 32 := by decide +kernel

/-- Sixteen rows of a block. -/
def rowsOf (x : Vec F S256x4096 .f32) (q : Fin 16) : Vec F S16x4096 .f32 := fun z =>
  x (ix2 (⟨16 * q.val + (z 0).val, by have h : (z 0).val < 16 := (z 0).isLt; omega⟩ : Fin 256) (⟨(z 1).val, (z 1).isLt⟩ : Fin 4096))

/-- The block's rows, normalized. -/
def normed (x : Vec F S256x4096 .f32) (g : Vec F S1x4096 .f32) : Vec F S256x4096 .f32 := fun z =>
  k0_pay9 (rowsOf x ⟨(z 0).val / 16, by have h : (z 0).val < 256 := (z 0).isLt; omega⟩) g
    (ix2 (⟨(z 0).val % 16, Nat.mod_lt _ (by omega)⟩ : Fin 16) (⟨(z 1).val, (z 1).isLt⟩ : Fin 4096))

theorem normed_of (x : Vec F S256x4096 .f32) (g : Vec F S1x4096 .f32) (q : Fin 16) (r : Fin 16) (l : Fin 4096) (z : S256x4096.Idx)
    (h0 : (z 0).val = 16 * q.val + r.val) (h1 : (z 1).val = l.val) : normed x g z = k0_pay9 (rowsOf x q) g (ix2 r l) := by
  have a : ∀ h, (⟨(z 0).val / 16, h⟩ : Fin 16) = q := fun h => Fin.ext (by show (z 0).val / 16 = _; omega)
  have b : ∀ h, (⟨(z 0).val % 16, h⟩ : Fin 16) = r := fun h => Fin.ext (by show (z 0).val % 16 = _; omega)
  have d : ∀ h, (⟨(z 1).val, h⟩ : Fin 4096) = l := fun h => Fin.ext h1
  unfold normed
  rw [a, b]
  exact congrArg (fun n => k0_pay9 (rowsOf x q) g (ix2 r n)) (d _)

/-- The scratch after the first loop: by lane block, row and lane. -/
def slabs (x : Vec F S256x4096 .f32) (g : Vec F S1x4096 .f32) : Vec F S32x256x128 .f32 := fun z =>
  normed x g (ix2 (⟨(z 1).val, (z 1).isLt⟩ : Fin 256)
    (⟨128 * (z 0).val + (z 2).val, by have h : (z 0).val < 32 := (z 0).isLt; have h' : (z 2).val < 128 := (z 2).isLt; omega⟩ : Fin 4096))

/-- The output block after the second: row `32 k + s` is the scratch's row `8 s + k`. -/
def reordered (T : Vec F S32x256x128 .f32) : Vec F S256x4096 .f32 := fun z =>
  T (ix3 (⟨(z 1).val / 128, by have h : (z 1).val < 4096 := (z 1).isLt; omega⟩ : Fin 32)
    (⟨8 * ((z 0).val % 32) + (z 0).val / 32, by have h : (z 0).val < 256 := (z 0).isLt; omega⟩ : Fin 256)
    (⟨(z 1).val % 128, Nat.mod_lt _ (by omega)⟩ : Fin 128))

/-! ## The pieces they store -/

/-- The first loop's stores: lane block `j` of the rows of trip `k`. -/
theorem slab_piece (x : Vec F S256x4096 .f32) (g : Vec F S1x4096 .f32) (j : Fin 32) (k : Fin k0_t1_loop.trips) {off : Fin 3 → ℕ}
    (e : off = ![j.val, 16 * k.val, 0]) (w : ℕ) (hw : w = 128 * j.val) (inb) (hs : S16x4096.Slices ![0, w] S16x128)
    (X : Vec F S16x4096 .f32) (Y : Vec F S1x4096 .f32) (hX : X = rowsOf x (k.cast trips1)) (hY : Y = g)
    (z : S1x16x128.Idx) :
    shapeCast S1x16x128 (extractStridedSlice S16x128 ![0, w] (k0_pay9 X Y) hs) shapeCasts_S16x128_S1x16x128 z
      = slabs x g ((Rect.unit (s := S32x256x128) off S1x16x128.size inb).emb z) := by
  subst e hw hX hY
  have h0 : (z 0).val < 1 := (z 0).isLt
  have h1 : (z 1).val < 16 := (z 1).isLt
  have h2 : (z 2).val < 128 := (z 2).isLt
  have hj := j.isLt
  have e0 : ((Rect.unit (s := S32x256x128) ![j.val, 16 * k.val, 0] S1x16x128.size inb).emb z 0).val = j.val + (z 0).val :=
    ValueKit.rect_emb_unit_val _ _ _ _ _
  have e1 : ((Rect.unit (s := S32x256x128) ![j.val, 16 * k.val, 0] S1x16x128.size inb).emb z 1).val = 16 * k.val + (z 1).val :=
    ValueKit.rect_emb_unit_val _ _ _ _ _
  have e2 : ((Rect.unit (s := S32x256x128) ![j.val, 16 * k.val, 0] S1x16x128.size inb).emb z 2).val = 0 + (z 2).val :=
    ValueKit.rect_emb_unit_val _ _ _ _ _
  rw [shapeCast_apply _ _ z (ix2 (⟨(z 1).val, h1⟩ : Fin 16) (⟨(z 2).val, h2⟩ : Fin 128)) (by
      rw [Shape.rowMajor_val_three, Shape.rowMajor_val_two]
      show (z 1).val * 128 + (z 2).val = ((z 0).val * 16 + (z 1).val) * 128 + (z 2).val
      omega),
    extractStridedSlice_apply _ _ _ _ (ix2 (⟨(z 1).val, h1⟩ : Fin 16) (⟨128 * j.val + (z 2).val, by omega⟩ : Fin 4096)) (by
      intro a
      match a with
      | ⟨0, _⟩ => show (z 1).val = 0 + (z 1).val; omega
      | ⟨1, _⟩ => rfl)]
  unfold slabs
  refine (normed_of x _ (k.cast trips1) _ _ _ ?_ ?_).symm
  · exact e1
  · show 128 * ((Rect.unit (s := S32x256x128) ![j.val, 16 * k.val, 0] S1x16x128.size inb).emb z 0).val
      + ((Rect.unit (s := S32x256x128) ![j.val, 16 * k.val, 0] S1x16x128.size inb).emb z 2).val = 128 * j.val + (z 2).val
    rw [e0, e2]; omega

/-- The second loop's stores: rows `32 q` to `32 q + 31` of lane block `k`, every eighth row of the scratch from `q` on. -/
theorem row_piece (arg4 : Memref sig .tc .vmem S32x256x128 .f32) (harg4 : arg4.IsWhole) (T : Vec F S32x256x128 .f32) (q : Fin 8)
    (k : Fin k0_t2_loop.trips) {off : Fin 2 → ℕ} {off' : Fin 3 → ℕ} (w : ℕ) (hw : w = 32 * q.val) (e : off = ![w, 128 * k.val])
    (e' : off' = ![k.val, q.val, 0]) (inb) (inb')
    (z : S32x128.Idx) :
    shapeCast S32x128 (arg4.view.readAt (Elt F) ({ off := off', size := S1x32x128.size, stride := ![1, 8, 1], inb := inb' } : LoadRect S32x256x128)
        (harg4.unread T)) shapeCasts_S1x32x128_S32x128 z
      = reordered T ((Rect.unit (s := S256x4096) off S32x128.size inb).emb z) := by
  subst hw e e'
  have h0 : (z 0).val < 32 := (z 0).isLt
  have h1 : (z 1).val < 128 := (z 1).isLt
  have hq := q.isLt
  have e0 : ((Rect.unit (s := S256x4096) ![32 * q.val, 128 * k.val] S32x128.size inb).emb z 0).val = 32 * q.val + (z 0).val :=
    ValueKit.rect_emb_unit_val _ _ _ _ _
  have e1 : ((Rect.unit (s := S256x4096) ![32 * q.val, 128 * k.val] S32x128.size inb).emb z 1).val = 128 * k.val + (z 1).val :=
    ValueKit.rect_emb_unit_val _ _ _ _ _
  rw [shapeCast_apply _ _ z (ix3 (0 : Fin 1) (⟨(z 0).val, h0⟩ : Fin 32) (⟨(z 1).val, h1⟩ : Fin 128)) (by
      rw [Shape.rowMajor_val_three, Shape.rowMajor_val_two]
      show (0 * 32 + (z 0).val) * 128 + (z 1).val = (z 0).val * 128 + (z 1).val
      omega), harg4.readAt_unread]
  unfold reordered
  refine congrArg T (funext fun a => Fin.ext ?_)
  rw [LoadRect.idx_apply]
  match a with
  | ⟨0, _⟩ =>
    show k.val + 1 * 0 = ((Rect.unit (s := S256x4096) ![32 * q.val, 128 * k.val] S32x128.size inb).emb z 1).val / 128
    rw [e1]; omega
  | ⟨1, _⟩ =>
    show q.val + 8 * (z 0).val = 8 * (((Rect.unit (s := S256x4096) ![32 * q.val, 128 * k.val] S32x128.size inb).emb z 0).val % 32)
      + ((Rect.unit (s := S256x4096) ![32 * q.val, 128 * k.val] S32x128.size inb).emb z 0).val / 32
    rw [e0]; omega
  | ⟨2, _⟩ =>
    show 0 + 1 * (z 1).val = ((Rect.unit (s := S256x4096) ![32 * q.val, 128 * k.val] S32x128.size inb).emb z 1).val % 128
    rw [e1]; omega

section Pieces
variable (c : Dev nD) (i : grid0.Coords) (arg1 : Memref sig .tc .vmem S256x4096 .f32) (harg1 : arg1.IsWhole)
  (arg2 : Memref sig .tc .vmem S1x4096 .f32) (harg2 : arg2.IsWhole) (arg3 : Memref sig .tc .vmem S256x4096 .f32) (harg3 : arg3.IsWhole)
  (arg4 : Memref sig .tc .vmem S32x256x128 .f32) (harg4 : arg4.IsWhole) (x : Vec F S256x4096 .f32) (g : Vec F S1x4096 .f32)
  (T : Vec F S32x256x128 .f32)

/-- What trip `k` loads: its rows, and the weight. -/
theorem rows_read (k : Fin k0_t1_loop.trips) :
    arg1.view.readAt (Elt F) (Rect.unit (s := S256x4096) (k0_off1 k) S16x4096.size (k0_off1_inb k)).toLoadRect (harg1.unread x)
      = rowsOf x (k.cast trips1) := by
  funext z
  rw [harg1.readAt_unread]
  unfold rowsOf
  refine congrArg x (funext fun a => Fin.ext ?_)
  match a with
  | ⟨0, _⟩ => show k0_off1 k 0 + 1 * (z 0).val = 16 * k.val + (z 0).val; have e : k0_off1 k 0 = 16 * k.val := congrFun (k0_off1_eq k) 0; omega
  | ⟨1, _⟩ => show k0_off1 k 1 + 1 * (z 1).val = (z 1).val; have e : k0_off1 k 1 = 0 := congrFun (k0_off1_eq k) 1; omega
theorem weight_read :
    arg2.view.readAt (Elt F) (Rect.unit (s := S1x4096) ![0, 0] S1x4096.size inb_S1x4096_S1x4096_0_0).toLoadRect (harg2.unread g) = g := by
  rw [View.readAt_full, harg2.read_unread]

set_option maxHeartbeats 4000000 in
/-- A trip of the first loop stores its rows' lane blocks, -/
theorem trip1_good (k : Fin k0_t1_loop.trips) :
    ∀ p ∈ tripL_k0_t1 (F := F) Variants.none c none i arg1 harg1 arg2 harg2 arg3 harg3 arg4 harg4 (harg1.unread x) (harg2.unread g) k,
      ∀ z : p.1.shape.Idx, p.2 z = slabs x g (p.1.emb z) := by
  have hx := rows_read arg1 harg1 x k
  have hg := weight_read arg2 harg2 g
  unfold tripL_k0_t1 trip_k0_t1
  dsimp only
  sl_unfold_run_names
  refine List.forall_mem_cons.2 ⟨slab_piece x g 31 k (k0_off33_eq k) 3968 rfl (k0_off33_inb k) slices_S16x4096_o0_3968_S16x128 _ _ hx hg,
    List.forall_mem_cons.2 ⟨slab_piece x g 30 k (k0_off32_eq k) 3840 rfl (k0_off32_inb k) slices_S16x4096_o0_3840_S16x128 _ _ hx hg,
    List.forall_mem_cons.2 ⟨slab_piece x g 29 k (k0_off31_eq k) 3712 rfl (k0_off31_inb k) slices_S16x4096_o0_3712_S16x128 _ _ hx hg,
    List.forall_mem_cons.2 ⟨slab_piece x g 28 k (k0_off30_eq k) 3584 rfl (k0_off30_inb k) slices_S16x4096_o0_3584_S16x128 _ _ hx hg,
    List.forall_mem_cons.2 ⟨slab_piece x g 27 k (k0_off29_eq k) 3456 rfl (k0_off29_inb k) slices_S16x4096_o0_3456_S16x128 _ _ hx hg,
    List.forall_mem_cons.2 ⟨slab_piece x g 26 k (k0_off28_eq k) 3328 rfl (k0_off28_inb k) slices_S16x4096_o0_3328_S16x128 _ _ hx hg,
    List.forall_mem_cons.2 ⟨slab_piece x g 25 k (k0_off27_eq k) 3200 rfl (k0_off27_inb k) slices_S16x4096_o0_3200_S16x128 _ _ hx hg,
    List.forall_mem_cons.2 ⟨slab_piece x g 24 k (k0_off26_eq k) 3072 rfl (k0_off26_inb k) slices_S16x4096_o0_3072_S16x128 _ _ hx hg,
    List.forall_mem_cons.2 ⟨slab_piece x g 23 k (k0_off25_eq k) 2944 rfl (k0_off25_inb k) slices_S16x4096_o0_2944_S16x128 _ _ hx hg,
    List.forall_mem_cons.2 ⟨slab_piece x g 22 k (k0_off24_eq k) 2816 rfl (k0_off24_inb k) slices_S16x4096_o0_2816_S16x128 _ _ hx hg,
    List.forall_mem_cons.2 ⟨slab_piece x g 21 k (k0_off23_eq k) 2688 rfl (k0_off23_inb k) slices_S16x4096_o0_2688_S16x128 _ _ hx hg,
    List.forall_mem_cons.2 ⟨slab_piece x g 20 k (k0_off22_eq k) 2560 rfl (k0_off22_inb k) slices_S16x4096_o0_2560_S16x128 _ _ hx hg,
    List.forall_mem_cons.2 ⟨slab_piece x g 19 k (k0_off21_eq k) 2432 rfl (k0_off21_inb k) slices_S16x4096_o0_2432_S16x128 _ _ hx hg,
    List.forall_mem_cons.2 ⟨slab_piece x g 18 k (k0_off20_eq k) 2304 rfl (k0_off20_inb k) slices_S16x4096_o0_2304_S16x128 _ _ hx hg,
    List.forall_mem_cons.2 ⟨slab_piece x g 17 k (k0_off19_eq k) 2176 rfl (k0_off19_inb k) slices_S16x4096_o0_2176_S16x128 _ _ hx hg,
    List.forall_mem_cons.2 ⟨slab_piece x g 16 k (k0_off18_eq k) 2048 rfl (k0_off18_inb k) slices_S16x4096_o0_2048_S16x128 _ _ hx hg,
    List.forall_mem_cons.2 ⟨slab_piece x g 15 k (k0_off17_eq k) 1920 rfl (k0_off17_inb k) slices_S16x4096_o0_1920_S16x128 _ _ hx hg,
    List.forall_mem_cons.2 ⟨slab_piece x g 14 k (k0_off16_eq k) 1792 rfl (k0_off16_inb k) slices_S16x4096_o0_1792_S16x128 _ _ hx hg,
    List.forall_mem_cons.2 ⟨slab_piece x g 13 k (k0_off15_eq k) 1664 rfl (k0_off15_inb k) slices_S16x4096_o0_1664_S16x128 _ _ hx hg,
    List.forall_mem_cons.2 ⟨slab_piece x g 12 k (k0_off14_eq k) 1536 rfl (k0_off14_inb k) slices_S16x4096_o0_1536_S16x128 _ _ hx hg,
    List.forall_mem_cons.2 ⟨slab_piece x g 11 k (k0_off13_eq k) 1408 rfl (k0_off13_inb k) slices_S16x4096_o0_1408_S16x128 _ _ hx hg,
    List.forall_mem_cons.2 ⟨slab_piece x g 10 k (k0_off12_eq k) 1280 rfl (k0_off12_inb k) slices_S16x4096_o0_1280_S16x128 _ _ hx hg,
    List.forall_mem_cons.2 ⟨slab_piece x g 9 k (k0_off11_eq k) 1152 rfl (k0_off11_inb k) slices_S16x4096_o0_1152_S16x128 _ _ hx hg,
    List.forall_mem_cons.2 ⟨slab_piece x g 8 k (k0_off10_eq k) 1024 rfl (k0_off10_inb k) slices_S16x4096_o0_1024_S16x128 _ _ hx hg,
    List.forall_mem_cons.2 ⟨slab_piece x g 7 k (k0_off9_eq k) 896 rfl (k0_off9_inb k) slices_S16x4096_o0_896_S16x128 _ _ hx hg,
    List.forall_mem_cons.2 ⟨slab_piece x g 6 k (k0_off8_eq k) 768 rfl (k0_off8_inb k) slices_S16x4096_o0_768_S16x128 _ _ hx hg,
    List.forall_mem_cons.2 ⟨slab_piece x g 5 k (k0_off7_eq k) 640 rfl (k0_off7_inb k) slices_S16x4096_o0_640_S16x128 _ _ hx hg,
    List.forall_mem_cons.2 ⟨slab_piece x g 4 k (k0_off6_eq k) 512 rfl (k0_off6_inb k) slices_S16x4096_o0_512_S16x128 _ _ hx hg,
    List.forall_mem_cons.2 ⟨slab_piece x g 3 k (k0_off5_eq k) 384 rfl (k0_off5_inb k) slices_S16x4096_o0_384_S16x128 _ _ hx hg,
    List.forall_mem_cons.2 ⟨slab_piece x g 2 k (k0_off4_eq k) 256 rfl (k0_off4_inb k) slices_S16x4096_o0_256_S16x128 _ _ hx hg,
    List.forall_mem_cons.2 ⟨slab_piece x g 1 k (k0_off3_eq k) 128 rfl (k0_off3_inb k) slices_S16x4096_o0_128_S16x128 _ _ hx hg,
    List.forall_mem_cons.2 ⟨slab_piece x g 0 k (k0_off2_eq k) 0 rfl (k0_off2_inb k) slices_S16x4096_o0_0_S16x128 _ _ hx hg,
    fun p hp => absurd hp List.not_mem_nil⟩⟩⟩⟩⟩⟩⟩⟩⟩⟩⟩⟩⟩⟩⟩⟩⟩⟩⟩⟩⟩⟩⟩⟩⟩⟩⟩⟩⟩⟩⟩⟩

/-- so the first loop leaves the scratch at `slabs`, -/
theorem pieces1_good : ∀ k : ℕ, k ≤ k0_t1_loop.trips → ∀ p ∈ pb_k0_t1 (F := F) Variants.none c none i arg1 harg1 arg2 harg2 arg3 harg3 arg4 harg4 (harg1.unread x) (harg2.unread g) k,
    ∀ z : p.1.shape.Idx, p.2 z = slabs x g (p.1.emb z)
  | 0, _ => fun p hp => absurd hp List.not_mem_nil
  | k + 1, hk => by
    intro p hp
    rw [pb_k0_t1_succ (F := F) Variants.none c none i arg1 harg1 arg2 harg2 arg3 harg3 arg4 harg4 (harg1.unread x) (harg2.unread g) ⟨k, hk⟩] at hp
    rcases List.mem_append.mp hp with hp | hp
    · exact trip1_good c i arg1 harg1 arg2 harg2 arg3 harg3 arg4 harg4 x g ⟨k, hk⟩ p hp
    · exact pieces1_good k (Nat.le_of_lt hk) p hp

theorem cover1 (y : S32x256x128.Idx) : ∃ p ∈ pb_k0_t1 (F := F) Variants.none c none i arg1 harg1 arg2 harg2 arg3 harg3 arg4 harg4 (harg1.unread x) (harg2.unread g)
    (Scf.trips k0_t1_loop.lb k0_t1_loop.ub k0_t1_loop.st), y ∈ p.1.set :=
  View.cover_of_tiledL (pb_k0_t1 (F := F) Variants.none c none i arg1 harg1 arg2 harg2 arg3 harg3 arg4 harg4 (harg1.unread x) (harg2.unread g)
    (Scf.trips k0_t1_loop.lb k0_t1_loop.ub k0_t1_loop.st)) S1x16x128.size (by sl_kernel_rfl) y

theorem scratch_eq (f : BufTy.Contents (Elt F) arg4.view.ty) :
    arg4.view.writes (Elt F) f (pb_k0_t1 (F := F) Variants.none c none i arg1 harg1 arg2 harg2 arg3 harg3 arg4 harg4 (harg1.unread x) (harg2.unread g)
      (Scf.trips k0_t1_loop.lb k0_t1_loop.ub k0_t1_loop.st)) = harg4.unread (slabs x g) :=
  harg4.eq_unread (funext fun y => View.read_writes_apply_of_pieces _ _ (slabs x g) _
    (pieces1_good c i arg1 harg1 arg2 harg2 arg3 harg3 arg4 harg4 x g _ (le_refl _)) y (cover1 c i arg1 harg1 arg2 harg2 arg3 harg3 arg4 harg4 x g y))

set_option maxHeartbeats 4000000 in
/-- a trip of the second loop stores a lane block's rows in their order, -/
theorem trip2_good (k : Fin k0_t2_loop.trips) :
    ∀ p ∈ tripL_k0_t2 (F := F) Variants.none c none i arg1 harg1 arg2 harg2 arg3 harg3 arg4 harg4 (harg4.unread T) k,
      ∀ z : p.1.shape.Idx, p.2 z = reordered T (p.1.emb z) := by
  unfold tripL_k0_t2 trip_k0_t2
  dsimp only
  sl_unfold_run_names
  refine List.forall_mem_cons.2 ⟨row_piece arg4 harg4 T 7 k 224 rfl (k0_off49_eq k) (k0_off48_eq k) (k0_off49_inb k) (k0_off48_inb k),
    List.forall_mem_cons.2 ⟨row_piece arg4 harg4 T 6 k 192 rfl (k0_off47_eq k) (k0_off46_eq k) (k0_off47_inb k) (k0_off46_inb k),
    List.forall_mem_cons.2 ⟨row_piece arg4 harg4 T 5 k 160 rfl (k0_off45_eq k) (k0_off44_eq k) (k0_off45_inb k) (k0_off44_inb k),
    List.forall_mem_cons.2 ⟨row_piece arg4 harg4 T 4 k 128 rfl (k0_off43_eq k) (k0_off42_eq k) (k0_off43_inb k) (k0_off42_inb k),
    List.forall_mem_cons.2 ⟨row_piece arg4 harg4 T 3 k 96 rfl (k0_off41_eq k) (k0_off40_eq k) (k0_off41_inb k) (k0_off40_inb k),
    List.forall_mem_cons.2 ⟨row_piece arg4 harg4 T 2 k 64 rfl (k0_off39_eq k) (k0_off38_eq k) (k0_off39_inb k) (k0_off38_inb k),
    List.forall_mem_cons.2 ⟨row_piece arg4 harg4 T 1 k 32 rfl (k0_off37_eq k) (k0_off36_eq k) (k0_off37_inb k) (k0_off36_inb k),
    List.forall_mem_cons.2 ⟨row_piece arg4 harg4 T 0 k 0 rfl (k0_off35_eq k) (k0_off34_eq k) (k0_off35_inb k) (k0_off34_inb k),
    fun p hp => absurd hp List.not_mem_nil⟩⟩⟩⟩⟩⟩⟩⟩

/-- and the second loop leaves the output block at the scratch reordered. -/
theorem pieces2_good : ∀ k : ℕ, k ≤ k0_t2_loop.trips → ∀ p ∈ pb_k0_t2 (F := F) Variants.none c none i arg1 harg1 arg2 harg2 arg3 harg3 arg4 harg4 (harg4.unread T) k,
    ∀ z : p.1.shape.Idx, p.2 z = reordered T (p.1.emb z)
  | 0, _ => fun p hp => absurd hp List.not_mem_nil
  | k + 1, hk => by
    intro p hp
    rw [pb_k0_t2_succ (F := F) Variants.none c none i arg1 harg1 arg2 harg2 arg3 harg3 arg4 harg4 (harg4.unread T) ⟨k, hk⟩] at hp
    rcases List.mem_append.mp hp with hp | hp
    · exact trip2_good c i arg1 harg1 arg2 harg2 arg3 harg3 arg4 harg4 T ⟨k, hk⟩ p hp
    · exact pieces2_good k (Nat.le_of_lt hk) p hp

theorem cover2 (y : S256x4096.Idx) : ∃ p ∈ pb_k0_t2 (F := F) Variants.none c none i arg1 harg1 arg2 harg2 arg3 harg3 arg4 harg4 (harg4.unread T)
    (Scf.trips k0_t2_loop.lb k0_t2_loop.ub k0_t2_loop.st), y ∈ p.1.set :=
  View.cover_of_tiledL (pb_k0_t2 (F := F) Variants.none c none i arg1 harg1 arg2 harg2 arg3 harg3 arg4 harg4 (harg4.unread T)
    (Scf.trips k0_t2_loop.lb k0_t2_loop.ub k0_t2_loop.st)) S32x128.size (by sl_kernel_rfl) y

theorem output_eq (f : BufTy.Contents (Elt F) arg3.view.ty) :
    arg3.view.read (Elt F) (arg3.view.writes (Elt F) f (pb_k0_t2 (F := F) Variants.none c none i arg1 harg1 arg2 harg2 arg3 harg3 arg4 harg4 (harg4.unread T)
      (Scf.trips k0_t2_loop.lb k0_t2_loop.ub k0_t2_loop.st))) = reordered T :=
  funext fun y => View.read_writes_apply_of_pieces _ _ (reordered T) _
    (pieces2_good c i arg1 harg1 arg2 harg2 arg3 harg3 arg4 harg4 T _ (le_refl _)) y (cover2 c i arg1 harg1 arg2 harg2 arg3 harg3 arg4 harg4 T y)

/-! ## The run -/

set_option maxHeartbeats 4000000 in
/-- From its two input blocks the body leaves the output block at the normalized rows, reordered; the scratch at some
    contents. -/
theorem run (E : Set ℕ) (K : PUnit → sProp 𝕄) :
    iprop(owns (c : Thread nD τ) arg1 fullShare x ∗ owns (c : Thread nD τ) arg2 fullShare g ∗ (∃ d, owns (c : Thread nD τ) arg3 fullShare d)
      ∗ (∃ d, owns (c : Thread nD τ) arg4 fullShare d)
      ∗ (iprop(owns (c : Thread nD τ) arg1 fullShare x ∗ owns (c : Thread nD τ) arg2 fullShare g
          ∗ owns (c : Thread nD τ) arg3 fullShare (reordered (slabs x g)) ∗ (∃ d, owns (c : Thread nD τ) arg4 fullShare d)) -∗ K ⟨⟩))
    ⊢ wp frame (wpE (defs₀ (F := F)) Variants.none c none) E (cc0_final_norm i arg1 harg1 arg2 harg2 arg3 harg3 arg4 harg4) K := by
  simp only [cc0_final_norm_eq_skeleton]; unfold cc0_final_norm_skel
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; rw [scratch_eq c i arg1 harg1 arg2 harg2 arg3 harg3 arg4 harg4 x g]; exact output_eq c i arg1 harg1 arg2 harg2 arg3 harg3 arg4 harg4 _ _
  iexists _, _; isplitr; swap; · iexact HS0
  ipureintro; rfl

end Pieces

end Cert.FinalNormIdeal.Gen

end
-- ==== Proof.FinalNormRegion.lean ====
/- The last norm's launch: at every grid point the body finds its rows and the weight in their buffers and leaves the
   output block at the normalized rows, reordered, so the program ends with its output array filled block by block and
   its arguments as they were. -/
module

public import proofs.«01_k».proof.Proof.FinalNormRun
public import Idealize.ShloMosaic.Lib.Claim

@[expose] public section

set_option maxRecDepth 16384

noncomputable section

namespace Cert.FinalNormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the output block -/

def outsAt0 (c : Dev nD) (t : Fin cfg0.N) : Vec F S256x4096 .f32 := reordered (slabs (iblk m c 0 t) (iblk m c 1 t))

/-! ## The pipeline's proof data -/

/-- The pipeline's data: the arrays as the region finds them; after a point each input's buffer at its block and the output's
    at what the point leaves; between points the scratch and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What a point leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at a point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩⟩
  iapply (run c (grid0.coords t) _ (hs0_0 t) _ (hs0_1 t) _ (hs0_2 t) _ (Memref.isWhole_whole _) (iblk m c 0 t) (iblk m c 1 t) Set.univ _)
  isplitl [H0]; · iexact H0
  isplitl [H1]; · iexact H1
  isplitl [H2]; · iexists _; iexact H2
  isplitl [HS0]; · iexact HS0
  iintro ⟨H0, H1, H2, HS0⟩
  isplitl [HS0 Hg]
  · isplitl [HS0]
    · iexact HS0
    iexact Hg
  isplitl [Ho]; · iexact Ho
  isplitl [H0]; · iexact H0
  isplitl [H1]; · iexact H1
  iexact H2

/-- The body the launch calls. -/
theorem defs₀_row (t : Fin cfg0.N) :
    defs₀ (F := F) .tc cfg0.body (cfg0.bodyArgs t (cfg0.slots t)) = bodyAt0 t := by
  unfold defs₀; rw [Defs.onTc_tc]

/-- What the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch ends with its arrays as the pipeline leaves them, and no counter raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FinalNormIdeal.Gen

end
-- ==== Proof.FinalNormValue.lean ====
/- The last norm's value: within each chunk of 256 tokens the call takes the rows reordered and its second loop writes
   them back in their own order, so every element of its output array is its token's row, normalized and scaled by the
   weight, which is what the reference computes. -/
module

public import proofs.«01_k».proof.Proof.FinalNormRegion
public import proofs.«01_k».proof.Proof.Gen.FinalNormReferenceIdeal.Read
public import Idealize.ShloMosaic.Lib.StableHlo.RunRead

@[expose] public section

set_option maxRecDepth 100000

noncomputable section

namespace Cert.LastNorm

open Cert.FinalNormIdeal Cert.FinalNormIdeal.Gen Idealize.ShloMosaic Idealize.ShloMosaic.TcCoe Idealize.SL.Sem Idealize.ShloMosaic.StableHlo
open Idealize.ShloMosaic.Pipeline (Dat Cfg Window)

/-! ## The mathematics -/

/-- A row's reciprocal root mean square: its squares' sum over 4096, plus the small constant, under the reciprocal root. -/
def invRms (row : Fin 4096 → EReal) : EReal :=
  Ideal.rsqrt (Ideal.div (∑ k, row k * row k) (Ideal.ofBits .f32 0x45800000#32) + Ideal.ofBits .f32 0x358637BD#32)

/-- An element of a row, normalized, times its weight. -/
def scaled (row : Fin 4096 → EReal) (weight : EReal) (n : Fin 4096) : EReal := row n * invRms row * weight

/-- The result, and the same with its two batches joined. -/
def result (x : S2x4096x4096.Idx → EReal) (g : S4096.Idx → EReal) : S2x4096x4096.Idx → EReal := fun i =>
  scaled (fun k => x (ix3 (i 0) (i 1) k)) (g (ix1 (i 2))) (i 2)
def joinedResult (x : S2x4096x4096.Idx → EReal) (g : S4096.Idx → EReal) : S8192x4096.Idx → EReal := fun i =>
  result x g (ix3 (⟨(i 0).val / 4096, by have h : (i 0).val < 8192 := (i 0).isLt; omega⟩ : Fin 2) (⟨(i 0).val % 4096, by omega⟩ : Fin 4096) (i 1))

/-! ## The reference -/

section Reference
open Cert.FinalNormReferenceIdeal.Read

theorem reference_eq (x : S2x4096x4096.Idx → EReal) (g : S4096.Idx → EReal) : val_main_v12 (F := Ideal) x g = result x g := by
  funext i
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_cst_apply, val_main_cst_0_apply, val_main_cst_1_apply]
  simp only [val_main_v0_apply]
  unfold result scaled invRms
  have zero : (FloatOps.ofBits .f32 0x00000000#32 : Ideal .f32) = (0 : EReal) := by pointwise
  refine congrArg₂ (· * ·) (congrArg₂ (· * ·) (congrArg x (funext fun a => ?_)) ?_) (congrArg g (funext fun a => ?_))
  · match a with
    | ⟨0, _⟩ => rfl
    | ⟨1, _⟩ => rfl
    | ⟨2, _⟩ => rfl
  · refine congrArg (fun s => Ideal.rsqrt (Ideal.div s (Ideal.ofBits .f32 0x45800000#32) + Ideal.ofBits .f32 0x358637BD#32))
      ((congrArg₂ (· + ·) zero (Finset.sum_congr rfl fun k _ => ?_)).trans (zero_add _))
    refine congrArg (fun j => x j * x j) (funext fun a => ?_)
    match a with
    | ⟨0, _⟩ => rfl
    | ⟨1, _⟩ => rfl
    | ⟨2, _⟩ => rfl
  · match a with
    | ⟨0, _⟩ => rfl

end Reference

/-! ## The kernel's block -/

/-- A trip's payload at a row and a column. -/
theorem payload_apply (w : S1x4096.Idx → EReal) (x : S16x4096.Idx → EReal) (r : Fin 16) (q : Fin 4096) :
    k0_pay9 (F := Ideal) x w (ix2 r q) = scaled (fun k => x (ix2 r k)) (w (ix2 0 q)) q := by
  unfold k0_pay9 scaled invRms
  pointwise

/-- A block's rows, normalized, at a row and a column. -/
theorem normed_apply (w : S1x4096.Idx → EReal) (x : S256x4096.Idx → EReal) (P : Fin 256) (q : Fin 4096) :
    normed (F := Ideal) x w (ix2 P q) = scaled (fun k => x (ix2 P k)) (w (ix2 0 q)) q := by
  have hP := P.isLt
  rw [normed_of (F := Ideal) x w (⟨P.val / 16, by omega⟩ : Fin 16) (⟨P.val % 16, by omega⟩ : Fin 16) q (ix2 P q)
    (by show P.val = 16 * (P.val / 16) + P.val % 16; omega) rfl, payload_apply]
  refine congrArg (fun row => scaled row _ _) (funext fun k => ?_)
  unfold rowsOf
  refine congrArg x (funext fun a => Fin.ext ?_)
  match a with
  | ⟨0, _⟩ => show 16 * (P.val / 16) + P.val % 16 = P.val; omega
  | ⟨1, _⟩ => rfl

/-- The scratch's row that a row of the output block is taken from. -/
def rowFrom (r : Fin 256) : Fin 256 := ⟨8 * (r.val % 32) + r.val / 32, by omega⟩

/-- The output block at a row and a column. -/
theorem block_apply (w : S1x4096.Idx → EReal) (x : S256x4096.Idx → EReal) (r : Fin 256) (q : Fin 4096) :
    Gen.reordered (F := Ideal) (slabs (F := Ideal) x w) (ix2 r q) = scaled (fun k => x (ix2 (rowFrom r) k)) (w (ix2 0 q)) q := by
  rw [← normed_apply]
  unfold Gen.reordered slabs
  refine congrArg (normed (F := Ideal) x w) (funext fun a => Fin.ext ?_)
  match a with
  | ⟨0, _⟩ => rfl
  | ⟨1, _⟩ => show 128 * (q.val / 128) + q.val % 128 = q.val; omega

variable (m : (ℓ : Loc nD τ sig) → Buf (Elt Ideal) ℓ) (c : Dev nD)

/-- The two arguments. -/
abbrev hidden : S2x4096x4096.Idx → EReal := m ((c.tc : Thread nD τ).loc main_arg0)
abbrev weight : S4096.Idx → EReal := m ((c.tc : Thread nD τ).loc main_arg1)

/-- The rows as the call takes them: row `8 j + s` of a chunk holds its token `32 s + j`. -/
def stepMajor (x : S2x4096x4096.Idx → EReal) : S8192x4096.Idx → EReal :=
  shapeCast S8192x4096 (transpose S2x16x32x8x4096 [0, 1, 3, 2, 4]
    (shapeCast S2x16x8x32x4096 (shapeCast S8192x4096 x shapeCasts_S2x4096x4096_S8192x4096) shapeCasts_S8192x4096_S2x16x8x32x4096)
    transposes_S2x16x8x32x4096_S2x16x32x8x4096_0_1_3_2_4) shapeCasts_S2x16x32x8x4096_S8192x4096

theorem V_hidden : V m c main_v3 = stepMajor (hidden m c) := by
  unfold_abbrev_sides
  simp only [hostOps0, List.flatten_cons, List.flatten_nil, List.append_nil, List.cons_append, List.nil_append]
  after_reads_simp
  rfl
theorem V_weight : V m c main_v4 = shapeCast S1x4096 (weight m c) shapeCasts_S4096_S1x4096 := by
  unfold_abbrev_sides
  simp only [hostOps0, List.flatten_cons, List.flatten_nil, List.append_nil, List.cons_append, List.nil_append]
  after_reads_simp
  rfl

theorem stepMajor_apply (x : S2x4096x4096.Idx → EReal) (t : Fin 32) (P : Fin 256) (n : Fin 4096) :
    stepMajor x (ix2 (⟨256 * t.val + P.val, by omega⟩ : Fin 8192) n)
      = x (ix3 (⟨t.val / 16, by omega⟩ : Fin 2) (⟨256 * (t.val % 16) + (32 * (P.val % 8) + P.val / 8), by omega⟩ : Fin 4096) n) := by
  have ht := t.isLt; have hP := P.isLt; have hn := n.isLt
  unfold stepMajor
  rw [shapeCast_apply _ _ _ (ix5 (⟨t.val / 16, by omega⟩ : Fin 2) (⟨t.val % 16, by omega⟩ : Fin 16) (⟨P.val / 8, by omega⟩ : Fin 32) (⟨P.val % 8, by omega⟩ : Fin 8) n)
      (by rw [Shape.rowMajor_val_five, Shape.rowMajor_val_two]
          show (((t.val / 16 * 16 + t.val % 16) * 32 + P.val / 8) * 8 + P.val % 8) * 4096 + n.val = (256 * t.val + P.val) * 4096 + n.val
          omega),
    transpose_apply _ _ _ _ (ix5 (⟨t.val / 16, by omega⟩ : Fin 2) (⟨t.val % 16, by omega⟩ : Fin 16) (⟨P.val % 8, by omega⟩ : Fin 8) (⟨P.val / 8, by omega⟩ : Fin 32) n)
      (fun a => match a with | ⟨0, _⟩ => rfl | ⟨1, _⟩ => rfl | ⟨2, _⟩ => rfl | ⟨3, _⟩ => rfl | ⟨4, _⟩ => rfl),
    shapeCast_apply _ _ _ (ix2 (⟨256 * t.val + (32 * (P.val % 8) + P.val / 8), by omega⟩ : Fin 8192) n)
      (by rw [Shape.rowMajor_val_five, Shape.rowMajor_val_two]
          show (256 * t.val + (32 * (P.val % 8) + P.val / 8)) * 4096 + n.val
            = (((t.val / 16 * 16 + t.val % 16) * 8 + P.val % 8) * 32 + P.val / 8) * 4096 + n.val
          omega),
    shapeCast_apply _ _ _ (ix3 (⟨t.val / 16, by omega⟩ : Fin 2) (⟨256 * (t.val % 16) + (32 * (P.val % 8) + P.val / 8), by omega⟩ : Fin 4096) n)
      (by rw [Shape.rowMajor_val_three, Shape.rowMajor_val_two]
          show (t.val / 16 * 4096 + (256 * (t.val % 16) + (32 * (P.val % 8) + P.val / 8))) * 4096 + n.val
            = (256 * t.val + (32 * (P.val % 8) + P.val / 8)) * 4096 + n.val
          omega)]

theorem index_maps : ∀ t : Fin cfg0.N, win0_0.index t = ![t.val, 0] ∧ win0_1.index t = ![0, 0] ∧ win0_2.index t = ![t.val, 0] := by
  decide +kernel

theorem points (t : Fin cfg0.N) : t.val < 32 := t.isLt

/-- The rows of a point, -/
theorem block_hidden (t : Fin cfg0.N) (P : Fin 256) (k : Fin 4096) :
    iblk m c 0 t (ix2 P k) = hidden m c (ix3 (⟨t.val / 16, by have := points t; omega⟩ : Fin 2)
      (⟨256 * (t.val % 16) + (32 * (P.val % 8) + P.val / 8), by omega⟩ : Fin 4096) k) := by
  have hP := P.isLt; have hk := k.isLt; have ht := points t
  refine Eq.trans ?_ (stepMajor_apply (hidden m c) ⟨t.val, ht⟩ P k)
  rw [← V_hidden]
  blk_ext [iblk, (index_maps t).1]
/-- and the weight. -/
theorem block_weight (t : Fin cfg0.N) (q : Fin 4096) : iblk m c 1 t (ix2 (0 : Fin 1) q) = weight m c (ix1 q) := by
  have hq := q.isLt
  have e : V m c main_v4 (ix2 (0 : Fin 1) q) = weight m c (ix1 q) := by
    rw [V_weight, shapeCast_apply _ shapeCasts_S4096_S1x4096 _ (ix1 q) (by
        rw [Shape.rowMajor_val_one, Shape.rowMajor_val_two]; show q.val = 0 * 4096 + q.val; omega)]
  refine Eq.trans ?_ e
  blk_ext [iblk, (index_maps t).2.1]

/-- A point's output block: its 256 tokens, in order. -/
theorem output_apply (t : Fin cfg0.N) (r : Fin 256) (q : Fin 4096) :
    outsAt0 m c t (ix2 r q) = result (hidden m c) (weight m c) (ix3 (⟨t.val / 16, by have := points t; omega⟩ : Fin 2)
      (⟨256 * (t.val % 16) + r.val, by omega⟩ : Fin 4096) q) := by
  have hr := r.isLt
  unfold outsAt0
  rw [block_apply, block_weight]
  refine congrArg (fun row => scaled row (weight m c (ix1 q)) q) (funext fun k => ?_)
  rw [block_hidden]
  refine congrArg (fun n => hidden m c (ix3 (⟨t.val / 16, by have := points t; omega⟩ : Fin 2) n k)) (Fin.ext ?_)
  show 256 * (t.val % 16) + (32 * ((8 * (r.val % 32) + r.val / 32) % 8) + (8 * (r.val % 32) + r.val / 32) / 8) = 256 * (t.val % 16) + r.val
  omega

/-! ## The array -/

theorem array_eq : (dats m 0 c).arrAt 2 cfg0.N = joinedResult (hidden m c) (weight m c) := by
  refine (dats m 0 c).arrAt_eq_of_covers 2 _ (by decide +kernel) fun t hf y => ?_
  blk_simp
  rw [after0_2]
  have hy0 : (y 0).val < 256 := (y 0).isLt
  have hy1 : (y 1).val < 4096 := (y 1).isLt
  have ht := points t
  have h0 : (((win0_2.blk t).view.emb y) 0).val = t.val * 256 + (y 0).val := by blk_simp [(index_maps t).2.2]
  have h1 : (((win0_2.blk t).view.emb y) 1).val = (y 1).val := by blk_simp [(index_maps t).2.2]
  have ey : y = ix2 (⟨(y 0).val, hy0⟩ : Fin 256) (⟨(y 1).val, hy1⟩ : Fin 4096) := by
    funext a
    match a with
    | ⟨0, _⟩ => rfl
    | ⟨1, _⟩ => rfl
  refine ((congrArg (outsAt0 m c t) ey).trans (output_apply m c t _ _)).trans ?_
  unfold joinedResult
  refine congrArg (result (hidden m c) (weight m c)) (funext fun a => Fin.ext ?_)
  match a with
  | ⟨0, _⟩ => show t.val / 16 = (((win0_2.blk t).view.emb y) 0).val / 4096; omega
  | ⟨1, _⟩ => show 256 * (t.val % 16) + (y 0).val = (((win0_2.blk t).view.emb y) 0).val % 4096; omega
  | ⟨2, _⟩ => exact h1.symm

/-! ## The result -/

theorem split_joined (x : S2x4096x4096.Idx → EReal) (g : S4096.Idx → EReal) :
    shapeCast S2x4096x4096 (joinedResult x g) shapeCasts_S8192x4096_S2x4096x4096 = result x g := by
  funext i
  have h0 : (i 0).val < 2 := (i 0).isLt
  have h1 : (i 1).val < 4096 := (i 1).isLt
  have h2 : (i 2).val < 4096 := (i 2).isLt
  rw [shapeCast_apply _ _ _ (ix2 (⟨4096 * (i 0).val + (i 1).val, by omega⟩ : Fin 8192) (⟨(i 2).val, h2⟩ : Fin 4096)) (by
    rw [Shape.rowMajor_val_three, Shape.rowMajor_val_two]
    show (4096 * (i 0).val + (i 1).val) * 4096 + (i 2).val = ((i 0).val * 4096 + (i 1).val) * 4096 + (i 2).val
    omega)]
  unfold joinedResult
  refine congrArg (result x g) (funext fun a => Fin.ext ?_)
  match a with
  | ⟨0, _⟩ => show (4096 * (i 0).val + (i 1).val) / 4096 = (i 0).val; omega
  | ⟨1, _⟩ => show (4096 * (i 0).val + (i 1).val) % 4096 = (i 1).val; omega
  | ⟨2, _⟩ => rfl

/-- What the program leaves in its result. -/
theorem W_result : Pipeline.afterTail₀ cfgs (dats m) 0 (V0 m) [hostOps1] c main_v6 = result (hidden m c) (weight m c) := by
  have harr : Pipeline.withArrays spec0 c (V0 m c) (fun k => (dats m 0 c).arrAt k cfg0.N) (Proc.devRef .tc main_v5)
      = joinedResult (hidden m c) (weight m c) :=
    (Pipeline.withArrays_arr_shared spec0 c (V0 m c) (fun k => (dats m 0 c).arrAt k cfg0.N)
      (fun k k' hne e => ((dats m 0 c).arrAt_in k ((by decide : ∀ k k' : Fin 3, k ≠ k' → Pipeline.arrRef spec0 k = Pipeline.arrRef spec0 k' → (cfg0.win k).isOut = false) k k' hne e) _).trans (A_eq m c k)) 2).trans
      (array_eq m c)
  rw [← split_joined, ← harr]
  unfold Pipeline.afterTail₀
  simp only [hostOps1, List.flatten_cons, List.flatten_nil, List.append_nil]
  after_reads_simp
  rfl

end Cert.LastNorm
-- ==== Proof.FinalNormKernel.lean ====
/- The last norm and its idealized form are one text: the same body table and the same `@main`, so the run proved
   over any float values is also the kernel's. -/
module

public import proofs.«01_k».proof.Proof.FinalNormRegion
public import proofs.«01_k».proof.Proof.Gen.FinalNorm

@[expose] public section

set_option maxRecDepth 65536

noncomputable section

namespace Cert.FinalNorm.Gen

open Idealize.ShloMosaic Idealize.SL.Sem

attribute [local instance] Cert.FinalNorm.Gen.facts Cert.FinalNormIdeal.Gen.facts

variable {F : FTy → Type} [FloatOps F]

theorem defs₀_same : Cert.FinalNorm.defs₀ (F := F) = Cert.FinalNormIdeal.defs₀ := by
  unfold Cert.FinalNorm.defs₀ Cert.FinalNormIdeal.defs₀
  refine congrArg _ (funext fun l => funext fun a => ?_)
  match l, a with
  | ⟨0, _⟩, (t, s) => rfl
  | ⟨_ + 1, h⟩, _ => exact absurd h (Nat.not_lt.2 (Nat.le_add_left _ _))

theorem defs_same : Cert.FinalNorm.defs (F := F) = Cert.FinalNormIdeal.defs := by
  unfold Cert.FinalNorm.defs Cert.FinalNormIdeal.defs
  exact congrArg (Pipeline.defs Cert.FinalNorm.pcfgs) defs₀_same

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.FinalNormIdeal.Gen.frame m ρ

end Cert.FinalNorm.Gen
-- ==== Proof.lean ====
/- The certificate. Each of six calls of the layer runs to its end with its arguments unchanged and every counter at
   zero, and its idealization leaves the array its reference leaves: the attention call the softmax attention over each
   query's window, the input projection the hidden state times the weight, the output projection the residual plus the
   gated product, the norm call the modulated RMS norm, the gate call the two gated RMS norms side by side, the last
   norm call the RMS norm. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.InProj
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Loops
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.OutProj
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Loops
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.NormMod
public import proofs.«01_k».proof.Proof.Gen.NormModIdeal
public import proofs.«01_k».proof.Proof.Gen.NormModIdeal.Skeleton
public import proofs.«01_k».proof.Proof.Gen.NormModIdeal.Launch
public import proofs.«01_k».proof.Proof.Gen.NormModIdeal.Points
public import proofs.«01_k».proof.Proof.Gen.NormModIdeal.Frame
public import proofs.«01_k».proof.Proof.Gen.NormModIdeal.Loops
public import proofs.«01_k».proof.Proof.Gen.NormModReferenceIdeal
public import proofs.«01_k».proof.Proof.Gen.NormModReferenceIdeal.Run
public import proofs.«01_k».proof.Proof.Gen.NormModReferenceIdeal.Read
public import proofs.«01_k».proof.Proof.Gen.Gate
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Loops
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.FinalNorm
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame.Runs
public import proofs.«01_k».proof.Proof.Gen.FinalNormIdeal.Loops
public import proofs.«01_k».proof.Proof.Gen.FinalNormReferenceIdeal
public import proofs.«01_k».proof.Proof.Gen.FinalNormReferenceIdeal.Run
public import proofs.«01_k».proof.Proof.Gen.FinalNormReferenceIdeal.Read
public import proofs.«01_k».proof.Proof.Gen.Pre_open_gates
public import proofs.«01_k».proof.Proof.KernelRegion
public import proofs.«01_k».proof.Proof.Array
public import proofs.«01_k».proof.Proof.Finite
public import proofs.«01_k».proof.Proof.RefRead
public import proofs.«01_k».proof.Proof.InProjValue
public import proofs.«01_k».proof.Proof.InProjKernel
public import proofs.«01_k».proof.Proof.OutProjValue
public import proofs.«01_k».proof.Proof.OutProjKernel
public import proofs.«01_k».proof.Proof.NormModValue
public import proofs.«01_k».proof.Proof.NormModKernel
public import proofs.«01_k».proof.Proof.GateReference
public import proofs.«01_k».proof.Proof.GateValue
public import proofs.«01_k».proof.Proof.GateKernel
public import proofs.«01_k».proof.Proof.FinalNormValue
public import proofs.«01_k».proof.Proof.FinalNormKernel
public import Idealize.ShloMosaic.Lib.Claim
public import Idealize.ShloMosaic.Adequacy
public import Idealize.ShloMosaic.Init

@[expose] public section

noncomputable section

namespace Cert.Proof

open Idealize.ShloMosaic Idealize.SL.Sem Cert.Equation

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The two named constants are the numbers `log₂ e / √128` (the scale at its rounding) and `log₂ e`. -/
theorem preserves : Cert.preserves_Kernel_KernelIdeal :=
  ⟨IdealRules.named_const.statement Cert.KernelIdeal.κ "scale_log2e" .f32 0x3E0293EE#32 (((11863283 / 134217728) * (Real.log 2)⁻¹ : ℝ) : EReal) rfl,
    IdealRules.named_const.statement Cert.KernelIdeal.κ "log2e" .f32 0x3FB8AA3B#32 (((Real.log 2)⁻¹ : ℝ) : EReal) rfl⟩

/-- Both programs end with `result` of the packed array and the biases: the kernel where its scores are real numbers
    (`W_result`), the reference always (`reference_eq`). -/
theorem equation : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hp agree => by
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ?_) (θ_run_and (Cert.KernelIdeal.Gen.run_main_quiescent m ρ) (Cert.KernelIdeal.Gen.frame m ρ))
    refine ⟨?_, h.2.1 c⟩
    exact ((h.1.1 c).2 Cert.KernelIdeal.main_v72 (Pipeline.mem_restRefs_of Cert.KernelIdeal.main_v72 (by decide) (by decide))).trans
      (W_result m c (realScores (hp c).1 (hp c).2))
  · refine (θ_run Cert.ReferenceIdeal.defs _ _).mono (fun r h c => ⟨?_, (h c).2⟩) (Cert.ReferenceIdeal.Value.run m' ρ')
    rw [(h c).1, Cert.ReferenceIdeal.Read.val_main_v116_eq, (agree c).1, (agree c).2]
    exact reference_eq _ _

/-! ## The input projection -/

theorem frame_inProj : Cert.quiescent_InProj (hInProj := Cert.InProj.Gen.facts) := fun m ρ _ => Cert.InProj.Gen.frame m ρ

theorem frame_inProjIdeal : Cert.quiescent_InProjIdeal (hInProjIdeal := Cert.InProjIdeal.Gen.facts) := fun m ρ _ => Cert.InProjIdeal.Gen.frame m ρ

theorem frame_inProjReference : Cert.quiescent_InProjReferenceIdeal (hInProjReferenceIdeal := Cert.InProjReferenceIdeal.Gen.facts) := fun m ρ _ =>
  (θ_run Cert.InProjReferenceIdeal.defs _ _).mono (fun r h => ⟨fun c => (h c).2, sem_eq_zero_of_no_sems (by decide) r.2⟩)
    (Cert.InProjReferenceIdeal.Value.run m ρ)

/-- Both projection programs end with the hidden state times the first layer's weight, from any contents. -/
theorem equation_inProj : Cert.algebraic_InProjIdeal_InProjReferenceIdeal (hInProjIdeal := Cert.InProjIdeal.Gen.facts)
    (hInProjReferenceIdeal := Cert.InProjReferenceIdeal.Gen.facts) := fun m ρ m' ρ' _ agree => by
  refine ⟨fun c => Cert.InProjection.result (m ((c.tc : Thread Cert.InProjIdeal.nD Cert.InProjIdeal.τ).loc Cert.InProjIdeal.main_arg0))
    (m ((c.tc : Thread Cert.InProjIdeal.nD Cert.InProjIdeal.τ).loc Cert.InProjIdeal.main_arg1)), ?_, ?_⟩
  · refine (θ_run Cert.InProjIdeal.defs _ _).mono (fun r h c => ?_) (θ_run_and (Cert.InProjIdeal.Gen.run_main m ρ) (Cert.InProjIdeal.Gen.frame m ρ))
    refine ⟨?_, h.2.1 c⟩
    exact ((h.1.1 c).2 Cert.InProjIdeal.main_v2 (Pipeline.mem_restRefs_of Cert.InProjIdeal.main_v2 (by decide) (by decide))).trans
      (Cert.InProjection.W_result m c)
  · refine (θ_run Cert.InProjReferenceIdeal.defs _ _).mono (fun r h c => ⟨?_, (h c).2⟩) (Cert.InProjReferenceIdeal.Value.run m' ρ')
    rw [(h c).1, Cert.InProjReferenceIdeal.Read.val_main_v4_eq, (agree c).1, (agree c).2]
    exact Cert.InProjection.reference_eq _ _

/-! ## The output projection -/

theorem frame_outProj : Cert.quiescent_OutProj (hOutProj := Cert.OutProj.Gen.facts) := fun m ρ _ => Cert.OutProj.Gen.frame m ρ

theorem frame_outProjIdeal : Cert.quiescent_OutProjIdeal (hOutProjIdeal := Cert.OutProjIdeal.Gen.facts) := fun m ρ _ => Cert.OutProjIdeal.Gen.frame m ρ

theorem frame_outProjReference : Cert.quiescent_OutProjReferenceIdeal (hOutProjReferenceIdeal := Cert.OutProjReferenceIdeal.Gen.facts) := fun m ρ _ =>
  (θ_run Cert.OutProjReferenceIdeal.defs _ _).mono (fun r h => ⟨fun c => (h c).2, sem_eq_zero_of_no_sems (by decide) r.2⟩)
    (Cert.OutProjReferenceIdeal.Value.run m ρ)

/-- Both programs end with the residual plus the gated product with the first layer's weight, from any contents. -/
theorem equation_outProj : Cert.algebraic_OutProjIdeal_OutProjReferenceIdeal (hOutProjIdeal := Cert.OutProjIdeal.Gen.facts)
    (hOutProjReferenceIdeal := Cert.OutProjReferenceIdeal.Gen.facts) := fun m ρ m' ρ' _ agree => by
  refine ⟨fun c => Cert.OutProjection.result (Cert.OutProjection.input m c) (Cert.OutProjection.weight m c) (Cert.OutProjection.residual m c)
    (Cert.OutProjection.modulation m c), ?_, ?_⟩
  · refine (θ_run Cert.OutProjIdeal.defs _ _).mono (fun r h c => ?_) (θ_run_and (Cert.OutProjIdeal.Gen.run_main m ρ) (Cert.OutProjIdeal.Gen.frame m ρ))
    refine ⟨?_, h.2.1 c⟩
    exact ((h.1.1 c).2 Cert.OutProjIdeal.main_v4 (Pipeline.mem_restRefs_of Cert.OutProjIdeal.main_v4 (by decide) (by decide))).trans
      (Cert.OutProjection.W_result m c)
  · refine (θ_run Cert.OutProjReferenceIdeal.defs _ _).mono (fun r h c => ⟨?_, (h c).2⟩) (Cert.OutProjReferenceIdeal.Value.run m' ρ')
    rw [(h c).1, Cert.OutProjReferenceIdeal.Read.val_main_v10_eq, (agree c).1, (agree c).2.1, (agree c).2.2.1, (agree c).2.2.2]
    exact Cert.OutProjection.reference_eq _ _ _ _

/-! ## The modulated norm -/

theorem frame_normMod : Cert.quiescent_NormMod (hNormMod := Cert.NormMod.Gen.facts) := fun m ρ _ => Cert.NormMod.Gen.frame m ρ

theorem frame_normModIdeal : Cert.quiescent_NormModIdeal (hNormModIdeal := Cert.NormModIdeal.Gen.facts) := fun m ρ _ => Cert.NormModIdeal.Gen.frame m ρ

theorem frame_normModReference : Cert.quiescent_NormModReferenceIdeal (hNormModReferenceIdeal := Cert.NormModReferenceIdeal.Gen.facts) := fun m ρ _ =>
  (θ_run Cert.NormModReferenceIdeal.defs _ _).mono (fun r h => ⟨fun c => (h c).2, sem_eq_zero_of_no_sems (by decide) r.2⟩)
    (Cert.NormModReferenceIdeal.Value.run m ρ)

/-- Both programs end with the modulated RMS norm, from any contents. -/
theorem equation_normMod : Cert.algebraic_NormModIdeal_NormModReferenceIdeal (hNormModIdeal := Cert.NormModIdeal.Gen.facts)
    (hNormModReferenceIdeal := Cert.NormModReferenceIdeal.Gen.facts) := fun m ρ m' ρ' _ agree => by
  refine ⟨fun c => Cert.NormModulate.result (Cert.NormModulate.hidden m c) (Cert.NormModulate.weight m c) (Cert.NormModulate.modulation m c), ?_, ?_⟩
  · refine (θ_run Cert.NormModIdeal.defs _ _).mono (fun r h c => ?_) (θ_run_and (Cert.NormModIdeal.Gen.run_main_quiescent m ρ) (Cert.NormModIdeal.Gen.frame m ρ))
    refine ⟨?_, h.2.1 c⟩
    exact ((h.1.1 c).2 Cert.NormModIdeal.main_v6 (Pipeline.mem_restRefs_of Cert.NormModIdeal.main_v6 (by decide) (by decide))).trans
      (Cert.NormModulate.W_result m c)
  · refine (θ_run Cert.NormModReferenceIdeal.defs _ _).mono (fun r h c => ⟨?_, (h c).2⟩) (Cert.NormModReferenceIdeal.Value.run m' ρ')
    rw [(h c).1, Cert.NormModReferenceIdeal.Read.val_main_v26_eq, (agree c).1, (agree c).2.1, (agree c).2.2]
    exact Cert.NormModulate.reference_eq _ _ _

/-! ## The gate -/

theorem frame_gate : Cert.quiescent_Gate (hGate := Cert.Gate.Gen.facts) := fun m ρ _ => Cert.Gate.Gen.frame m ρ

theorem frame_gateIdeal : Cert.quiescent_GateIdeal (hGateIdeal := Cert.GateIdeal.Gen.facts) := fun m ρ _ => Cert.GateIdeal.Gen.frame m ρ

theorem frame_gateReference : Cert.quiescent_GateReferenceIdeal (hGateReferenceIdeal := Cert.GateReferenceIdeal.Gen.facts) := fun m ρ _ =>
  (θ_run Cert.GateReferenceIdeal.defs _ _).mono (fun r h => ⟨fun c => (h c).2, sem_eq_zero_of_no_sems (by decide) r.2⟩)
    (Cert.GateReferenceIdeal.Value.run m ρ)

/-- Both programs end with `result` of the six arguments: the reference with `x` times its logistic, the kernel with the
    hyperbolic tangent's form of it, which is the same above `-∞`. -/
theorem equation_gate : Cert.algebraic_GateIdeal_GateReferenceIdeal_pre_open_gates (hGateIdeal := Cert.GateIdeal.Gen.facts)
    (hGateReferenceIdeal := Cert.GateReferenceIdeal.Gen.facts) (hPre_open_gates := Cert.Pre_open_gates.Gen.facts) := fun m ρ m' ρ' hp agree => by
  refine ⟨fun c => Cert.Gating.result Cert.Gating.silu (Cert.Gating.forward m c) (Cert.Gating.backward m c) (Cert.Gating.packed m c)
    (Cert.Gating.attended m c) (Cert.Gating.recurrenceWeight m c) (Cert.Gating.attentionWeight m c), ?_, ?_⟩
  · refine (θ_run Cert.GateIdeal.defs _ _).mono (fun r h c => ?_) (θ_run_and (Cert.GateIdeal.Gen.run_main_quiescent m ρ) (Cert.GateIdeal.Gen.frame m ρ))
    refine ⟨?_, h.2.1 c⟩
    exact (((h.1.1 c).2 Cert.GateIdeal.main_v11 (Pipeline.mem_restRefs_of Cert.GateIdeal.main_v11 (by decide) (by decide))).trans
      (Cert.Gating.W_result m c)).trans (Cert.Gating.result_tanhSilu (hp c).1 (hp c).2)
  · refine (θ_run Cert.GateReferenceIdeal.defs _ _).mono (fun r h c => ⟨?_, (h c).2⟩) (Cert.GateReferenceIdeal.Value.run m' ρ')
    rw [(h c).1, Cert.GateReferenceIdeal.Read.val_main_v46_eq, (agree c).1, (agree c).2.1, (agree c).2.2.1, (agree c).2.2.2.1,
      (agree c).2.2.2.2.1, (agree c).2.2.2.2.2]
    exact Cert.Gating.reference_eq _ _ _ _ _ _

/-! ## The last norm -/

theorem frame_finalNorm : Cert.quiescent_FinalNorm (hFinalNorm := Cert.FinalNorm.Gen.facts) := fun m ρ _ => Cert.FinalNorm.Gen.frame m ρ

theorem frame_finalNormIdeal : Cert.quiescent_FinalNormIdeal (hFinalNormIdeal := Cert.FinalNormIdeal.Gen.facts) := fun m ρ _ =>
  Cert.FinalNormIdeal.Gen.frame m ρ

theorem frame_finalNormReference : Cert.quiescent_FinalNormReferenceIdeal (hFinalNormReferenceIdeal := Cert.FinalNormReferenceIdeal.Gen.facts) := fun m ρ _ =>
  (θ_run Cert.FinalNormReferenceIdeal.defs _ _).mono (fun r h => ⟨fun c => (h c).2, sem_eq_zero_of_no_sems (by decide) r.2⟩)
    (Cert.FinalNormReferenceIdeal.Value.run m ρ)

/-- Both programs end with the RMS norm, from any contents. -/
theorem equation_finalNorm : Cert.algebraic_FinalNormIdeal_FinalNormReferenceIdeal (hFinalNormIdeal := Cert.FinalNormIdeal.Gen.facts)
    (hFinalNormReferenceIdeal := Cert.FinalNormReferenceIdeal.Gen.facts) := fun m ρ m' ρ' _ agree => by
  refine ⟨fun c => Cert.LastNorm.result (Cert.LastNorm.hidden m c) (Cert.LastNorm.weight m c), ?_, ?_⟩
  · refine (θ_run Cert.FinalNormIdeal.defs _ _).mono (fun r h c => ?_) (θ_run_and (Cert.FinalNormIdeal.Gen.run_main_quiescent m ρ) (Cert.FinalNormIdeal.Gen.frame m ρ))
    refine ⟨?_, h.2.1 c⟩
    exact ((h.1.1 c).2 Cert.FinalNormIdeal.main_v6 (Pipeline.mem_restRefs_of Cert.FinalNormIdeal.main_v6 (by decide) (by decide))).trans
      (Cert.LastNorm.W_result m c)
  · refine (θ_run Cert.FinalNormReferenceIdeal.defs _ _).mono (fun r h c => ⟨?_, (h c).2⟩) (Cert.FinalNormReferenceIdeal.Value.run m' ρ')
    rw [(h c).1, Cert.FinalNormReferenceIdeal.Read.val_main_v12_eq, (agree c).1, (agree c).2]
    exact Cert.LastNorm.reference_eq _ _

theorem claim : Cert.Claim := ⟨Cert.Kernel.Gen.facts, Cert.KernelIdeal.Gen.facts, Cert.ReferenceIdeal.Gen.facts, Cert.InProj.Gen.facts,
  Cert.InProjIdeal.Gen.facts, Cert.InProjReferenceIdeal.Gen.facts, Cert.OutProj.Gen.facts, Cert.OutProjIdeal.Gen.facts,
  Cert.OutProjReferenceIdeal.Gen.facts, Cert.NormMod.Gen.facts, Cert.NormModIdeal.Gen.facts, Cert.NormModReferenceIdeal.Gen.facts,
  Cert.Gate.Gen.facts, Cert.GateIdeal.Gen.facts, Cert.GateReferenceIdeal.Gen.facts, Cert.FinalNorm.Gen.facts,
  Cert.FinalNormIdeal.Gen.facts, Cert.FinalNormReferenceIdeal.Gen.facts, Cert.Pre_finite.Gen.facts, Cert.Pre_open_gates.Gen.facts,
  frame_kernel, frame_ideal, fun m ρ _ => frame_ideal m ρ trivial, frame_reference, fun m ρ _ => frame_reference m ρ trivial,
  frame_inProj, frame_inProjIdeal, frame_inProjReference, frame_outProj, frame_outProjIdeal, frame_outProjReference,
  frame_normMod, frame_normModIdeal, frame_normModReference, frame_gate, frame_gateIdeal, fun m ρ _ => frame_gateIdeal m ρ trivial,
  frame_gateReference, fun m ρ _ => frame_gateReference m ρ trivial, frame_finalNorm, frame_finalNormIdeal, frame_finalNormReference,
  preserves, equation, trivial, equation_inProj, trivial, equation_outProj, trivial, equation_normMod, trivial, equation_gate, trivial,
  equation_finalNorm⟩

end Cert.Proof

end
